-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutReferenceIdeal (m : (ℓ : Loc Cert.EvenOutReferenceIdeal.nD Cert.EvenOutReferenceIdeal.τ Cert.EvenOutReferenceIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutReferenceIdeal (m : (ℓ : Loc Cert.OddOutReferenceIdeal.nD Cert.OddOutReferenceIdeal.τ Cert.OddOutReferenceIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInReferenceIdeal (m : (ℓ : Loc Cert.OddInReferenceIdeal.nD Cert.OddInReferenceIdeal.τ Cert.OddInReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5)
      ∧ r.2.mem ((c.tc : Thread Cert.LastReferenceIdeal.nD Cert.LastReferenceIdeal.τ).loc Cert.LastReferenceIdeal.main_arg6) = m ((c.tc : Thread Cert.LastReferenceIdeal.nD Cert.LastReferenceIdeal.τ).loc Cert.LastReferenceIdeal.main_arg6))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5)
      ∧ r.2.mem ((c.tc : Thread Cert.EvenOut.nD Cert.EvenOut.τ).loc Cert.EvenOut.main_arg6) = m ((c.tc : Thread Cert.EvenOut.nD Cert.EvenOut.τ).loc Cert.EvenOut.main_arg6)
      ∧ r.2.mem ((c.tc : Thread Cert.EvenOut.nD Cert.EvenOut.τ).loc Cert.EvenOut.main_arg7) = m ((c.tc : Thread Cert.EvenOut.nD Cert.EvenOut.τ).loc Cert.EvenOut.main_arg7))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
      ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7))
      ∧ r.2.sem = fun _ => 0)

def quiescent_EvenOutReferenceIdeal [hEvenOutReferenceIdeal : Cert.EvenOutReferenceIdeal.Facts] : Prop :=
  ∀ (m : (ℓ : Loc Cert.EvenOutReferenceIdeal.nD Cert.EvenOutReferenceIdeal.τ Cert.EvenOutReferenceIdeal.sig) → Buf (Elt Ideal) ℓ) (g : Dev Cert.EvenOutReferenceIdeal.nD → PrngReg), Pre_EvenOutReferenceIdeal m →
    θ_run (Cert.EvenOutReferenceIdeal.defs (F := Ideal)) (onTc (τ := Cert.EvenOutReferenceIdeal.τ) (Cert.EvenOutReferenceIdeal.main (F := Ideal))) ⟨m, fun _ => 0, g⟩ (fun r => (∀ c : Dev Cert.EvenOutReferenceIdeal.nD,
      r.2.mem ((c.tc : Thread Cert.EvenOutReferenceIdeal.nD Cert.EvenOutReferenceIdeal.τ).loc Cert.EvenOutReferenceIdeal.main_arg0) = m ((c.tc : Thread Cert.EvenOutReferenceIdeal.nD Cert.EvenOutReferenceIdeal.τ).loc Cert.EvenOutReferenceIdeal.main_arg0)
      ∧ r.2.mem ((c.tc : Thread Cert.EvenOutReferenceIdeal.nD Cert.EvenOutReferenceIdeal.τ).loc Cert.EvenOutReferenceIdeal.main_arg1) = m ((c.tc : Thread Cert.EvenOutReferenceIdeal.nD Cert.EvenOutReferenceIdeal.τ).loc Cert.EvenOutReferenceIdeal.main_arg1)
      ∧ r.2.mem ((c.tc : Thread Cert.EvenOutReferenceIdeal.nD Cert.EvenOutReferenceIdeal.τ).loc Cert.EvenOutReferenceIdeal.main_arg2) = m ((c.tc : Thread Cert.EvenOutReferenceIdeal.nD Cert.EvenOutReferenceIdeal.τ).loc Cert.EvenOutReferenceIdeal.main_arg2)
      ∧ r.2.mem ((c.tc : Thread Cert.EvenOutReferenceIdeal.nD Cert.EvenOutReferenceIdeal.τ).loc Cert.EvenOutReferenceIdeal.main_arg3) = m ((c.tc : Thread Cert.EvenOutReferenceIdeal.nD Cert.EvenOutReferenceIdeal.τ).loc Cert.EvenOutReferenceIdeal.main_arg3)
      ∧ r.2.mem ((c.tc : Thread Cert.EvenOutReferenceIdeal.nD Cert.EvenOutReferenceIdeal.τ).loc Cert.EvenOutReferenceIdeal.main_arg4) = m ((c.tc : Thread Cert.EvenOutReferenceIdeal.nD Cert.EvenOutReferenceIdeal.τ).loc Cert.EvenOutReferenceIdeal.main_arg4)
      ∧ r.2.mem ((c.tc : Thread Cert.EvenOutReferenceIdeal.nD Cert.EvenOutReferenceIdeal.τ).loc Cert.EvenOutReferenceIdeal.main_arg5) = m ((c.tc : Thread Cert.EvenOutReferenceIdeal.nD Cert.EvenOutReferenceIdeal.τ).loc Cert.EvenOutReferenceIdeal.main_arg5)
      ∧ r.2.mem ((c.tc : Thread Cert.EvenOutReferenceIdeal.nD Cert.EvenOutReferenceIdeal.τ).loc Cert.EvenOutReferenceIdeal.main_arg6) = m ((c.tc : Thread Cert.EvenOutReferenceIdeal.nD Cert.EvenOutReferenceIdeal.τ).loc Cert.EvenOutReferenceIdeal.main_arg6)
      ∧ r.2.mem ((c.tc : Thread Cert.EvenOutReferenceIdeal.nD Cert.EvenOutReferenceIdeal.τ).loc Cert.EvenOutReferenceIdeal.main_arg7) = m ((c.tc : Thread Cert.EvenOutReferenceIdeal.nD Cert.EvenOutReferenceIdeal.τ).loc Cert.EvenOutReferenceIdeal.main_arg7))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4)
      ∧ r.2.mem ((c.tc : Thread Cert.OddOut.nD Cert.OddOut.τ).loc Cert.OddOut.main_arg5) = m ((c.tc : Thread Cert.OddOut.nD Cert.OddOut.τ).loc Cert.OddOut.main_arg5)
      ∧ r.2.mem ((c.tc : Thread Cert.OddOut.nD Cert.OddOut.τ).loc Cert.OddOut.main_arg6) = m ((c.tc : Thread Cert.OddOut.nD Cert.OddOut.τ).loc Cert.OddOut.main_arg6))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
      ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6))
      ∧ r.2.sem = fun _ => 0)

def quiescent_OddOutReferenceIdeal [hOddOutReferenceIdeal : Cert.OddOutReferenceIdeal.Facts] : Prop :=
  ∀ (m : (ℓ : Loc Cert.OddOutReferenceIdeal.nD Cert.OddOutReferenceIdeal.τ Cert.OddOutReferenceIdeal.sig) → Buf (Elt Ideal) ℓ) (g : Dev Cert.OddOutReferenceIdeal.nD → PrngReg), Pre_OddOutReferenceIdeal m →
    θ_run (Cert.OddOutReferenceIdeal.defs (F := Ideal)) (onTc (τ := Cert.OddOutReferenceIdeal.τ) (Cert.OddOutReferenceIdeal.main (F := Ideal))) ⟨m, fun _ => 0, g⟩ (fun r => (∀ c : Dev Cert.OddOutReferenceIdeal.nD,
      r.2.mem ((c.tc : Thread Cert.OddOutReferenceIdeal.nD Cert.OddOutReferenceIdeal.τ).loc Cert.OddOutReferenceIdeal.main_arg0) = m ((c.tc : Thread Cert.OddOutReferenceIdeal.nD Cert.OddOutReferenceIdeal.τ).loc Cert.OddOutReferenceIdeal.main_arg0)
      ∧ r.2.mem ((c.tc : Thread Cert.OddOutReferenceIdeal.nD Cert.OddOutReferenceIdeal.τ).loc Cert.OddOutReferenceIdeal.main_arg1) = m ((c.tc : Thread Cert.OddOutReferenceIdeal.nD Cert.OddOutReferenceIdeal.τ).loc Cert.OddOutReferenceIdeal.main_arg1)
      ∧ r.2.mem ((c.tc : Thread Cert.OddOutReferenceIdeal.nD Cert.OddOutReferenceIdeal.τ).loc Cert.OddOutReferenceIdeal.main_arg2) = m ((c.tc : Thread Cert.OddOutReferenceIdeal.nD Cert.OddOutReferenceIdeal.τ).loc Cert.OddOutReferenceIdeal.main_arg2)
      ∧ r.2.mem ((c.tc : Thread Cert.OddOutReferenceIdeal.nD Cert.OddOutReferenceIdeal.τ).loc Cert.OddOutReferenceIdeal.main_arg3) = m ((c.tc : Thread Cert.OddOutReferenceIdeal.nD Cert.OddOutReferenceIdeal.τ).loc Cert.OddOutReferenceIdeal.main_arg3)
      ∧ r.2.mem ((c.tc : Thread Cert.OddOutReferenceIdeal.nD Cert.OddOutReferenceIdeal.τ).loc Cert.OddOutReferenceIdeal.main_arg4) = m ((c.tc : Thread Cert.OddOutReferenceIdeal.nD Cert.OddOutReferenceIdeal.τ).loc Cert.OddOutReferenceIdeal.main_arg4)
      ∧ r.2.mem ((c.tc : Thread Cert.OddOutReferenceIdeal.nD Cert.OddOutReferenceIdeal.τ).loc Cert.OddOutReferenceIdeal.main_arg5) = m ((c.tc : Thread Cert.OddOutReferenceIdeal.nD Cert.OddOutReferenceIdeal.τ).loc Cert.OddOutReferenceIdeal.main_arg5)
      ∧ r.2.mem ((c.tc : Thread Cert.OddOutReferenceIdeal.nD Cert.OddOutReferenceIdeal.τ).loc Cert.OddOutReferenceIdeal.main_arg6) = m ((c.tc : Thread Cert.OddOutReferenceIdeal.nD Cert.OddOutReferenceIdeal.τ).loc Cert.OddOutReferenceIdeal.main_arg6))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3)
      ∧ r.2.mem ((c.tc : Thread Cert.OddIn.nD Cert.OddIn.τ).loc Cert.OddIn.main_arg4) = m ((c.tc : Thread Cert.OddIn.nD Cert.OddIn.τ).loc Cert.OddIn.main_arg4)
      ∧ r.2.mem ((c.tc : Thread Cert.OddIn.nD Cert.OddIn.τ).loc Cert.OddIn.main_arg5) = m ((c.tc : Thread Cert.OddIn.nD Cert.OddIn.τ).loc Cert.OddIn.main_arg5)
      ∧ r.2.mem ((c.tc : Thread Cert.OddIn.nD Cert.OddIn.τ).loc Cert.OddIn.main_arg6) = m ((c.tc : Thread Cert.OddIn.nD Cert.OddIn.τ).loc Cert.OddIn.main_arg6)
      ∧ r.2.mem ((c.tc : Thread Cert.OddIn.nD Cert.OddIn.τ).loc Cert.OddIn.main_arg7) = m ((c.tc : Thread Cert.OddIn.nD Cert.OddIn.τ).loc Cert.OddIn.main_arg7))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
      ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4)
      ∧ r.2.mem ((c.tc : Thread Cert.OddInIdeal.nD Cert.OddInIdeal.τ).loc Cert.OddInIdeal.main_arg5) = m ((c.tc : Thread Cert.OddInIdeal.nD Cert.OddInIdeal.τ).loc Cert.OddInIdeal.main_arg5)
      ∧ r.2.mem ((c.tc : Thread Cert.OddInIdeal.nD Cert.OddInIdeal.τ).loc Cert.OddInIdeal.main_arg6) = m ((c.tc : Thread Cert.OddInIdeal.nD Cert.OddInIdeal.τ).loc Cert.OddInIdeal.main_arg6)
      ∧ r.2.mem ((c.tc : Thread Cert.OddInIdeal.nD Cert.OddInIdeal.τ).loc Cert.OddInIdeal.main_arg7) = m ((c.tc : Thread Cert.OddInIdeal.nD Cert.OddInIdeal.τ).loc Cert.OddInIdeal.main_arg7))
      ∧ r.2.sem = fun _ => 0)

def quiescent_OddInReferenceIdeal [hOddInReferenceIdeal : Cert.OddInReferenceIdeal.Facts] : Prop :=
  ∀ (m : (ℓ : Loc Cert.OddInReferenceIdeal.nD Cert.OddInReferenceIdeal.τ Cert.OddInReferenceIdeal.sig) → Buf (Elt Ideal) ℓ) (g : Dev Cert.OddInReferenceIdeal.nD → PrngReg), Pre_OddInReferenceIdeal m →
    θ_run (Cert.OddInReferenceIdeal.defs (F := Ideal)) (onTc (τ := Cert.OddInReferenceIdeal.τ) (Cert.OddInReferenceIdeal.main (F := Ideal))) ⟨m, fun _ => 0, g⟩ (fun r => (∀ c : Dev Cert.OddInReferenceIdeal.nD,
      r.2.mem ((c.tc : Thread Cert.OddInReferenceIdeal.nD Cert.OddInReferenceIdeal.τ).loc Cert.OddInReferenceIdeal.main_arg0) = m ((c.tc : Thread Cert.OddInReferenceIdeal.nD Cert.OddInReferenceIdeal.τ).loc Cert.OddInReferenceIdeal.main_arg0)
      ∧ r.2.mem ((c.tc : Thread Cert.OddInReferenceIdeal.nD Cert.OddInReferenceIdeal.τ).loc Cert.OddInReferenceIdeal.main_arg1) = m ((c.tc : Thread Cert.OddInReferenceIdeal.nD Cert.OddInReferenceIdeal.τ).loc Cert.OddInReferenceIdeal.main_arg1)
      ∧ r.2.mem ((c.tc : Thread Cert.OddInReferenceIdeal.nD Cert.OddInReferenceIdeal.τ).loc Cert.OddInReferenceIdeal.main_arg2) = m ((c.tc : Thread Cert.OddInReferenceIdeal.nD Cert.OddInReferenceIdeal.τ).loc Cert.OddInReferenceIdeal.main_arg2)
      ∧ r.2.mem ((c.tc : Thread Cert.OddInReferenceIdeal.nD Cert.OddInReferenceIdeal.τ).loc Cert.OddInReferenceIdeal.main_arg3) = m ((c.tc : Thread Cert.OddInReferenceIdeal.nD Cert.OddInReferenceIdeal.τ).loc Cert.OddInReferenceIdeal.main_arg3)
      ∧ r.2.mem ((c.tc : Thread Cert.OddInReferenceIdeal.nD Cert.OddInReferenceIdeal.τ).loc Cert.OddInReferenceIdeal.main_arg4) = m ((c.tc : Thread Cert.OddInReferenceIdeal.nD Cert.OddInReferenceIdeal.τ).loc Cert.OddInReferenceIdeal.main_arg4)
      ∧ r.2.mem ((c.tc : Thread Cert.OddInReferenceIdeal.nD Cert.OddInReferenceIdeal.τ).loc Cert.OddInReferenceIdeal.main_arg5) = m ((c.tc : Thread Cert.OddInReferenceIdeal.nD Cert.OddInReferenceIdeal.τ).loc Cert.OddInReferenceIdeal.main_arg5)
      ∧ r.2.mem ((c.tc : Thread Cert.OddInReferenceIdeal.nD Cert.OddInReferenceIdeal.τ).loc Cert.OddInReferenceIdeal.main_arg6) = m ((c.tc : Thread Cert.OddInReferenceIdeal.nD Cert.OddInReferenceIdeal.τ).loc Cert.OddInReferenceIdeal.main_arg6)
      ∧ r.2.mem ((c.tc : Thread Cert.OddInReferenceIdeal.nD Cert.OddInReferenceIdeal.τ).loc Cert.OddInReferenceIdeal.main_arg7) = m ((c.tc : Thread Cert.OddInReferenceIdeal.nD Cert.OddInReferenceIdeal.τ).loc Cert.OddInReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v116) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)
      ∧ m' ((c.tc : Thread Cert.LastReferenceIdeal.nD Cert.LastReferenceIdeal.τ).loc Cert.LastReferenceIdeal.main_arg5) = m ((c.tc : Thread Cert.LastIdeal.nD Cert.LastIdeal.τ).loc Cert.LastIdeal.main_arg5)
      ∧ m' ((c.tc : Thread Cert.LastReferenceIdeal.nD Cert.LastReferenceIdeal.τ).loc Cert.LastReferenceIdeal.main_arg6) = m ((c.tc : Thread Cert.LastIdeal.nD Cert.LastIdeal.τ).loc Cert.LastIdeal.main_arg6)) →
    ∃ (v0 : (c : Dev Cert.LastIdeal.nD) → Buf (Elt Ideal) ((c.tc : Thread Cert.LastIdeal.nD Cert.LastIdeal.τ).loc Cert.LastIdeal.main_v4)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v4) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v70) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4)
          ∧ r.2.mem ((c.tc : Thread Cert.LastReferenceIdeal.nD Cert.LastReferenceIdeal.τ).loc Cert.LastReferenceIdeal.main_arg5) = m' ((c.tc : Thread Cert.LastReferenceIdeal.nD Cert.LastReferenceIdeal.τ).loc Cert.LastReferenceIdeal.main_arg5)
          ∧ r.2.mem ((c.tc : Thread Cert.LastReferenceIdeal.nD Cert.LastReferenceIdeal.τ).loc Cert.LastReferenceIdeal.main_arg6) = m' ((c.tc : Thread Cert.LastReferenceIdeal.nD Cert.LastReferenceIdeal.τ).loc Cert.LastReferenceIdeal.main_arg6))

def preserves_EvenOut_EvenOutIdeal : Prop :=
  True

def algebraic_EvenOutIdeal_EvenOutReferenceIdeal [hEvenOutIdeal : Cert.EvenOutIdeal.Facts] [hEvenOutReferenceIdeal : Cert.EvenOutReferenceIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutReferenceIdeal.nD Cert.EvenOutReferenceIdeal.τ Cert.EvenOutReferenceIdeal.sig) → Buf (Elt Ideal) ℓ) (g' : Dev Cert.EvenOutReferenceIdeal.nD → PrngReg), Pre_EvenOutIdeal m →
    (∀ c : Dev Cert.EvenOutIdeal.nD,
      m' ((c.tc : Thread Cert.EvenOutReferenceIdeal.nD Cert.EvenOutReferenceIdeal.τ).loc Cert.EvenOutReferenceIdeal.main_arg0) = m ((c.tc : Thread Cert.EvenOutIdeal.nD Cert.EvenOutIdeal.τ).loc Cert.EvenOutIdeal.main_arg0)
      ∧ m' ((c.tc : Thread Cert.EvenOutReferenceIdeal.nD Cert.EvenOutReferenceIdeal.τ).loc Cert.EvenOutReferenceIdeal.main_arg1) = m ((c.tc : Thread Cert.EvenOutIdeal.nD Cert.EvenOutIdeal.τ).loc Cert.EvenOutIdeal.main_arg1)
      ∧ m' ((c.tc : Thread Cert.EvenOutReferenceIdeal.nD Cert.EvenOutReferenceIdeal.τ).loc Cert.EvenOutReferenceIdeal.main_arg2) = m ((c.tc : Thread Cert.EvenOutIdeal.nD Cert.EvenOutIdeal.τ).loc Cert.EvenOutIdeal.main_arg2)
      ∧ m' ((c.tc : Thread Cert.EvenOutReferenceIdeal.nD Cert.EvenOutReferenceIdeal.τ).loc Cert.EvenOutReferenceIdeal.main_arg3) = m ((c.tc : Thread Cert.EvenOutIdeal.nD Cert.EvenOutIdeal.τ).loc Cert.EvenOutIdeal.main_arg3)
      ∧ m' ((c.tc : Thread Cert.EvenOutReferenceIdeal.nD Cert.EvenOutReferenceIdeal.τ).loc Cert.EvenOutReferenceIdeal.main_arg4) = m ((c.tc : Thread Cert.EvenOutIdeal.nD Cert.EvenOutIdeal.τ).loc Cert.EvenOutIdeal.main_arg4)
      ∧ m' ((c.tc : Thread Cert.EvenOutReferenceIdeal.nD Cert.EvenOutReferenceIdeal.τ).loc Cert.EvenOutReferenceIdeal.main_arg5) = m ((c.tc : Thread Cert.EvenOutIdeal.nD Cert.EvenOutIdeal.τ).loc Cert.EvenOutIdeal.main_arg5)
      ∧ m' ((c.tc : Thread Cert.EvenOutReferenceIdeal.nD Cert.EvenOutReferenceIdeal.τ).loc Cert.EvenOutReferenceIdeal.main_arg6) = m ((c.tc : Thread Cert.EvenOutIdeal.nD Cert.EvenOutIdeal.τ).loc Cert.EvenOutIdeal.main_arg6)
      ∧ m' ((c.tc : Thread Cert.EvenOutReferenceIdeal.nD Cert.EvenOutReferenceIdeal.τ).loc Cert.EvenOutReferenceIdeal.main_arg7) = m ((c.tc : Thread Cert.EvenOutIdeal.nD Cert.EvenOutIdeal.τ).loc Cert.EvenOutIdeal.main_arg7)) →
    ∃ (v0 : (c : Dev Cert.EvenOutIdeal.nD) → Buf (Elt Ideal) ((c.tc : Thread Cert.EvenOutIdeal.nD Cert.EvenOutIdeal.τ).loc Cert.EvenOutIdeal.main_v2)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v2) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
          ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
          ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7))
      ∧ θ_run (Cert.EvenOutReferenceIdeal.defs (F := Ideal)) (onTc (τ := Cert.EvenOutReferenceIdeal.τ) (Cert.EvenOutReferenceIdeal.main (F := Ideal))) ⟨m', fun _ => 0, g'⟩ (fun r => ∀ c : Dev Cert.EvenOutReferenceIdeal.nD,
          r.2.mem ((c.tc : Thread Cert.EvenOutReferenceIdeal.nD Cert.EvenOutReferenceIdeal.τ).loc Cert.EvenOutReferenceIdeal.main_v41) = v0 c
          ∧ r.2.mem ((c.tc : Thread Cert.EvenOutReferenceIdeal.nD Cert.EvenOutReferenceIdeal.τ).loc Cert.EvenOutReferenceIdeal.main_arg0) = m' ((c.tc : Thread Cert.EvenOutReferenceIdeal.nD Cert.EvenOutReferenceIdeal.τ).loc Cert.EvenOutReferenceIdeal.main_arg0)
          ∧ r.2.mem ((c.tc : Thread Cert.EvenOutReferenceIdeal.nD Cert.EvenOutReferenceIdeal.τ).loc Cert.EvenOutReferenceIdeal.main_arg1) = m' ((c.tc : Thread Cert.EvenOutReferenceIdeal.nD Cert.EvenOutReferenceIdeal.τ).loc Cert.EvenOutReferenceIdeal.main_arg1)
          ∧ r.2.mem ((c.tc : Thread Cert.EvenOutReferenceIdeal.nD Cert.EvenOutReferenceIdeal.τ).loc Cert.EvenOutReferenceIdeal.main_arg2) = m' ((c.tc : Thread Cert.EvenOutReferenceIdeal.nD Cert.EvenOutReferenceIdeal.τ).loc Cert.EvenOutReferenceIdeal.main_arg2)
          ∧ r.2.mem ((c.tc : Thread Cert.EvenOutReferenceIdeal.nD Cert.EvenOutReferenceIdeal.τ).loc Cert.EvenOutReferenceIdeal.main_arg3) = m' ((c.tc : Thread Cert.EvenOutReferenceIdeal.nD Cert.EvenOutReferenceIdeal.τ).loc Cert.EvenOutReferenceIdeal.main_arg3)
          ∧ r.2.mem ((c.tc : Thread Cert.EvenOutReferenceIdeal.nD Cert.EvenOutReferenceIdeal.τ).loc Cert.EvenOutReferenceIdeal.main_arg4) = m' ((c.tc : Thread Cert.EvenOutReferenceIdeal.nD Cert.EvenOutReferenceIdeal.τ).loc Cert.EvenOutReferenceIdeal.main_arg4)
          ∧ r.2.mem ((c.tc : Thread Cert.EvenOutReferenceIdeal.nD Cert.EvenOutReferenceIdeal.τ).loc Cert.EvenOutReferenceIdeal.main_arg5) = m' ((c.tc : Thread Cert.EvenOutReferenceIdeal.nD Cert.EvenOutReferenceIdeal.τ).loc Cert.EvenOutReferenceIdeal.main_arg5)
          ∧ r.2.mem ((c.tc : Thread Cert.EvenOutReferenceIdeal.nD Cert.EvenOutReferenceIdeal.τ).loc Cert.EvenOutReferenceIdeal.main_arg6) = m' ((c.tc : Thread Cert.EvenOutReferenceIdeal.nD Cert.EvenOutReferenceIdeal.τ).loc Cert.EvenOutReferenceIdeal.main_arg6)
          ∧ r.2.mem ((c.tc : Thread Cert.EvenOutReferenceIdeal.nD Cert.EvenOutReferenceIdeal.τ).loc Cert.EvenOutReferenceIdeal.main_arg7) = m' ((c.tc : Thread Cert.EvenOutReferenceIdeal.nD Cert.EvenOutReferenceIdeal.τ).loc Cert.EvenOutReferenceIdeal.main_arg7))

def preserves_OddOut_OddOutIdeal : Prop :=
  True

def algebraic_OddOutIdeal_OddOutReferenceIdeal [hOddOutIdeal : Cert.OddOutIdeal.Facts] [hOddOutReferenceIdeal : Cert.OddOutReferenceIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutReferenceIdeal.nD Cert.OddOutReferenceIdeal.τ Cert.OddOutReferenceIdeal.sig) → Buf (Elt Ideal) ℓ) (g' : Dev Cert.OddOutReferenceIdeal.nD → PrngReg), Pre_OddOutIdeal m →
    (∀ c : Dev Cert.OddOutIdeal.nD,
      m' ((c.tc : Thread Cert.OddOutReferenceIdeal.nD Cert.OddOutReferenceIdeal.τ).loc Cert.OddOutReferenceIdeal.main_arg0) = m ((c.tc : Thread Cert.OddOutIdeal.nD Cert.OddOutIdeal.τ).loc Cert.OddOutIdeal.main_arg0)
      ∧ m' ((c.tc : Thread Cert.OddOutReferenceIdeal.nD Cert.OddOutReferenceIdeal.τ).loc Cert.OddOutReferenceIdeal.main_arg1) = m ((c.tc : Thread Cert.OddOutIdeal.nD Cert.OddOutIdeal.τ).loc Cert.OddOutIdeal.main_arg1)
      ∧ m' ((c.tc : Thread Cert.OddOutReferenceIdeal.nD Cert.OddOutReferenceIdeal.τ).loc Cert.OddOutReferenceIdeal.main_arg2) = m ((c.tc : Thread Cert.OddOutIdeal.nD Cert.OddOutIdeal.τ).loc Cert.OddOutIdeal.main_arg2)
      ∧ m' ((c.tc : Thread Cert.OddOutReferenceIdeal.nD Cert.OddOutReferenceIdeal.τ).loc Cert.OddOutReferenceIdeal.main_arg3) = m ((c.tc : Thread Cert.OddOutIdeal.nD Cert.OddOutIdeal.τ).loc Cert.OddOutIdeal.main_arg3)
      ∧ m' ((c.tc : Thread Cert.OddOutReferenceIdeal.nD Cert.OddOutReferenceIdeal.τ).loc Cert.OddOutReferenceIdeal.main_arg4) = m ((c.tc : Thread Cert.OddOutIdeal.nD Cert.OddOutIdeal.τ).loc Cert.OddOutIdeal.main_arg4)
      ∧ m' ((c.tc : Thread Cert.OddOutReferenceIdeal.nD Cert.OddOutReferenceIdeal.τ).loc Cert.OddOutReferenceIdeal.main_arg5) = m ((c.tc : Thread Cert.OddOutIdeal.nD Cert.OddOutIdeal.τ).loc Cert.OddOutIdeal.main_arg5)
      ∧ m' ((c.tc : Thread Cert.OddOutReferenceIdeal.nD Cert.OddOutReferenceIdeal.τ).loc Cert.OddOutReferenceIdeal.main_arg6) = m ((c.tc : Thread Cert.OddOutIdeal.nD Cert.OddOutIdeal.τ).loc Cert.OddOutIdeal.main_arg6)) →
    ∃ (v0 : (c : Dev Cert.OddOutIdeal.nD) → Buf (Elt Ideal) ((c.tc : Thread Cert.OddOutIdeal.nD Cert.OddOutIdeal.τ).loc Cert.OddOutIdeal.main_v1)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v1) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
          ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
          ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6))
      ∧ θ_run (Cert.OddOutReferenceIdeal.defs (F := Ideal)) (onTc (τ := Cert.OddOutReferenceIdeal.τ) (Cert.OddOutReferenceIdeal.main (F := Ideal))) ⟨m', fun _ => 0, g'⟩ (fun r => ∀ c : Dev Cert.OddOutReferenceIdeal.nD,
          r.2.mem ((c.tc : Thread Cert.OddOutReferenceIdeal.nD Cert.OddOutReferenceIdeal.τ).loc Cert.OddOutReferenceIdeal.main_v34) = v0 c
          ∧ r.2.mem ((c.tc : Thread Cert.OddOutReferenceIdeal.nD Cert.OddOutReferenceIdeal.τ).loc Cert.OddOutReferenceIdeal.main_arg0) = m' ((c.tc : Thread Cert.OddOutReferenceIdeal.nD Cert.OddOutReferenceIdeal.τ).loc Cert.OddOutReferenceIdeal.main_arg0)
          ∧ r.2.mem ((c.tc : Thread Cert.OddOutReferenceIdeal.nD Cert.OddOutReferenceIdeal.τ).loc Cert.OddOutReferenceIdeal.main_arg1) = m' ((c.tc : Thread Cert.OddOutReferenceIdeal.nD Cert.OddOutReferenceIdeal.τ).loc Cert.OddOutReferenceIdeal.main_arg1)
          ∧ r.2.mem ((c.tc : Thread Cert.OddOutReferenceIdeal.nD Cert.OddOutReferenceIdeal.τ).loc Cert.OddOutReferenceIdeal.main_arg2) = m' ((c.tc : Thread Cert.OddOutReferenceIdeal.nD Cert.OddOutReferenceIdeal.τ).loc Cert.OddOutReferenceIdeal.main_arg2)
          ∧ r.2.mem ((c.tc : Thread Cert.OddOutReferenceIdeal.nD Cert.OddOutReferenceIdeal.τ).loc Cert.OddOutReferenceIdeal.main_arg3) = m' ((c.tc : Thread Cert.OddOutReferenceIdeal.nD Cert.OddOutReferenceIdeal.τ).loc Cert.OddOutReferenceIdeal.main_arg3)
          ∧ r.2.mem ((c.tc : Thread Cert.OddOutReferenceIdeal.nD Cert.OddOutReferenceIdeal.τ).loc Cert.OddOutReferenceIdeal.main_arg4) = m' ((c.tc : Thread Cert.OddOutReferenceIdeal.nD Cert.OddOutReferenceIdeal.τ).loc Cert.OddOutReferenceIdeal.main_arg4)
          ∧ r.2.mem ((c.tc : Thread Cert.OddOutReferenceIdeal.nD Cert.OddOutReferenceIdeal.τ).loc Cert.OddOutReferenceIdeal.main_arg5) = m' ((c.tc : Thread Cert.OddOutReferenceIdeal.nD Cert.OddOutReferenceIdeal.τ).loc Cert.OddOutReferenceIdeal.main_arg5)
          ∧ r.2.mem ((c.tc : Thread Cert.OddOutReferenceIdeal.nD Cert.OddOutReferenceIdeal.τ).loc Cert.OddOutReferenceIdeal.main_arg6) = m' ((c.tc : Thread Cert.OddOutReferenceIdeal.nD Cert.OddOutReferenceIdeal.τ).loc Cert.OddOutReferenceIdeal.main_arg6))

def preserves_OddIn_OddInIdeal : Prop :=
  True

def algebraic_OddInIdeal_OddInReferenceIdeal [hOddInIdeal : Cert.OddInIdeal.Facts] [hOddInReferenceIdeal : Cert.OddInReferenceIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInReferenceIdeal.nD Cert.OddInReferenceIdeal.τ Cert.OddInReferenceIdeal.sig) → Buf (Elt Ideal) ℓ) (g' : Dev Cert.OddInReferenceIdeal.nD → PrngReg), Pre_OddInIdeal m →
    (∀ c : Dev Cert.OddInIdeal.nD,
      m' ((c.tc : Thread Cert.OddInReferenceIdeal.nD Cert.OddInReferenceIdeal.τ).loc Cert.OddInReferenceIdeal.main_arg0) = m ((c.tc : Thread Cert.OddInIdeal.nD Cert.OddInIdeal.τ).loc Cert.OddInIdeal.main_arg0)
      ∧ m' ((c.tc : Thread Cert.OddInReferenceIdeal.nD Cert.OddInReferenceIdeal.τ).loc Cert.OddInReferenceIdeal.main_arg1) = m ((c.tc : Thread Cert.OddInIdeal.nD Cert.OddInIdeal.τ).loc Cert.OddInIdeal.main_arg1)
      ∧ m' ((c.tc : Thread Cert.OddInReferenceIdeal.nD Cert.OddInReferenceIdeal.τ).loc Cert.OddInReferenceIdeal.main_arg2) = m ((c.tc : Thread Cert.OddInIdeal.nD Cert.OddInIdeal.τ).loc Cert.OddInIdeal.main_arg2)
      ∧ m' ((c.tc : Thread Cert.OddInReferenceIdeal.nD Cert.OddInReferenceIdeal.τ).loc Cert.OddInReferenceIdeal.main_arg3) = m ((c.tc : Thread Cert.OddInIdeal.nD Cert.OddInIdeal.τ).loc Cert.OddInIdeal.main_arg3)
      ∧ m' ((c.tc : Thread Cert.OddInReferenceIdeal.nD Cert.OddInReferenceIdeal.τ).loc Cert.OddInReferenceIdeal.main_arg4) = m ((c.tc : Thread Cert.OddInIdeal.nD Cert.OddInIdeal.τ).loc Cert.OddInIdeal.main_arg4)
      ∧ m' ((c.tc : Thread Cert.OddInReferenceIdeal.nD Cert.OddInReferenceIdeal.τ).loc Cert.OddInReferenceIdeal.main_arg5) = m ((c.tc : Thread Cert.OddInIdeal.nD Cert.OddInIdeal.τ).loc Cert.OddInIdeal.main_arg5)
      ∧ m' ((c.tc : Thread Cert.OddInReferenceIdeal.nD Cert.OddInReferenceIdeal.τ).loc Cert.OddInReferenceIdeal.main_arg6) = m ((c.tc : Thread Cert.OddInIdeal.nD Cert.OddInIdeal.τ).loc Cert.OddInIdeal.main_arg6)
      ∧ m' ((c.tc : Thread Cert.OddInReferenceIdeal.nD Cert.OddInReferenceIdeal.τ).loc Cert.OddInReferenceIdeal.main_arg7) = m ((c.tc : Thread Cert.OddInIdeal.nD Cert.OddInIdeal.τ).loc Cert.OddInIdeal.main_arg7)) →
    ∃ (v0 : (c : Dev Cert.OddInIdeal.nD) → Buf (Elt Ideal) ((c.tc : Thread Cert.OddInIdeal.nD Cert.OddInIdeal.τ).loc Cert.OddInIdeal.main_v33_0)) (v1 : (c : Dev Cert.OddInIdeal.nD) → Buf (Elt Ideal) ((c.tc : Thread Cert.OddInIdeal.nD Cert.OddInIdeal.τ).loc Cert.OddInIdeal.main_v33_1)) (v2 : (c : Dev Cert.OddInIdeal.nD) → Buf (Elt Ideal) ((c.tc : Thread Cert.OddInIdeal.nD Cert.OddInIdeal.τ).loc Cert.OddInIdeal.main_v33_2)) (v3 : (c : Dev Cert.OddInIdeal.nD) → Buf (Elt Ideal) ((c.tc : Thread Cert.OddInIdeal.nD Cert.OddInIdeal.τ).loc Cert.OddInIdeal.main_v33_3)) (v4 : (c : Dev Cert.OddInIdeal.nD) → Buf (Elt Ideal) ((c.tc : Thread Cert.OddInIdeal.nD Cert.OddInIdeal.τ).loc Cert.OddInIdeal.main_v33_4)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v33_0) = v0 c
          ∧ r.2.mem ((c.tc : Thread Cert.OddInIdeal.nD Cert.OddInIdeal.τ).loc Cert.OddInIdeal.main_v33_1) = v1 c
          ∧ r.2.mem ((c.tc : Thread Cert.OddInIdeal.nD Cert.OddInIdeal.τ).loc Cert.OddInIdeal.main_v33_2) = v2 c
          ∧ r.2.mem ((c.tc : Thread Cert.OddInIdeal.nD Cert.OddInIdeal.τ).loc Cert.OddInIdeal.main_v33_3) = v3 c
          ∧ r.2.mem ((c.tc : Thread Cert.OddInIdeal.nD Cert.OddInIdeal.τ).loc Cert.OddInIdeal.main_v33_4) = v4 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
          ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4)
          ∧ r.2.mem ((c.tc : Thread Cert.OddInIdeal.nD Cert.OddInIdeal.τ).loc Cert.OddInIdeal.main_arg5) = m ((c.tc : Thread Cert.OddInIdeal.nD Cert.OddInIdeal.τ).loc Cert.OddInIdeal.main_arg5)
          ∧ r.2.mem ((c.tc : Thread Cert.OddInIdeal.nD Cert.OddInIdeal.τ).loc Cert.OddInIdeal.main_arg6) = m ((c.tc : Thread Cert.OddInIdeal.nD Cert.OddInIdeal.τ).loc Cert.OddInIdeal.main_arg6)
          ∧ r.2.mem ((c.tc : Thread Cert.OddInIdeal.nD Cert.OddInIdeal.τ).loc Cert.OddInIdeal.main_arg7) = m ((c.tc : Thread Cert.OddInIdeal.nD Cert.OddInIdeal.τ).loc Cert.OddInIdeal.main_arg7))
      ∧ θ_run (Cert.OddInReferenceIdeal.defs (F := Ideal)) (onTc (τ := Cert.OddInReferenceIdeal.τ) (Cert.OddInReferenceIdeal.main (F := Ideal))) ⟨m', fun _ => 0, g'⟩ (fun r => ∀ c : Dev Cert.OddInReferenceIdeal.nD,
          r.2.mem ((c.tc : Thread Cert.OddInReferenceIdeal.nD Cert.OddInReferenceIdeal.τ).loc Cert.OddInReferenceIdeal.main_v138) = v0 c
          ∧ r.2.mem ((c.tc : Thread Cert.OddInReferenceIdeal.nD Cert.OddInReferenceIdeal.τ).loc Cert.OddInReferenceIdeal.main_v139) = v1 c
          ∧ r.2.mem ((c.tc : Thread Cert.OddInReferenceIdeal.nD Cert.OddInReferenceIdeal.τ).loc Cert.OddInReferenceIdeal.main_v141) = v2 c
          ∧ r.2.mem ((c.tc : Thread Cert.OddInReferenceIdeal.nD Cert.OddInReferenceIdeal.τ).loc Cert.OddInReferenceIdeal.main_v143) = v3 c
          ∧ r.2.mem ((c.tc : Thread Cert.OddInReferenceIdeal.nD Cert.OddInReferenceIdeal.τ).loc Cert.OddInReferenceIdeal.main_v145) = v4 c
          ∧ r.2.mem ((c.tc : Thread Cert.OddInReferenceIdeal.nD Cert.OddInReferenceIdeal.τ).loc Cert.OddInReferenceIdeal.main_arg0) = m' ((c.tc : Thread Cert.OddInReferenceIdeal.nD Cert.OddInReferenceIdeal.τ).loc Cert.OddInReferenceIdeal.main_arg0)
          ∧ r.2.mem ((c.tc : Thread Cert.OddInReferenceIdeal.nD Cert.OddInReferenceIdeal.τ).loc Cert.OddInReferenceIdeal.main_arg1) = m' ((c.tc : Thread Cert.OddInReferenceIdeal.nD Cert.OddInReferenceIdeal.τ).loc Cert.OddInReferenceIdeal.main_arg1)
          ∧ r.2.mem ((c.tc : Thread Cert.OddInReferenceIdeal.nD Cert.OddInReferenceIdeal.τ).loc Cert.OddInReferenceIdeal.main_arg2) = m' ((c.tc : Thread Cert.OddInReferenceIdeal.nD Cert.OddInReferenceIdeal.τ).loc Cert.OddInReferenceIdeal.main_arg2)
          ∧ r.2.mem ((c.tc : Thread Cert.OddInReferenceIdeal.nD Cert.OddInReferenceIdeal.τ).loc Cert.OddInReferenceIdeal.main_arg3) = m' ((c.tc : Thread Cert.OddInReferenceIdeal.nD Cert.OddInReferenceIdeal.τ).loc Cert.OddInReferenceIdeal.main_arg3)
          ∧ r.2.mem ((c.tc : Thread Cert.OddInReferenceIdeal.nD Cert.OddInReferenceIdeal.τ).loc Cert.OddInReferenceIdeal.main_arg4) = m' ((c.tc : Thread Cert.OddInReferenceIdeal.nD Cert.OddInReferenceIdeal.τ).loc Cert.OddInReferenceIdeal.main_arg4)
          ∧ r.2.mem ((c.tc : Thread Cert.OddInReferenceIdeal.nD Cert.OddInReferenceIdeal.τ).loc Cert.OddInReferenceIdeal.main_arg5) = m' ((c.tc : Thread Cert.OddInReferenceIdeal.nD Cert.OddInReferenceIdeal.τ).loc Cert.OddInReferenceIdeal.main_arg5)
          ∧ r.2.mem ((c.tc : Thread Cert.OddInReferenceIdeal.nD Cert.OddInReferenceIdeal.τ).loc Cert.OddInReferenceIdeal.main_arg6) = m' ((c.tc : Thread Cert.OddInReferenceIdeal.nD Cert.OddInReferenceIdeal.τ).loc Cert.OddInReferenceIdeal.main_arg6)
          ∧ r.2.mem ((c.tc : Thread Cert.OddInReferenceIdeal.nD Cert.OddInReferenceIdeal.τ).loc Cert.OddInReferenceIdeal.main_arg7) = m' ((c.tc : Thread Cert.OddInReferenceIdeal.nD Cert.OddInReferenceIdeal.τ).loc Cert.OddInReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hLast : Cert.Last.Facts) (hLastIdeal : Cert.LastIdeal.Facts) (hLastReferenceIdeal : Cert.LastReferenceIdeal.Facts) (hEvenOut : Cert.EvenOut.Facts) (hEvenOutIdeal : Cert.EvenOutIdeal.Facts) (hEvenOutReferenceIdeal : Cert.EvenOutReferenceIdeal.Facts) (hOddOut : Cert.OddOut.Facts) (hOddOutIdeal : Cert.OddOutIdeal.Facts) (hOddOutReferenceIdeal : Cert.OddOutReferenceIdeal.Facts) (hOddIn : Cert.OddIn.Facts) (hOddInIdeal : Cert.OddInIdeal.Facts) (hOddInReferenceIdeal : Cert.OddInReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Last (hLast := hLast)
    ∧ quiescent_LastIdeal (hLastIdeal := hLastIdeal)
    ∧ quiescent_LastReferenceIdeal (hLastReferenceIdeal := hLastReferenceIdeal)
    ∧ quiescent_EvenOut (hEvenOut := hEvenOut)
    ∧ quiescent_EvenOutIdeal (hEvenOutIdeal := hEvenOutIdeal)
    ∧ quiescent_EvenOutReferenceIdeal (hEvenOutReferenceIdeal := hEvenOutReferenceIdeal)
    ∧ quiescent_OddOut (hOddOut := hOddOut)
    ∧ quiescent_OddOutIdeal (hOddOutIdeal := hOddOutIdeal)
    ∧ quiescent_OddOutReferenceIdeal (hOddOutReferenceIdeal := hOddOutReferenceIdeal)
    ∧ quiescent_OddIn (hOddIn := hOddIn)
    ∧ quiescent_OddInIdeal (hOddInIdeal := hOddInIdeal)
    ∧ quiescent_OddInReferenceIdeal (hOddInReferenceIdeal := hOddInReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Last_LastIdeal
    ∧ algebraic_LastIdeal_LastReferenceIdeal (hLastIdeal := hLastIdeal) (hLastReferenceIdeal := hLastReferenceIdeal)
    ∧ preserves_EvenOut_EvenOutIdeal
    ∧ algebraic_EvenOutIdeal_EvenOutReferenceIdeal (hEvenOutIdeal := hEvenOutIdeal) (hEvenOutReferenceIdeal := hEvenOutReferenceIdeal)
    ∧ preserves_OddOut_OddOutIdeal
    ∧ algebraic_OddOutIdeal_OddOutReferenceIdeal (hOddOutIdeal := hOddOutIdeal) (hOddOutReferenceIdeal := hOddOutReferenceIdeal)
    ∧ preserves_OddIn_OddInIdeal
    ∧ algebraic_OddInIdeal_OddInReferenceIdeal (hOddInIdeal := hOddInIdeal) (hOddInReferenceIdeal := hOddInReferenceIdeal)
-- ==== Pre_finite.lean ====
abbrev S8x4352x512 : Shape := ⟨3, ![8, 4352, 512]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S8x4352x512 : S_.BroadcastsInDim S8x4352x512 (![] : Fin 0 → Fin S8x4352x512.rank)
  bcast_S_S4x64 : S_.BroadcastsInDim S4x64 (![] : Fin 0 → Fin S4x64.rank)

variable [Facts]

def fn {F : FTy → Type} [FloatOps F] (main_arg0 : FVec F S8x4352x512 .f32) (main_arg1 : FVec F S8x4352x512 .bf16) (main_arg2 : FVec F S8x4352x512 .bf16) (main_arg3 : FVec F S4x64 .f32) (main_arg4 : FVec F S128 .f32) : IVec S8x4352x512 1 × IVec S4x64 1 :=
  let main_v0 : FVec F S8x4352x512 .f32 := (extf .f32 · bitsLt_bf16_f32) main_arg2
  let main_v1 : FVec F S8x4352x512 .f32 := Host.absf main_v0
  let main_cst : FVec F S_ .f32 := constant S_ .f32 0x7F800000#32
  let main_v2 : FVec F S8x4352x512 .f32 := broadcastInDim S8x4352x512 ![] bcast_S_S8x4352x512 main_cst
  let main_v3 : IVec S8x4352x512 1 := cmpf .olt main_v1 main_v2
  let main_v4 : FVec F S4x64 .f32 := Host.absf main_arg3
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  (main_v3, main_v6)
-- ==== Kernel.lean ====
abbrev S8x4352x512 : Shape := ⟨3, ![8, 4352, 512]⟩
abbrev S4x64 : Shape := ⟨2, ![4, 64]⟩
abbrev S128 : Shape := ⟨1, ![128]⟩
abbrev S_ : Shape := ⟨0, ![]⟩
abbrev S128x1 : Shape := ⟨2, ![128, 1]⟩
abbrev S1x256x128 : Shape := ⟨3, ![1, 256, 128]⟩
abbrev S1x4352x128 : Shape := ⟨3, ![1, 4352, 128]⟩
abbrev S144x4352 : Shape := ⟨2, ![144, 4352]⟩
abbrev S4352x512 : Shape := ⟨2, ![4352, 512]⟩
abbrev S8x512 : Shape := ⟨2, ![8, 512]⟩
abbrev S4352x128 : Shape := ⟨2, ![4352, 128]⟩
abbrev S128x4352 : Shape := ⟨2, ![128, 4352]⟩
abbrev S16x4352 : Shape := ⟨2, ![16, 4352]⟩
abbrev S1x64 : Shape := ⟨2, ![1, 64]⟩
abbrev S1 : Shape := ⟨1, ![1]⟩
abbrev S1x1 : Shape := ⟨2, ![1, 1]⟩
abbrev S512 : Shape := ⟨1, ![512]⟩
abbrev S1x512 : Shape := ⟨2, ![1, 512]⟩
abbrev S256x128 : Shape := ⟨2, ![256, 128]⟩
abbrev S512x128 : Shape := ⟨2, ![512, 128]⟩
abbrev S256x512 : Shape := ⟨2, ![256, 512]⟩
abbrev S144x256 : Shape := ⟨2, ![144, 256]⟩
abbrev S144x512 : Shape := ⟨2, ![144, 512]⟩
abbrev S32x8x512 : Shape := ⟨3, ![32, 8, 512]⟩
abbrev S128x512 : Shape := ⟨2, ![128, 512]⟩
abbrev S128x256 : Shape := ⟨2, ![128, 256]⟩
abbrev S256 : Shape := ⟨1, ![256]⟩
abbrev S1x256 : Shape := ⟨2, ![1, 256]⟩

abbrev nBuf : Space → Nat
  | .hbm => 14
  | .vmem => 15
  | .smem => 0
  | _ => 0

abbrev bufTy : (tb : Table) → Fin (tcTables nBuf tb) → BufTy
  | .hbm, ⟨0, _⟩ => ⟨S8x4352x512, .f32⟩
  | .hbm, ⟨1, _⟩ => ⟨S8x4352x512, .bf16⟩
  | .hbm, ⟨2, _⟩ => ⟨S8x4352x512, .bf16⟩
  | .hbm, ⟨3, _⟩ => ⟨S4x64, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x4352x512, .f32⟩
  | .hbm, ⟨10, _⟩ => ⟨S8x4352x512, .f32⟩
  | .hbm, ⟨11, _⟩ => ⟨S8x4352x512, .bf16⟩
  | .hbm, ⟨12, _⟩ => ⟨S128x1, .f32⟩
  | .hbm, ⟨13, _⟩ => ⟨S8x4352x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S4x64, .f32⟩
  | .local _ .vmem, ⟨7, _⟩ => ⟨S128x1, .f32⟩
  | .local _ .vmem, ⟨8, _⟩ => ⟨S1x256x128, .bf16⟩
  | .local _ .vmem, ⟨9, _⟩ => ⟨S1x256x128, .bf16⟩
  | .local _ .vmem, ⟨10, _⟩ => ⟨S144x4352, .bf16⟩
  | .local _ .vmem, ⟨11, _⟩ => ⟨S4352x512, .f32⟩
  | .local _ .vmem, ⟨12, _⟩ => ⟨S4352x512, .f32⟩
  | .local _ .vmem, ⟨13, _⟩ => ⟨S8x512, .f32⟩
  | .local _ .vmem, ⟨14, _⟩ => ⟨S8x512, .f32⟩
  | _, _ => ⟨S8x4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 18], ![false, false, false]⟩

def k0_cond2 (i : grid0.Coords) : BitVec 1 :=
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg2 : BitVec 32 := BitVec.ofNat 32 (i 2).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg2 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.minsi arg2 c16_i32
  let c0_i32 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4352x512 : Shape := ⟨3, ![8, 4352, 512]⟩
abbrev S4x64 : Shape := ⟨2, ![4, 64]⟩
abbrev S128 : Shape := ⟨1, ![128]⟩
abbrev S8x4352x4x2x64 : Shape := ⟨5, ![8, 4352, 4, 2, 64]⟩
abbrev S8x4352x4x128 : Shape := ⟨4, ![8, 4352, 4, 128]⟩
abbrev S1x64 : Shape := ⟨2, ![1, 64]⟩
abbrev S64 : Shape := ⟨1, ![64]⟩
abbrev S_ : Shape := ⟨0, ![]⟩
abbrev S8x4096x4x2x64 : Shape := ⟨5, ![8, 4096, 4, 2, 64]⟩
abbrev S8x4x2x4096x4352 : Shape := ⟨5, ![8, 4, 2, 4096, 4352]⟩
abbrev S8x4x2x4096 : Shape := ⟨4, ![8, 4, 2, 4096]⟩
abbrev S8x4x2x4096x1 : Shape := ⟨5, ![8, 4, 2, 4096, 1]⟩
abbrev S8x4x1x4096x4352 : Shape := ⟨5, ![8, 4, 1, 4096, 4352]⟩
abbrev S8x4x4096x4352 : Shape := ⟨4, ![8, 4, 4096, 4352]⟩
abbrev S8x4x128x4096 : Shape := ⟨4, ![8, 4, 128, 4096]⟩
abbrev S8x4096x4x128 : Shape := ⟨4, ![8, 4096, 4, 128]⟩
abbrev S8x256x4x2x64 : Shape := ⟨5, ![8, 256, 4, 2, 64]⟩
abbrev S8x256x4x128 : Shape := ⟨4, ![8, 256, 4, 128]⟩
abbrev S8x4x2x256x256 : Shape := ⟨5, ![8, 4, 2, 256, 256]⟩
abbrev S8x4x2x256 : Shape := ⟨4, ![8, 4, 2, 256]⟩
abbrev S8x4x2x256x1 : Shape := ⟨5, ![8, 4, 2, 256, 1]⟩
abbrev S8x4x1x256x256 : Shape := ⟨5, ![8, 4, 1, 256, 256]⟩
abbrev S8x4x256x256 : Shape := ⟨4, ![8, 4, 256, 256]⟩
abbrev S8x4x128x256 : Shape := ⟨4, ![8, 4, 128, 256]⟩
abbrev S8x4352x4 : Shape := ⟨3, ![8, 4352, 4]⟩
abbrev S8x4352x4x1 : Shape := ⟨4, ![8, 4352, 4, 1]⟩
abbrev S1x1x1x128 : Shape := ⟨4, ![1, 1, 1, 128]⟩

abbrev nBuf : Space → Nat
  | .hbm => 109
  | .vmem => 0
  | .smem => 0
  | _ => 0

abbrev bufTy : (tb : Table) → Fin (tcTables nBuf tb) → BufTy
  | .hbm, ⟨0, _⟩ => ⟨S8x4352x512, .f32⟩
  | .hbm, ⟨1, _⟩ => ⟨S8x4352x512, .bf16⟩
  | .hbm, ⟨2, _⟩ => ⟨S8x4352x512, .bf16⟩
  | .hbm, ⟨3, _⟩ => ⟨S4x64, .f32⟩
  | .hbm, ⟨4, _⟩ => ⟨S128, .f32⟩
  | .hbm, ⟨5, _⟩ => ⟨S8x4352x512, .f32⟩
  | .hbm, ⟨6, _⟩ => ⟨S8x4352x512, .f32⟩
  | .hbm, ⟨7, _⟩ => ⟨S8x4352x4x2x64, .f32⟩
  | .hbm, ⟨8, _⟩ => ⟨S8x4352x4x2x64, .f32⟩
  | .hbm, ⟨9, _⟩ => ⟨S8x4352x4x128, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x4096x4x2x64, .f32⟩
  | .hbm, ⟨30, _⟩ => ⟨S8x4x2x4096x4352, .f32⟩
  | .hbm, ⟨31, _⟩ => ⟨S_, .f32⟩
  | .hbm, ⟨32, _⟩ => ⟨S8x4x2x4096x4352, .f32⟩
  | .hbm, ⟨33, _⟩ => ⟨S8x4x2x4096x4352, .f32⟩
  | .hbm, ⟨34, _⟩ => ⟨S_, .f32⟩
  | .hbm, ⟨35, _⟩ => ⟨S8x4x2x4096, .f32⟩
  | .hbm, ⟨36, _⟩ => ⟨S_, .f32⟩
  | .hbm, ⟨37, _⟩ => ⟨S8x4x2x4096, .f32⟩
  | .hbm, ⟨38, _⟩ => ⟨S8x4x2x4096, .f32⟩
  | .hbm, ⟨39, _⟩ => ⟨S8x4x2x4096x1, .f32⟩
  | .hbm, ⟨40, _⟩ => ⟨S8x4x2x4096x4352, .f32⟩
  | .hbm, ⟨41, _⟩ => ⟨S8x4x2x4096x4352, .f32⟩
  | .hbm, ⟨42, _⟩ => ⟨S8x4x2x4096x4352, .f32⟩
  | .hbm, ⟨43, _⟩ => ⟨S_, .f32⟩
  | .hbm, ⟨44, _⟩ => ⟨S8x4x2x4096, .f32⟩
  | .hbm, ⟨45, _⟩ => ⟨S8x4x2x4096x1, .f32⟩
  | .hbm, ⟨46, _⟩ => ⟨S8x4x2x4096x4352, .f32⟩
  | .hbm, ⟨47, _⟩ => ⟨S8x4x2x4096x4352, .f32⟩
  | .hbm, ⟨48, _⟩ => ⟨S8x4x1x4096x4352, .f32⟩
  | .hbm, ⟨49, _⟩ => ⟨S8x4x4096x4352, .f32⟩
  | .hbm, ⟨50, _⟩ => ⟨S8x4x1x4096x4352, .f32⟩
  | .hbm, ⟨51, _⟩ => ⟨S8x4x4096x4352, .f32⟩
  | .hbm, ⟨52, _⟩ => ⟨S8x4x4096x4352, .f32⟩
  | .hbm, ⟨53, _⟩ => ⟨S8x4x4096x4352, .f32⟩
  | .hbm, ⟨54, _⟩ => ⟨S8x4x4096x4352, .f32⟩
  | .hbm, ⟨55, _⟩ => ⟨S8x4x128x4096, .f32⟩
  | .hbm, ⟨56, _⟩ => ⟨S8x4096x4x128, .f32⟩
  | .hbm, ⟨57, _⟩ => ⟨S8x256x4x2x64, .f32⟩
  | .hbm, ⟨58, _⟩ => ⟨S8x256x4x2x64, .f32⟩
  | .hbm, ⟨59, _⟩ => ⟨S8x256x4x128, .f32⟩
  | .hbm, ⟨60, _⟩ => ⟨S8x4x2x256x256, .f32⟩
  | .hbm, ⟨61, _⟩ => ⟨S_, .f32⟩
  | .hbm, ⟨62, _⟩ => ⟨S8x4x2x256x256, .f32⟩
  | .hbm, ⟨63, _⟩ => ⟨S8x4x2x256x256, .f32⟩
  | .hbm, ⟨64, _⟩ => ⟨S_, .f32⟩
  | .hbm, ⟨65, _⟩ => ⟨S8x4x2x256, .f32⟩
  | .hbm, ⟨66, _⟩ => ⟨S_, .f32⟩
  | .hbm, ⟨67, _⟩ => ⟨S8x4x2x256, .f32⟩
  | .hbm, ⟨68, _⟩ => ⟨S8x4x2x256, .f32⟩
  | .hbm, ⟨69, _⟩ => ⟨S8x4x2x256x1, .f32⟩
  | .hbm, ⟨70, _⟩ => ⟨S8x4x2x256x256, .f32⟩
  | .hbm, ⟨71, _⟩ => ⟨S8x4x2x256x256, .f32⟩
  | .hbm, ⟨72, _⟩ => ⟨S8x4x2x256x256, .f32⟩
  | .hbm, ⟨73, _⟩ => ⟨S_, .f32⟩
  | .hbm, ⟨74, _⟩ => ⟨S8x4x2x256, .f32⟩
  | .hbm, ⟨75, _⟩ => ⟨S8x4x2x256x1, .f32⟩
  | .hbm, ⟨76, _⟩ => ⟨S8x4x2x256x256, .f32⟩
  | .hbm, ⟨77, _⟩ => ⟨S8x4x2x256x256, .f32⟩
  | .hbm, ⟨78, _⟩ => ⟨S8x4x1x256x256, .f32⟩
  | .hbm, ⟨79, _⟩ => ⟨S8x4x256x256, .f32⟩
  | .hbm, ⟨80, _⟩ => ⟨S8x4x1x256x256, .f32⟩
  | .hbm, ⟨81, _⟩ => ⟨S8x4x256x256, .f32⟩
  | .hbm, ⟨82, _⟩ => ⟨S8x4x256x256, .f32⟩
  | .hbm, ⟨83, _⟩ => ⟨S8x4x256x256, .f32⟩
  | .hbm, ⟨84, _⟩ => ⟨S8x4x256x256, .f32⟩
  | .hbm, ⟨85, _⟩ => ⟨S8x4x128x256, .f32⟩
  | .hbm, ⟨86, _⟩ => ⟨S8x256x4x128, .f32⟩
  | .hbm, ⟨87, _⟩ => ⟨S8x4352x4x128, .f32⟩
  | .hbm, ⟨88, _⟩ => ⟨S8x4352x4x128, .f32⟩
  | .hbm, ⟨89, _⟩ => ⟨S_, .f32⟩
  | .hbm, ⟨90, _⟩ => ⟨S8x4352x4, .f32⟩
  | .hbm, ⟨91, _⟩ => ⟨S8x4352x4x1, .f32⟩
  | .hbm, ⟨92, _⟩ => ⟨S_, .f32⟩
  | .hbm, ⟨93, _⟩ => ⟨S8x4352x4x1, .f32⟩
  | .hbm, ⟨94, _⟩ => ⟨S8x4352x4x1, .f32⟩
  | .hbm, ⟨95, _⟩ => ⟨S_, .f32⟩
  | .hbm, ⟨96, _⟩ => ⟨S8x4352x4x1, .f32⟩
  | .hbm, ⟨97, _⟩ => ⟨S8x4352x4x1, .f32⟩
  | .hbm, ⟨98, _⟩ => ⟨S8x4352x4x1, .f32⟩
  | .hbm, ⟨99, _⟩ => ⟨S8x4352x4x128, .f32⟩
  | .hbm, ⟨100, _⟩ => ⟨S8x4352x4x128, .f32⟩
  | .hbm, ⟨101, _⟩ => ⟨S1x1x1x128, .f32⟩
  | .hbm, ⟨102, _⟩ => ⟨S8x4352x4x128, .f32⟩
  | .hbm, ⟨103, _⟩ => ⟨S8x4352x4x128, .f32⟩
  | .hbm, ⟨104, _⟩ => ⟨S_, .f32⟩
  | .hbm, ⟨105, _⟩ => ⟨S8x4352x4x128, .f32⟩
  | .hbm, ⟨106, _⟩ => ⟨S8x4352x4x128, .f32⟩
  | .hbm, ⟨107, _⟩ => ⟨S8x4352x512, .f32⟩
  | .hbm, ⟨108, _⟩ => ⟨S8x4352x512, .bf16⟩
  | _, _ => ⟨S8x4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_10 : Ref sig .tc := ⟨.hbm, 89, rfl⟩
abbrev main_v73 : Ref sig .tc := ⟨.hbm, 90, rfl⟩
abbrev main_v74 : Ref sig .tc := ⟨.hbm, 91, rfl⟩
abbrev main_cst_11 : Ref sig .tc := ⟨.hbm, 92, rfl⟩
abbrev main_v75 : Ref sig .tc := ⟨.hbm, 93, rfl⟩
abbrev main_v76 : Ref sig .tc := ⟨.hbm, 94, rfl⟩
abbrev main_cst_12 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_13 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩

abbrev nD : Nat := 1
abbrev τ : Topo := Topo.v7x

variable {F : FTy → Type} [FloatOps F]
-- ==== Ffn.lean ====
abbrev S8x4352x1024 : Shape := ⟨3, ![8, 4352, 1024]⟩
abbrev S2x8x6144 : Shape := ⟨3, ![2, 8, 6144]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S8x128x1024 : Shape := ⟨3, ![8, 128, 1024]⟩
abbrev S8x8x1024 : Shape := ⟨3, ![8, 8, 1024]⟩
abbrev S1x8x6144 : Shape := ⟨3, ![1, 8, 6144]⟩
abbrev S1024x2816 : Shape := ⟨2, ![1024, 2816]⟩
abbrev S8x6144 : Shape := ⟨2, ![8, 6144]⟩
abbrev S8x1024 : Shape := ⟨2, ![8, 1024]⟩
abbrev S128x8x1024 : Shape := ⟨3, ![128, 8, 1024]⟩
abbrev S1x8x1024 : Shape := ⟨3, ![1, 8, 1024]⟩
abbrev S8 : Shape := ⟨1, ![8]⟩
abbrev S8x1 : Shape := ⟨2, ![8, 1]⟩
abbrev S128x8 : Shape := ⟨2, ![128, 8]⟩
abbrev S128x8x1 : Shape := ⟨3, ![128, 8, 1]⟩
abbrev S1x1x1024 : Shape := ⟨3, ![1, 1, 1024]⟩
abbrev S130x8x1024 : Shape := ⟨3, ![130, 8, 1024]⟩
abbrev S1040x1024 : Shape := ⟨2, ![1040, 1024]⟩
abbrev S1024x256 : Shape := ⟨2, ![1024, 256]⟩
abbrev S1040x256 : Shape := ⟨2, ![1040, 256]⟩
abbrev S1x256 : Shape := ⟨2, ![1, 256]⟩
abbrev S1024x1024 : Shape := ⟨2, ![1024, 1024]⟩

abbrev nBuf : Space → Nat
  | .hbm => 10
  | .vmem => 16
  | .smem => 0
  | _ => 0

abbrev bufTy : (tb : Table) → Fin (tcTables nBuf tb) → BufTy
  | .hbm, ⟨0, _⟩ => ⟨S8x4352x1024, .f32⟩
  | .hbm, ⟨1, _⟩ => ⟨S2x8x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S2816x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S8x4352x1024, .f32⟩
  | .local _ .vmem, ⟨0, _⟩ => ⟨S8x128x1024, .f32⟩
  | .local _ .vmem, ⟨1, _⟩ => ⟨S8x128x1024, .f32⟩
  | .local _ .vmem, ⟨2, _⟩ => ⟨S8x8x1024, .f32⟩
  | .local _ .vmem, ⟨3, _⟩ => ⟨S8x8x1024, .f32⟩
  | .local _ .vmem, ⟨4, _⟩ => ⟨S8x8x1024, .f32⟩
  | .local _ .vmem, ⟨5, _⟩ => ⟨S8x8x1024, .f32⟩
  | .local _ .vmem, ⟨6, _⟩ => ⟨S1x8x6144, .f32⟩
  | .local _ .vmem, ⟨7, _⟩ => ⟨S1x8x6144, .f32⟩
  | .local _ .vmem, ⟨8, _⟩ => ⟨S1x1024, .f32⟩
  | .local _ .vmem, ⟨9, _⟩ => ⟨S1024x5632, .bf16⟩
  | .local _ .vmem, ⟨10, _⟩ => ⟨S3x5632, .f32⟩
  | .local _ .vmem, ⟨11, _⟩ => ⟨S2816x1024, .bf16⟩
  | .local _ .vmem, ⟨12, _⟩ => ⟨S1x1024, .f32⟩
  | .local _ .vmem, ⟨13, _⟩ => ⟨S8x128x1024, .f32⟩
  | .local _ .vmem, ⟨14, _⟩ => ⟨S8x128x1024, .f32⟩
  | .local _ .vmem, ⟨15, _⟩ => ⟨S1024x2816, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![34], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c543_i32 : BitVec 32 := 543#32
  let v2 : BitVec 32 := Scalar.minsi v1 c543_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 3 → Nat :=
  let arg0 : BitVec 32 := BitVec.ofNat 32 (i 0).val
  let c2_i32 : BitVec 32 := 2#32
  let v0 : BitVec 1 := Scalar.cmpi .slt arg0 c2_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnReferenceIdeal.lean ====
abbrev S8x4352x1024 : Shape := ⟨3, ![8, 4352, 1024]⟩
abbrev S2x8x6144 : Shape := ⟨3, ![2, 8, 6144]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S8x256x1024 : Shape := ⟨3, ![8, 256, 1024]⟩
abbrev S1x8x6144 : Shape := ⟨3, ![1, 8, 6144]⟩
abbrev S8x6144 : Shape := ⟨2, ![8, 6144]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x1024 : Shape := ⟨2, ![8, 1024]⟩
abbrev S8x1x1024 : Shape := ⟨3, ![8, 1, 1024]⟩
abbrev S8x256x5632 : Shape := ⟨3, ![8, 256, 5632]⟩
abbrev S8x258x5632 : Shape := ⟨3, ![8, 258, 5632]⟩
abbrev S1x5632 : Shape := ⟨2, ![1, 5632]⟩
abbrev S5632 : Shape := ⟨1, ![5632]⟩
abbrev S1x1x5632 : Shape := ⟨3, ![1, 1, 5632]⟩
abbrev S8x256x2816 : Shape := ⟨3, ![8, 256, 2816]⟩
abbrev S8x4096x1024 : Shape := ⟨3, ![8, 4096, 1024]⟩
abbrev S8x4096 : Shape := ⟨2, ![8, 4096]⟩
abbrev S8x4096x1 : Shape := ⟨3, ![8, 4096, 1]⟩
abbrev S8x4096x5632 : Shape := ⟨3, ![8, 4096, 5632]⟩
abbrev S8x4098x5632 : Shape := ⟨3, ![8, 4098, 5632]⟩
abbrev S8x4096x2816 : Shape := ⟨3, ![8, 4096, 2816]⟩

abbrev nBuf : Space → Nat
  | .hbm => 151
  | .vmem => 0
  | .smem => 0
  | _ => 0

abbrev hbmTy0_0 (i : Nat) : BufTy := match i % 128 with
  | 0 => ⟨S8x4352x1024, .f32⟩
  | 1 => ⟨S2x8x6144, .f32⟩
  | 2 => ⟨S1024, .f32⟩
  | 3 => ⟨S1024x5632, .f32⟩
  | 4 => ⟨S3x5632, .f32⟩
  | 5 => ⟨S2816x1024, .f32⟩
  | 6 => ⟨S8x256x1024, .f32⟩
  | 7 => ⟨S1x8x6144, .f32⟩
  | 8 => ⟨S8x6144, .f32⟩
  | 9 => ⟨S8x256x1024, .f32⟩
  | 10 => ⟨S_, .f32⟩
  | 11 => ⟨S8x256, .f32⟩
  | 12 => ⟨S8x256x1, .f32⟩
  | 13 => ⟨S_, .f32⟩
  | 14 => ⟨S8x256x1, .f32⟩
  | 15 => ⟨S8x256x1, .f32⟩
  | 16 => ⟨S_, .f32⟩
  | 17 => ⟨S8x256x1, .f32⟩
  | 18 => ⟨S8x256x1, .f32⟩
  | 19 => ⟨S8x256x1, .f32⟩
  | 20 => ⟨S8x256x1024, .f32⟩
  | 21 => ⟨S8x256x1024, .f32⟩
  | 22 => ⟨S1x1x1024, .f32⟩
  | 23 => ⟨S8x256x1024, .f32⟩
  | 24 => ⟨S8x256x1024, .f32⟩
  | 25 => ⟨S8x1024, .f32⟩
  | 26 => ⟨S8x1x1024, .f32⟩
  | 27 => ⟨S8x1024, .f32⟩
  | 28 => ⟨S8x1x1024, .f32⟩
  | 29 => ⟨S8x1024, .f32⟩
  | 30 => ⟨S8x1x1024, .f32⟩
  | 31 => ⟨S_, .f32⟩
  | 32 => ⟨S8x1x1024, .f32⟩
  | 33 => ⟨S8x1x1024, .f32⟩
  | 34 => ⟨S8x256x1024, .f32⟩
  | 35 => ⟨S8x256x1024, .f32⟩
  | 36 => ⟨S8x256x1024, .f32⟩
  | 37 => ⟨S8x256x1024, .f32⟩
  | 38 => ⟨S8x256x5632, .f32⟩
  | 39 => ⟨S_, .i32⟩
  | 40 => ⟨S_, .f32⟩
  | 41 => ⟨S8x258x5632, .f32⟩
  | 42 => ⟨S8x256x5632, .f32⟩
  | 43 => ⟨S1x5632, .f32⟩
  | 44 => ⟨S5632, .f32⟩
  | 45 => ⟨S1x1x5632, .f32⟩
  | 46 => ⟨S8x256x5632, .f32⟩
  | 47 => ⟨S8x256x5632, .f32⟩
  | 48 => ⟨S8x256x5632, .f32⟩
  | 49 => ⟨S1x5632, .f32⟩
  | 50 => ⟨S5632, .f32⟩
  | 51 => ⟨S1x1x5632, .f32⟩
  | 52 => ⟨S8x256x5632, .f32⟩
  | 53 => ⟨S8x256x5632, .f32⟩
  | 54 => ⟨S8x256x5632, .f32⟩
  | 55 => ⟨S8x256x5632, .f32⟩
  | 56 => ⟨S1x5632, .f32⟩
  | 57 => ⟨S5632, .f32⟩
  | 58 => ⟨S1x1x5632, .f32⟩
  | 59 => ⟨S8x256x5632, .f32⟩
  | 60 => ⟨S8x256x5632, .f32⟩
  | 61 => ⟨S8x256x5632, .f32⟩
  | 62 => ⟨S8x256x2816, .f32⟩
  | 63 => ⟨S8x256x2816, .f32⟩
  | 64 => ⟨S8x256x2816, .f32⟩
  | 65 => ⟨S_, .f32⟩
  | 66 => ⟨S8x256x2816, .f32⟩
  | 67 => ⟨S8x256x2816, .f32⟩
  | 68 => ⟨S_, .f32⟩
  | 69 => ⟨S8x256x2816, .f32⟩
  | 70 => ⟨S8x256x2816, .f32⟩
  | 71 => ⟨S8x256x2816, .f32⟩
  | 72 => ⟨S8x256x2816, .f32⟩
  | 73 => ⟨S8x256x2816, .f32⟩
  | 74 => ⟨S8x256x1024, .f32⟩
  | 75 => ⟨S8x256x1024, .f32⟩
  | 76 => ⟨S8x256x1024, .f32⟩
  | 77 => ⟨S8x256x1024, .f32⟩
  | 78 => ⟨S8x4096x1024, .f32⟩
  | 79 => ⟨S1x8x6144, .f32⟩
  | 80 => ⟨S8x6144, .f32⟩
  | 81 => ⟨S8x4096x1024, .f32⟩
  | 82 => ⟨S_, .f32⟩
  | 83 => ⟨S8x4096, .f32⟩
  | 84 => ⟨S8x4096x1, .f32⟩
  | 85 => ⟨S_, .f32⟩
  | 86 => ⟨S8x4096x1, .f32⟩
  | 87 => ⟨S8x4096x1, .f32⟩
  | 88 => ⟨S_, .f32⟩
  | 89 => ⟨S8x4096x1, .f32⟩
  | 90 => ⟨S8x4096x1, .f32⟩
  | 91 => ⟨S8x4096x1, .f32⟩
  | 92 => ⟨S8x4096x1024, .f32⟩
  | 93 => ⟨S8x4096x1024, .f32⟩
  | 94 => ⟨S1x1x1024, .f32⟩
  | 95 => ⟨S8x4096x1024, .f32⟩
  | 96 => ⟨S8x4096x1024, .f32⟩
  | 97 => ⟨S8x1024, .f32⟩
  | 98 => ⟨S8x1x1024, .f32⟩
  | 99 => ⟨S8x1024, .f32⟩
  | 100 => ⟨S8x1x1024, .f32⟩
  | 101 => ⟨S8x1024, .f32⟩
  | 102 => ⟨S8x1x1024, .f32⟩
  | 103 => ⟨S_, .f32⟩
  | 104 => ⟨S8x1x1024, .f32⟩
  | 105 => ⟨S8x1x1024, .f32⟩
  | 106 => ⟨S8x4096x1024, .f32⟩
  | 107 => ⟨S8x4096x1024, .f32⟩
  | 108 => ⟨S8x4096x1024, .f32⟩
  | 109 => ⟨S8x4096x1024, .f32⟩
  | 110 => ⟨S8x4096x5632, .f32⟩
  | 111 => ⟨S_, .i32⟩
  | 112 => ⟨S_, .f32⟩
  | 113 => ⟨S8x4098x5632, .f32⟩
  | 114 => ⟨S8x4096x5632, .f32⟩
  | 115 => ⟨S1x5632, .f32⟩
  | 116 => ⟨S5632, .f32⟩
  | 117 => ⟨S1x1x5632, .f32⟩
  | 118 => ⟨S8x4096x5632, .f32⟩
  | 119 => ⟨S8x4096x5632, .f32⟩
  | 120 => ⟨S8x4096x5632, .f32⟩
  | 121 => ⟨S1x5632, .f32⟩
  | 122 => ⟨S5632, .f32⟩
  | 123 => ⟨S1x1x5632, .f32⟩
  | 124 => ⟨S8x4096x5632, .f32⟩
  | 125 => ⟨S8x4096x5632, .f32⟩
  | 126 => ⟨S8x4096x5632, .f32⟩
  | 127 => ⟨S8x4096x5632, .f32⟩
  | _ => ⟨S8x4352x1024, .f32⟩

abbrev hbmTy0_1 (i : Nat) : BufTy := match i % 128 with
  | 0 => ⟨S1x5632, .f32⟩
  | 1 => ⟨S5632, .f32⟩
  | 2 => ⟨S1x1x5632, .f32⟩
  | 3 => ⟨S8x4096x5632, .f32⟩
  | 4 => ⟨S8x4096x5632, .f32⟩
  | 5 => ⟨S8x4096x5632, .f32⟩
  | 6 => ⟨S8x4096x2816, .f32⟩
  | 7 => ⟨S8x4096x2816, .f32⟩
  | 8 => ⟨S8x4096x2816, .f32⟩
  | 9 => ⟨S_, .f32⟩
  | 10 => ⟨S8x4096x2816, .f32⟩
  | 11 => ⟨S8x4096x2816, .f32⟩
  | 12 => ⟨S_, .f32⟩
  | 13 => ⟨S8x4096x2816, .f32⟩
  | 14 => ⟨S8x4096x2816, .f32⟩
  | 15 => ⟨S8x4096x2816, .f32⟩
  | 16 => ⟨S8x4096x2816, .f32⟩
  | 17 => ⟨S8x4096x2816, .f32⟩
  | 18 => ⟨S8x4096x1024, .f32⟩
  | 19 => ⟨S8x4096x1024, .f32⟩
  | 20 => ⟨S8x4096x1024, .f32⟩
  | 21 => ⟨S8x4096x1024, .f32⟩
  | 22 => ⟨S8x4352x1024, .f32⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_3 : Ref sig .tc := ⟨.hbm, 82, rfl⟩
abbrev main_v62 : Ref sig .tc := ⟨.hbm, 83, rfl⟩
abbrev main_v63 : Ref sig .tc := ⟨.hbm, 84, rfl⟩
abbrev main_cst_4 : Ref sig .tc := ⟨.hbm, 85, rfl⟩
abbrev main_v64 : Ref sig .tc := ⟨.hbm, 86, rfl⟩
abbrev main_v65 : Ref sig .tc := ⟨.hbm, 87, rfl⟩
abbrev main_cst_5 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_6 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_c_7 : Ref sig .tc := ⟨.hbm, 111, rfl⟩
abbrev main_call2_v0 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_call3_v0 : Ref sig .tc := ⟨.hbm, 135, rfl⟩
abbrev main_call3_v1 : Ref sig .tc := ⟨.hbm, 136, rfl⟩
abbrev main_call3_cst : Ref sig .tc := ⟨.hbm, 137, rfl⟩
abbrev main_call3_v2 : Ref sig .tc := ⟨.hbm, 138, rfl⟩
abbrev main_call3_v3 : Ref sig .tc := ⟨.hbm, 139, rfl⟩
abbrev main_call3_cst_0 : Ref sig .tc := ⟨.hbm, 140, rfl⟩
abbrev main_call3_v4 : Ref sig .tc := ⟨.hbm, 141, rfl⟩
abbrev main_call3_v5 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩

abbrev nD : Nat := 1
abbrev τ : Topo := Topo.v7x

variable {F : FTy → Type} [FloatOps F]
-- ==== Last.lean ====
abbrev S8x4352x1024 : Shape := ⟨3, ![8, 4352, 1024]⟩
abbrev S2x8x6144 : Shape := ⟨3, ![2, 8, 6144]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S8x4096x1024 : Shape := ⟨3, ![8, 4096, 1024]⟩
abbrev S8x128x1024 : Shape := ⟨3, ![8, 128, 1024]⟩
abbrev S8x8x1024 : Shape := ⟨3, ![8, 8, 1024]⟩
abbrev S1x8x6144 : Shape := ⟨3, ![1, 8, 6144]⟩
abbrev S1024x2816 : Shape := ⟨2, ![1024, 2816]⟩
abbrev S8x6144 : Shape := ⟨2, ![8, 6144]⟩
abbrev S8x1024 : Shape := ⟨2, ![8, 1024]⟩
abbrev S128x8x1024 : Shape := ⟨3, ![128, 8, 1024]⟩
abbrev S1x8x1024 : Shape := ⟨3, ![1, 8, 1024]⟩
abbrev S8 : Shape := ⟨1, ![8]⟩
abbrev S8x1 : Shape := ⟨2, ![8, 1]⟩
abbrev S128x8 : Shape := ⟨2, ![128, 8]⟩
abbrev S128x8x1 : Shape := ⟨3, ![128, 8, 1]⟩
abbrev S1x1x1024 : Shape := ⟨3, ![1, 1, 1024]⟩
abbrev S130x8x1024 : Shape := ⟨3, ![130, 8, 1024]⟩
abbrev S1040x1024 : Shape := ⟨2, ![1040, 1024]⟩
abbrev S1024x256 : Shape := ⟨2, ![1024, 256]⟩
abbrev S1040x256 : Shape := ⟨2, ![1040, 256]⟩
abbrev S1x256 : Shape := ⟨2, ![1, 256]⟩
abbrev S1024x1024 : Shape := ⟨2, ![1024, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x4352x1024, .f32⟩
  | .hbm, ⟨1, _⟩ => ⟨S2x8x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S8x4096x1024, .f32⟩
  | .local _ .vmem, ⟨0, _⟩ => ⟨S8x128x1024, .f32⟩
  | .local _ .vmem, ⟨1, _⟩ => ⟨S8x128x1024, .f32⟩
  | .local _ .vmem, ⟨2, _⟩ => ⟨S8x8x1024, .f32⟩
  | .local _ .vmem, ⟨3, _⟩ => ⟨S8x8x1024, .f32⟩
  | .local _ .vmem, ⟨4, _⟩ => ⟨S8x8x1024, .f32⟩
  | .local _ .vmem, ⟨5, _⟩ => ⟨S8x8x1024, .f32⟩
  | .local _ .vmem, ⟨6, _⟩ => ⟨S1x8x6144, .f32⟩
  | .local _ .vmem, ⟨7, _⟩ => ⟨S1x8x6144, .f32⟩
  | .local _ .vmem, ⟨8, _⟩ => ⟨S1x1024, .f32⟩
  | .local _ .vmem, ⟨9, _⟩ => ⟨S1024x5632, .bf16⟩
  | .local _ .vmem, ⟨10, _⟩ => ⟨S3x5632, .f32⟩
  | .local _ .vmem, ⟨11, _⟩ => ⟨S2816x1024, .bf16⟩
  | .local _ .vmem, ⟨12, _⟩ => ⟨S1x1024, .f32⟩
  | .local _ .vmem, ⟨13, _⟩ => ⟨S8x128x1024, .f32⟩
  | .local _ .vmem, ⟨14, _⟩ => ⟨S8x128x1024, .f32⟩
  | .local _ .vmem, ⟨15, _⟩ => ⟨S1024x2816, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c2_i32 : BitVec 32 := 2#32
  let v0 : BitVec 1 := Scalar.cmpi .sge arg0 c2_i32
  let v1 : BitVec 32 := Scalar.extui v0
  let c0_i32 : BitVec 32 := 0#32
  let v2 : BitVec 1 := Scalar.cmpi .ne v1 c0_i32
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c543_i32 : BitVec 32 := 543#32
  let v2 : BitVec 32 := Scalar.minsi v1 c543_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 3 → Nat :=
  let arg0 : BitVec 32 := BitVec.ofNat 32 (i 0).val
  let c2_i32 : BitVec 32 := 2#32
  let v0 : BitVec 1 := Scalar.cmpi .slt arg0 c2_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== LastReferenceIdeal.lean ====
abbrev S8x4352x1024 : Shape := ⟨3, ![8, 4352, 1024]⟩
abbrev S2x8x6144 : Shape := ⟨3, ![2, 8, 6144]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S8x4096x1024 : Shape := ⟨3, ![8, 4096, 1024]⟩
abbrev S1x8x6144 : Shape := ⟨3, ![1, 8, 6144]⟩
abbrev S8x6144 : Shape := ⟨2, ![8, 6144]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1024 : Shape := ⟨2, ![8, 1024]⟩
abbrev S8x1x1024 : Shape := ⟨3, ![8, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S5632 : Shape := ⟨1, ![5632]⟩
abbrev S1x1x5632 : Shape := ⟨3, ![1, 1, 5632]⟩
abbrev S8x4096x2816 : Shape := ⟨3, ![8, 4096, 2816]⟩

abbrev nBuf : Space → Nat
  | .hbm => 95
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S2x8x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S2816x1024, .f32⟩
  | .hbm, ⟨6, _⟩ => ⟨S1024, .f32⟩
  | .hbm, ⟨7, _⟩ => ⟨S8x4096x1024, .f32⟩
  | .hbm, ⟨8, _⟩ => ⟨S1x8x6144, .f32⟩
  | .hbm, ⟨9, _⟩ => ⟨S8x6144, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S8x1024, .f32⟩
  | .hbm, ⟨27, _⟩ => ⟨S8x1x1024, .f32⟩
  | .hbm, ⟨28, _⟩ => ⟨S8x1024, .f32⟩
  | .hbm, ⟨29, _⟩ => ⟨S8x1x1024, .f32⟩
  | .hbm, ⟨30, _⟩ => ⟨S8x1024, .f32⟩
  | .hbm, ⟨31, _⟩ => ⟨S8x1x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x5632, .f32⟩
  | .hbm, ⟨40, _⟩ => ⟨S_, .i32⟩
  | .hbm, ⟨41, _⟩ => ⟨S_, .f32⟩
  | .hbm, ⟨42, _⟩ => ⟨S8x4098x5632, .f32⟩
  | .hbm, ⟨43, _⟩ => ⟨S8x4096x5632, .f32⟩
  | .hbm, ⟨44, _⟩ => ⟨S1x5632, .f32⟩
  | .hbm, ⟨45, _⟩ => ⟨S5632, .f32⟩
  | .hbm, ⟨46, _⟩ => ⟨S1x1x5632, .f32⟩
  | .hbm, ⟨47, _⟩ => ⟨S8x4096x5632, .f32⟩
  | .hbm, ⟨48, _⟩ => ⟨S8x4096x5632, .f32⟩
  | .hbm, ⟨49, _⟩ => ⟨S8x4096x5632, .f32⟩
  | .hbm, ⟨50, _⟩ => ⟨S1x5632, .f32⟩
  | .hbm, ⟨51, _⟩ => ⟨S5632, .f32⟩
  | .hbm, ⟨52, _⟩ => ⟨S1x1x5632, .f32⟩
  | .hbm, ⟨53, _⟩ => ⟨S8x4096x5632, .f32⟩
  | .hbm, ⟨54, _⟩ => ⟨S8x4096x5632, .f32⟩
  | .hbm, ⟨55, _⟩ => ⟨S8x4096x5632, .f32⟩
  | .hbm, ⟨56, _⟩ => ⟨S8x4096x5632, .f32⟩
  | .hbm, ⟨57, _⟩ => ⟨S1x5632, .f32⟩
  | .hbm, ⟨58, _⟩ => ⟨S5632, .f32⟩
  | .hbm, ⟨59, _⟩ => ⟨S1x1x5632, .f32⟩
  | .hbm, ⟨60, _⟩ => ⟨S8x4096x5632, .f32⟩
  | .hbm, ⟨61, _⟩ => ⟨S8x4096x5632, .f32⟩
  | .hbm, ⟨62, _⟩ => ⟨S8x4096x5632, .f32⟩
  | .hbm, ⟨63, _⟩ => ⟨S8x4096x2816, .f32⟩
  | .hbm, ⟨64, _⟩ => ⟨S8x4096x2816, .f32⟩
  | .hbm, ⟨65, _⟩ => ⟨S8x4096x2816, .f32⟩
  | .hbm, ⟨66, _⟩ => ⟨S_, .f32⟩
  | .hbm, ⟨67, _⟩ => ⟨S8x4096x2816, .f32⟩
  | .hbm, ⟨68, _⟩ => ⟨S8x4096x2816, .f32⟩
  | .hbm, ⟨69, _⟩ => ⟨S_, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S8x4096x2816, .f32⟩
  | .hbm, ⟨74, _⟩ => ⟨S8x4096x2816, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S_, .f32⟩
  | .hbm, ⟨81, _⟩ => ⟨S8x4096, .f32⟩
  | .hbm, ⟨82, _⟩ => ⟨S8x4096x1, .f32⟩
  | .hbm, ⟨83, _⟩ => ⟨S_, .f32⟩
  | .hbm, ⟨84, _⟩ => ⟨S8x4096x1, .f32⟩
  | .hbm, ⟨85, _⟩ => ⟨S8x4096x1, .f32⟩
  | .hbm, ⟨86, _⟩ => ⟨S_, .f32⟩
  | .hbm, ⟨87, _⟩ => ⟨S8x4096x1, .f32⟩
  | .hbm, ⟨88, _⟩ => ⟨S8x4096x1, .f32⟩
  | .hbm, ⟨89, _⟩ => ⟨S8x4096x1, .f32⟩
  | .hbm, ⟨90, _⟩ => ⟨S8x4096x1024, .f32⟩
  | .hbm, ⟨91, _⟩ => ⟨S8x4096x1024, .f32⟩
  | .hbm, ⟨92, _⟩ => ⟨S1x1x1024, .f32⟩
  | .hbm, ⟨93, _⟩ => ⟨S8x4096x1024, .f32⟩
  | .hbm, ⟨94, _⟩ => ⟨S8x4096x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.hbm, 40, rfl⟩
abbrev main_call0_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_3 : Ref sig .tc := ⟨.hbm, 80, rfl⟩
abbrev main_v59 : Ref sig .tc := ⟨.hbm, 81, rfl⟩
abbrev main_v60 : Ref sig .tc := ⟨.hbm, 82, rfl⟩
abbrev main_cst_4 : Ref sig .tc := ⟨.hbm, 83, rfl⟩
abbrev main_v61 : Ref sig .tc := ⟨.hbm, 84, rfl⟩
abbrev main_v62 : Ref sig .tc := ⟨.hbm, 85, rfl⟩
abbrev main_cst_5 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]
-- ==== EvenOut.lean ====
abbrev S8x4352x1024 : Shape := ⟨3, ![8, 4352, 1024]⟩
abbrev S16x1x6144 : Shape := ⟨3, ![16, 1, 6144]⟩
abbrev S8x4352x512 : Shape := ⟨3, ![8, 4352, 512]⟩
abbrev S128 : Shape := ⟨1, ![128]⟩
abbrev S1024x1024 : Shape := ⟨2, ![1024, 1024]⟩
abbrev S1x128 : Shape := ⟨2, ![1, 128]⟩
abbrev S1x256x1024 : Shape := ⟨3, ![1, 256, 1024]⟩
abbrev S1x1x6144 : Shape := ⟨3, ![1, 1, 6144]⟩
abbrev S1x256x512 : Shape := ⟨3, ![1, 256, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S512x1024 : Shape := ⟨2, ![512, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x4352x1024, .f32⟩
  | .hbm, ⟨1, _⟩ => ⟨S16x1x6144, .f32⟩
  | .hbm, ⟨2, _⟩ => ⟨S8x4352x512, .bf16⟩
  | .hbm, ⟨3, _⟩ => ⟨S8x4352x512, .bf16⟩
  | .hbm, ⟨4, _⟩ => ⟨S8x4352x512, .bf16⟩
  | .hbm, ⟨5, _⟩ => ⟨S8x4352x512, .bf16⟩
  | .hbm, ⟨6, _⟩ => ⟨S128, .f32⟩
  | .hbm, ⟨7, _⟩ => ⟨S1024x1024, .f32⟩
  | .hbm, ⟨8, _⟩ => ⟨S1x128, .f32⟩
  | .hbm, ⟨9, _⟩ => ⟨S1024x1024, .bf16⟩
  | .hbm, ⟨10, _⟩ => ⟨S8x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x128, .f32⟩
  | .local _ .vmem, ⟨13, _⟩ => ⟨S1024x1024, .bf16⟩
  | .local _ .vmem, ⟨14, _⟩ => ⟨S1x256x1024, .f32⟩
  | .local _ .vmem, ⟨15, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c8_i32 : BitVec 32 := 8#32
  let v1 : BitVec 32 := Scalar.select v0 c8_i32 arg0
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== EvenOutReferenceIdeal.lean ====
abbrev S8x4352x1024 : Shape := ⟨3, ![8, 4352, 1024]⟩
abbrev S16x1x6144 : Shape := ⟨3, ![16, 1, 6144]⟩
abbrev S8x4352x512 : Shape := ⟨3, ![8, 4352, 512]⟩
abbrev S128 : Shape := ⟨1, ![128]⟩
abbrev S1024x1024 : Shape := ⟨2, ![1024, 1024]⟩
abbrev S8x4352x4x128 : Shape := ⟨4, ![8, 4352, 4, 128]⟩
abbrev S_ : Shape := ⟨0, ![]⟩
abbrev S8x4352x4 : Shape := ⟨3, ![8, 4352, 4]⟩
abbrev S8x4352x4x1 : Shape := ⟨4, ![8, 4352, 4, 1]⟩
abbrev S1x1x1x128 : Shape := ⟨4, ![1, 1, 1, 128]⟩
abbrev S1x1x1024 : Shape := ⟨3, ![1, 1, 1024]⟩
abbrev S1024 : Shape := ⟨1, ![1024]⟩
abbrev S8x1x1024 : Shape := ⟨3, ![8, 1, 1024]⟩
abbrev S8x1024 : Shape := ⟨2, ![8, 1024]⟩
abbrev S8x256x1024 : Shape := ⟨3, ![8, 256, 1024]⟩
abbrev S8x4096x1024 : Shape := ⟨3, ![8, 4096, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S16x1x6144, .f32⟩
  | .hbm, ⟨2, _⟩ => ⟨S8x4352x512, .bf16⟩
  | .hbm, ⟨3, _⟩ => ⟨S8x4352x512, .bf16⟩
  | .hbm, ⟨4, _⟩ => ⟨S8x4352x512, .bf16⟩
  | .hbm, ⟨5, _⟩ => ⟨S8x4352x512, .bf16⟩
  | .hbm, ⟨6, _⟩ => ⟨S128, .f32⟩
  | .hbm, ⟨7, _⟩ => ⟨S1024x1024, .f32⟩
  | .hbm, ⟨8, _⟩ => ⟨S8x4352x512, .f32⟩
  | .hbm, ⟨9, _⟩ => ⟨S8x4352x512, .f32⟩
  | .hbm, ⟨10, _⟩ => ⟨S8x4352x512, .f32⟩
  | .hbm, ⟨11, _⟩ => ⟨S8x4352x4x128, .f32⟩
  | .hbm, ⟨12, _⟩ => ⟨S8x4352x4x128, .f32⟩
  | .hbm, ⟨13, _⟩ => ⟨S_, .f32⟩
  | .hbm, ⟨14, _⟩ => ⟨S8x4352x4, .f32⟩
  | .hbm, ⟨15, _⟩ => ⟨S8x4352x4x1, .f32⟩
  | .hbm, ⟨16, _⟩ => ⟨S_, .f32⟩
  | .hbm, ⟨17, _⟩ => ⟨S8x4352x4x1, .f32⟩
  | .hbm, ⟨18, _⟩ => ⟨S8x4352x4x1, .f32⟩
  | .hbm, ⟨19, _⟩ => ⟨S_, .f32⟩
  | .hbm, ⟨20, _⟩ => ⟨S8x4352x4x1, .f32⟩
  | .hbm, ⟨21, _⟩ => ⟨S8x4352x4x1, .f32⟩
  | .hbm, ⟨22, _⟩ => ⟨S8x4352x4x1, .f32⟩
  | .hbm, ⟨23, _⟩ => ⟨S8x4352x4x128, .f32⟩
  | .hbm, ⟨24, _⟩ => ⟨S8x4352x4x128, .f32⟩
  | .hbm, ⟨25, _⟩ => ⟨S1x1x1x128, .f32⟩
  | .hbm, ⟨26, _⟩ => ⟨S8x4352x4x128, .f32⟩
  | .hbm, ⟨27, _⟩ => ⟨S8x4352x4x128, .f32⟩
  | .hbm, ⟨28, _⟩ => ⟨S8x4352x512, .f32⟩
  | .hbm, ⟨29, _⟩ => ⟨S8x4352x4x128, .f32⟩
  | .hbm, ⟨30, _⟩ => ⟨S8x4352x4x128, .f32⟩
  | .hbm, ⟨31, _⟩ => ⟨S8x4352x4x128, .f32⟩
  | .hbm, ⟨32, _⟩ => ⟨S_, .f32⟩
  | .hbm, ⟨33, _⟩ => ⟨S8x4352x4x128, .f32⟩
  | .hbm, ⟨34, _⟩ => ⟨S8x4352x4x128, .f32⟩
  | .hbm, ⟨35, _⟩ => ⟨S_, .f32⟩
  | .hbm, ⟨36, _⟩ => ⟨S8x4352x4x128, .f32⟩
  | .hbm, ⟨37, _⟩ => ⟨S8x4352x4x128, .f32⟩
  | .hbm, ⟨38, _⟩ => ⟨S8x4352x4x128, .f32⟩
  | .hbm, ⟨39, _⟩ => ⟨S8x4352x4x128, .f32⟩
  | .hbm, ⟨40, _⟩ => ⟨S8x4352x512, .f32⟩
  | .hbm, ⟨41, _⟩ => ⟨S8x4352x512, .f32⟩
  | .hbm, ⟨42, _⟩ => ⟨S8x4352x1024, .f32⟩
  | .hbm, ⟨43, _⟩ => ⟨S8x4352x1024, .f32⟩
  | .hbm, ⟨44, _⟩ => ⟨S1x1x1024, .f32⟩
  | .hbm, ⟨45, _⟩ => ⟨S1024, .f32⟩
  | .hbm, ⟨46, _⟩ => ⟨S8x1x1024, .f32⟩
  | .hbm, ⟨47, _⟩ => ⟨S8x1024, .f32⟩
  | .hbm, ⟨48, _⟩ => ⟨S8x256x1024, .f32⟩
  | .hbm, ⟨49, _⟩ => ⟨S8x256x1024, .f32⟩
  | .hbm, ⟨50, _⟩ => ⟨S1x1x1024, .f32⟩
  | .hbm, ⟨51, _⟩ => ⟨S8x256x1024, .f32⟩
  | .hbm, ⟨52, _⟩ => ⟨S8x256x1024, .f32⟩
  | .hbm, ⟨53, _⟩ => ⟨S8x256x1024, .f32⟩
  | .hbm, ⟨54, _⟩ => ⟨S8x4096x1024, .f32⟩
  | .hbm, ⟨55, _⟩ => ⟨S8x1x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S8x4352x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== OddOut.lean ====
abbrev S8x4352x1024 : Shape := ⟨3, ![8, 4352, 1024]⟩
abbrev S16x1x6144 : Shape := ⟨3, ![16, 1, 6144]⟩
abbrev S8x4352x512 : Shape := ⟨3, ![8, 4352, 512]⟩
abbrev S1024x1024 : Shape := ⟨2, ![1024, 1024]⟩
abbrev S1x256x1024 : Shape := ⟨3, ![1, 256, 1024]⟩
abbrev S1x1x6144 : Shape := ⟨3, ![1, 1, 6144]⟩
abbrev S1x256x512 : Shape := ⟨3, ![1, 256, 512]⟩
abbrev S256x512 : Shape := ⟨2, ![256, 512]⟩
abbrev S512x1024 : Shape := ⟨2, ![512, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 9
  | .vmem => 15
  | .smem => 0
  | _ => 0

abbrev bufTy : (tb : Table) → Fin (tcTables nBuf tb) → BufTy
  | .hbm, ⟨0, _⟩ => ⟨S8x4352x1024, .f32⟩
  | .hbm, ⟨1, _⟩ => ⟨S16x1x6144, .f32⟩
  | .hbm, ⟨2, _⟩ => ⟨S8x4352x512, .f32⟩
  | .hbm, ⟨3, _⟩ => ⟨S8x4352x512, .f32⟩
  | .hbm, ⟨4, _⟩ => ⟨S8x4352x512, .f32⟩
  | .hbm, ⟨5, _⟩ => ⟨S8x4352x512, .bf16⟩
  | .hbm, ⟨6, _⟩ => ⟨S1024x1024, .f32⟩
  | .hbm, ⟨7, _⟩ => ⟨S1024x1024, .bf16⟩
  | .hbm, ⟨8, _⟩ => ⟨S8x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .bf16⟩
  | .local _ .vmem, ⟨11, _⟩ => ⟨S1x256x512, .bf16⟩
  | .local _ .vmem, ⟨12, _⟩ => ⟨S1024x1024, .bf16⟩
  | .local _ .vmem, ⟨13, _⟩ => ⟨S1x256x1024, .f32⟩
  | .local _ .vmem, ⟨14, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c8_i32 : BitVec 32 := 8#32
  let v1 : BitVec 32 := Scalar.select v0 c8_i32 arg0
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OddOutReferenceIdeal.lean ====
abbrev S8x4352x1024 : Shape := ⟨3, ![8, 4352, 1024]⟩
abbrev S16x1x6144 : Shape := ⟨3, ![16, 1, 6144]⟩
abbrev S8x4352x512 : Shape := ⟨3, ![8, 4352, 512]⟩
abbrev S1024x1024 : Shape := ⟨2, ![1024, 1024]⟩
abbrev S_ : Shape := ⟨0, ![]⟩
abbrev S1x1x1024 : Shape := ⟨3, ![1, 1, 1024]⟩
abbrev S1024 : Shape := ⟨1, ![1024]⟩
abbrev S8x1x1024 : Shape := ⟨3, ![8, 1, 1024]⟩
abbrev S8x1024 : Shape := ⟨2, ![8, 1024]⟩
abbrev S8x256x1024 : Shape := ⟨3, ![8, 256, 1024]⟩
abbrev S8x4096x1024 : Shape := ⟨3, ![8, 4096, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S16x1x6144, .f32⟩
  | .hbm, ⟨2, _⟩ => ⟨S8x4352x512, .f32⟩
  | .hbm, ⟨3, _⟩ => ⟨S8x4352x512, .f32⟩
  | .hbm, ⟨4, _⟩ => ⟨S8x4352x512, .f32⟩
  | .hbm, ⟨5, _⟩ => ⟨S8x4352x512, .bf16⟩
  | .hbm, ⟨6, _⟩ => ⟨S1024x1024, .f32⟩
  | .hbm, ⟨7, _⟩ => ⟨S8x4352x512, .f32⟩
  | .hbm, ⟨8, _⟩ => ⟨S8x4352x512, .f32⟩
  | .hbm, ⟨9, _⟩ => ⟨S8x4352x512, .f32⟩
  | .hbm, ⟨10, _⟩ => ⟨S_, .f32⟩
  | .hbm, ⟨11, _⟩ => ⟨S8x4352x512, .f32⟩
  | .hbm, ⟨12, _⟩ => ⟨S8x4352x512, .f32⟩
  | .hbm, ⟨13, _⟩ => ⟨S8x4352x512, .f32⟩
  | .hbm, ⟨14, _⟩ => ⟨S_, .f32⟩
  | .hbm, ⟨15, _⟩ => ⟨S8x4352x512, .f32⟩
  | .hbm, ⟨16, _⟩ => ⟨S8x4352x512, .f32⟩
  | .hbm, ⟨17, _⟩ => ⟨S8x4352x512, .f32⟩
  | .hbm, ⟨18, _⟩ => ⟨S_, .f32⟩
  | .hbm, ⟨19, _⟩ => ⟨S8x4352x512, .f32⟩
  | .hbm, ⟨20, _⟩ => ⟨S8x4352x512, .f32⟩
  | .hbm, ⟨21, _⟩ => ⟨S_, .f32⟩
  | .hbm, ⟨22, _⟩ => ⟨S8x4352x512, .f32⟩
  | .hbm, ⟨23, _⟩ => ⟨S8x4352x512, .f32⟩
  | .hbm, ⟨24, _⟩ => ⟨S8x4352x512, .f32⟩
  | .hbm, ⟨25, _⟩ => ⟨S8x4352x512, .f32⟩
  | .hbm, ⟨26, _⟩ => ⟨S8x4352x512, .f32⟩
  | .hbm, ⟨27, _⟩ => ⟨S8x4352x1024, .f32⟩
  | .hbm, ⟨28, _⟩ => ⟨S8x4352x1024, .f32⟩
  | .hbm, ⟨29, _⟩ => ⟨S1x1x1024, .f32⟩
  | .hbm, ⟨30, _⟩ => ⟨S1024, .f32⟩
  | .hbm, ⟨31, _⟩ => ⟨S8x1x1024, .f32⟩
  | .hbm, ⟨32, _⟩ => ⟨S8x1024, .f32⟩
  | .hbm, ⟨33, _⟩ => ⟨S8x256x1024, .f32⟩
  | .hbm, ⟨34, _⟩ => ⟨S8x256x1024, .f32⟩
  | .hbm, ⟨35, _⟩ => ⟨S1x1x1024, .f32⟩
  | .hbm, ⟨36, _⟩ => ⟨S8x256x1024, .f32⟩
  | .hbm, ⟨37, _⟩ => ⟨S8x256x1024, .f32⟩
  | .hbm, ⟨38, _⟩ => ⟨S8x256x1024, .f32⟩
  | .hbm, ⟨39, _⟩ => ⟨S8x4096x1024, .f32⟩
  | .hbm, ⟨40, _⟩ => ⟨S8x1x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x4352x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== OddIn.lean ====
abbrev S8x4352x1024 : Shape := ⟨3, ![8, 4352, 1024]⟩
abbrev S16x1x6144 : Shape := ⟨3, ![16, 1, 6144]⟩
abbrev S1024 : Shape := ⟨1, ![1024]⟩
abbrev S4096x16 : Shape := ⟨2, ![4096, 16]⟩
abbrev S1024x1792 : Shape := ⟨2, ![1024, 1792]⟩
abbrev S1024x1024 : Shape := ⟨2, ![1024, 1024]⟩
abbrev S1024x512 : Shape := ⟨2, ![1024, 512]⟩
abbrev S1024x128 : Shape := ⟨2, ![1024, 128]⟩
abbrev S1024x64 : Shape := ⟨2, ![1024, 64]⟩
abbrev S1024x256 : Shape := ⟨2, ![1024, 256]⟩
abbrev S_ : Shape := ⟨0, ![]⟩
abbrev S1x1024 : Shape := ⟨2, ![1, 1024]⟩
abbrev S256x128 : Shape := ⟨2, ![256, 128]⟩
abbrev S4096x128 : Shape := ⟨2, ![4096, 128]⟩
abbrev S4352x128 : Shape := ⟨2, ![4352, 128]⟩
abbrev S8x4352x512 : Shape := ⟨3, ![8, 4352, 512]⟩
abbrev S8x4352x256 : Shape := ⟨3, ![8, 4352, 256]⟩
abbrev S1x256x1024 : Shape := ⟨3, ![1, 256, 1024]⟩
abbrev S1x1x6144 : Shape := ⟨3, ![1, 1, 6144]⟩
abbrev S1x256x512 : Shape := ⟨3, ![1, 256, 512]⟩
abbrev S1x256x256 : Shape := ⟨3, ![1, 256, 256]⟩
abbrev S1x6144 : Shape := ⟨2, ![1, 6144]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x256 : Shape := ⟨2, ![256, 256]⟩

abbrev nBuf : Space → Nat
  | .hbm => 52
  | .vmem => 24
  | .smem => 0
  | _ => 0

abbrev bufTy : (tb : Table) → Fin (tcTables nBuf tb) → BufTy
  | .hbm, ⟨0, _⟩ => ⟨S8x4352x1024, .f32⟩
  | .hbm, ⟨1, _⟩ => ⟨S16x1x6144, .f32⟩
  | .hbm, ⟨2, _⟩ => ⟨S1024, .f32⟩
  | .hbm, ⟨3, _⟩ => ⟨S4096x16, .f32⟩
  | .hbm, ⟨4, _⟩ => ⟨S4096x16, .f32⟩
  | .hbm, ⟨5, _⟩ => ⟨S4096x16, .f32⟩
  | .hbm, ⟨6, _⟩ => ⟨S4096x16, .f32⟩
  | .hbm, ⟨7, _⟩ => ⟨S1024x1792, .f32⟩
  | .hbm, ⟨8, _⟩ => ⟨S1024x1024, .f32⟩
  | .hbm, ⟨9, _⟩ => ⟨S1024x1024, .bf16⟩
  | .hbm, ⟨10, _⟩ => ⟨S1024x512, .f32⟩
  | .hbm, ⟨11, _⟩ => ⟨S1024x512, .bf16⟩
  | .hbm, ⟨12, _⟩ => ⟨S1024x128, .f32⟩
  | .hbm, ⟨13, _⟩ => ⟨S1024x64, .f32⟩
  | .hbm, ⟨14, _⟩ => ⟨S1024x64, .f32⟩
  | .hbm, ⟨15, _⟩ => ⟨S1024x64, .f32⟩
  | .hbm, ⟨16, _⟩ => ⟨S1024x64, .f32⟩
  | .hbm, ⟨17, _⟩ => ⟨S1024x256, .f32⟩
  | .hbm, ⟨18, _⟩ => ⟨S1024x128, .f32⟩
  | .hbm, ⟨19, _⟩ => ⟨S1024x64, .f32⟩
  | .hbm, ⟨20, _⟩ => ⟨S1024x64, .f32⟩
  | .hbm, ⟨21, _⟩ => ⟨S_, .f32⟩
  | .hbm, ⟨22, _⟩ => ⟨S1024x64, .f32⟩
  | .hbm, ⟨23, _⟩ => ⟨S1024x64, .f32⟩
  | .hbm, ⟨24, _⟩ => ⟨S1024x64, .f32⟩
  | .hbm, ⟨25, _⟩ => ⟨S_, .f32⟩
  | .hbm, ⟨26, _⟩ => ⟨S1024x64, .f32⟩
  | .hbm, ⟨27, _⟩ => ⟨S1024x256, .f32⟩
  | .hbm, ⟨28, _⟩ => ⟨S1024x512, .f32⟩
  | .hbm, ⟨29, _⟩ => ⟨S1024x512, .bf16⟩
  | .hbm, ⟨30, _⟩ => ⟨S1x1024, .f32⟩
  | .hbm, ⟨31, _⟩ => ⟨S_, .f32⟩
  | .hbm, ⟨32, _⟩ => ⟨S4096x16, .f32⟩
  | .hbm, ⟨33, _⟩ => ⟨S_, .f32⟩
  | .hbm, ⟨34, _⟩ => ⟨S256x128, .f32⟩
  | .hbm, ⟨35, _⟩ => ⟨S4096x128, .f32⟩
  | .hbm, ⟨36, _⟩ => ⟨S4352x128, .f32⟩
  | .hbm, ⟨37, _⟩ => ⟨S4096x16, .f32⟩
  | .hbm, ⟨38, _⟩ => ⟨S4096x16, .f32⟩
  | .hbm, ⟨39, _⟩ => ⟨S_, .f32⟩
  | .hbm, ⟨40, _⟩ => ⟨S256x128, .f32⟩
  | .hbm, ⟨41, _⟩ => ⟨S4096x128, .f32⟩
  | .hbm, ⟨42, _⟩ => ⟨S4352x128, .f32⟩
  | .hbm, ⟨43, _⟩ => ⟨S_, .f32⟩
  | .hbm, ⟨44, _⟩ => ⟨S256x128, .f32⟩
  | .hbm, ⟨45, _⟩ => ⟨S4096x128, .f32⟩
  | .hbm, ⟨46, _⟩ => ⟨S4352x128, .f32⟩
  | .hbm, ⟨47, _⟩ => ⟨S8x4352x512, .f32⟩
  | .hbm, ⟨48, _⟩ => ⟨S8x4352x512, .f32⟩
  | .hbm, ⟨49, _⟩ => ⟨S8x4352x512, .bf16⟩
  | .hbm, ⟨50, _⟩ => ⟨S8x4352x256, .bf16⟩
  | .hbm, ⟨51, _⟩ => ⟨S8x4352x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S1024x1024, .bf16⟩
  | .local _ .vmem, ⟨12, _⟩ => ⟨S1024x512, .bf16⟩
  | .local _ .vmem, ⟨13, _⟩ => ⟨S1024x512, .bf16⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .bf16⟩
  | .local _ .vmem, ⟨19, _⟩ => ⟨S1x256x512, .bf16⟩
  | .local _ .vmem, ⟨20, _⟩ => ⟨S1x256x256, .bf16⟩
  | .local _ .vmem, ⟨21, _⟩ => ⟨S1x256x256, .bf16⟩
  | .local _ .vmem, ⟨22, _⟩ => ⟨S1x256x256, .bf16⟩
  | .local _ .vmem, ⟨23, _⟩ => ⟨S1x256x256, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33_0 : Ref sig .tc := ⟨.hbm, 47, rfl⟩
abbrev main_v33_1 : Ref sig .tc := ⟨.hbm, 48, rfl⟩
abbrev main_v33_2 : Ref sig .tc := ⟨.hbm, 49, rfl⟩
abbrev main_v33_3 : Ref sig .tc := ⟨.hbm, 50, rfl⟩
abbrev main_v33_4 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c8_i32 : BitVec 32 := 8#32
  let v1 : BitVec 32 := Scalar.select v0 c8_i32 arg0
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== OddInReferenceIdeal.lean ====
abbrev S8x4352x1024 : Shape := ⟨3, ![8, 4352, 1024]⟩
abbrev S16x1x6144 : Shape := ⟨3, ![16, 1, 6144]⟩
abbrev S1024 : Shape := ⟨1, ![1024]⟩
abbrev S4096x16 : Shape := ⟨2, ![4096, 16]⟩
abbrev S1024x1792 : Shape := ⟨2, ![1024, 1792]⟩
abbrev S_ : Shape := ⟨0, ![]⟩
abbrev S8x4352 : Shape := ⟨2, ![8, 4352]⟩
abbrev S8x4352x1 : Shape := ⟨3, ![8, 4352, 1]⟩
abbrev S1x1x1024 : Shape := ⟨3, ![1, 1, 1024]⟩
abbrev S1x1x6144 : Shape := ⟨3, ![1, 1, 6144]⟩
abbrev S6144 : Shape := ⟨1, ![6144]⟩
abbrev S8x1x6144 : Shape := ⟨3, ![8, 1, 6144]⟩
abbrev S8x6144 : Shape := ⟨2, ![8, 6144]⟩
abbrev S8x256x1024 : Shape := ⟨3, ![8, 256, 1024]⟩
abbrev S8x4096x1024 : Shape := ⟨3, ![8, 4096, 1024]⟩
abbrev S8x1x1024 : Shape := ⟨3, ![8, 1, 1024]⟩
abbrev S8x4352x1792 : Shape := ⟨3, ![8, 4352, 1792]⟩
abbrev S8x4352x512 : Shape := ⟨3, ![8, 4352, 512]⟩
abbrev S8x4352x8x64 : Shape := ⟨4, ![8, 4352, 8, 64]⟩
abbrev S8x4096x8x16 : Shape := ⟨4, ![8, 4096, 8, 16]⟩
abbrev S4096x1x16 : Shape := ⟨3, ![4096, 1, 16]⟩
abbrev S1x4096x1x16 : Shape := ⟨4, ![1, 4096, 1, 16]⟩
abbrev S8x4096x8x64 : Shape := ⟨4, ![8, 4096, 8, 64]⟩
abbrev S8x256x8x64 : Shape := ⟨4, ![8, 256, 8, 64]⟩
abbrev S8x4352x128 : Shape := ⟨3, ![8, 4352, 128]⟩
abbrev S8x4352x2x64 : Shape := ⟨4, ![8, 4352, 2, 64]⟩
abbrev S8x4096x2x16 : Shape := ⟨4, ![8, 4096, 2, 16]⟩
abbrev S8x4096x2x64 : Shape := ⟨4, ![8, 4096, 2, 64]⟩
abbrev S8x256x2x64 : Shape := ⟨4, ![8, 256, 2, 64]⟩
abbrev S8x4352x2x128 : Shape := ⟨4, ![8, 4352, 2, 128]⟩
abbrev S8x4352x2x1 : Shape := ⟨4, ![8, 4352, 2, 1]⟩
abbrev S8x4352x2x63 : Shape := ⟨4, ![8, 4352, 2, 63]⟩
abbrev S8x4352x256 : Shape := ⟨3, ![8, 4352, 256]⟩

abbrev nBuf : Space → Nat
  | .hbm => 162
  | .vmem => 0
  | .smem => 0
  | _ => 0

abbrev hbmTy0_0 (i : Nat) : BufTy := match i % 128 with
  | 0 => ⟨S8x4352x1024, .f32⟩
  | 1 => ⟨S16x1x6144, .f32⟩
  | 2 => ⟨S1024, .f32⟩
  | 3 => ⟨S4096x16, .f32⟩
  | 4 => ⟨S4096x16, .f32⟩
  | 5 => ⟨S4096x16, .f32⟩
  | 6 => ⟨S4096x16, .f32⟩
  | 7 => ⟨S1024x1792, .f32⟩
  | 8 => ⟨S8x4352x1024, .f32⟩
  | 9 => ⟨S_, .f32⟩
  | 10 => ⟨S8x4352, .f32⟩
  | 11 => ⟨S8x4352x1, .f32⟩
  | 12 => ⟨S_, .f32⟩
  | 13 => ⟨S8x4352x1, .f32⟩
  | 14 => ⟨S8x4352x1, .f32⟩
  | 15 => ⟨S_, .f32⟩
  | 16 => ⟨S8x4352x1, .f32⟩
  | 17 => ⟨S8x4352x1, .f32⟩
  | 18 => ⟨S8x4352x1, .f32⟩
  | 19 => ⟨S8x4352x1024, .f32⟩
  | 20 => ⟨S8x4352x1024, .f32⟩
  | 21 => ⟨S1x1x1024, .f32⟩
  | 22 => ⟨S8x4352x1024, .f32⟩
  | 23 => ⟨S8x4352x1024, .f32⟩
  | 24 => ⟨S1x1x6144, .f32⟩
  | 25 => ⟨S6144, .f32⟩
  | 26 => ⟨S8x1x6144, .f32⟩
  | 27 => ⟨S8x6144, .f32⟩
  | 28 => ⟨S8x1x6144, .f32⟩
  | 29 => ⟨S8x256x1024, .f32⟩
  | 30 => ⟨S1024, .f32⟩
  | 31 => ⟨S_, .f32⟩
  | 32 => ⟨S1024, .f32⟩
  | 33 => ⟨S1024, .f32⟩
  | 34 => ⟨S1x1x1024, .f32⟩
  | 35 => ⟨S8x256x1024, .f32⟩
  | 36 => ⟨S8x256x1024, .f32⟩
  | 37 => ⟨S1024, .f32⟩
  | 38 => ⟨S1x1x1024, .f32⟩
  | 39 => ⟨S8x256x1024, .f32⟩
  | 40 => ⟨S8x256x1024, .f32⟩
  | 41 => ⟨S8x4096x1024, .f32⟩
  | 42 => ⟨S8x1x1024, .f32⟩
  | 43 => ⟨S_, .f32⟩
  | 44 => ⟨S8x1x1024, .f32⟩
  | 45 => ⟨S8x1x1024, .f32⟩
  | 46 => ⟨S8x4096x1024, .f32⟩
  | 47 => ⟨S8x4096x1024, .f32⟩
  | 48 => ⟨S8x1x1024, .f32⟩
  | 49 => ⟨S8x4096x1024, .f32⟩
  | 50 => ⟨S8x4096x1024, .f32⟩
  | 51 => ⟨S8x4352x1024, .f32⟩
  | 52 => ⟨S8x4352x1792, .f32⟩
  | 53 => ⟨S8x4352x512, .f32⟩
  | 54 => ⟨S8x4352x8x64, .f32⟩
  | 55 => ⟨S8x4096x8x16, .f32⟩
  | 56 => ⟨S8x4096x8x16, .f32⟩
  | 57 => ⟨S8x4096x8x16, .f32⟩
  | 58 => ⟨S8x4096x8x16, .f32⟩
  | 59 => ⟨S4096x1x16, .f32⟩
  | 60 => ⟨S1x4096x1x16, .f32⟩
  | 61 => ⟨S8x4096x8x16, .f32⟩
  | 62 => ⟨S8x4096x8x16, .f32⟩
  | 63 => ⟨S4096x1x16, .f32⟩
  | 64 => ⟨S1x4096x1x16, .f32⟩
  | 65 => ⟨S8x4096x8x16, .f32⟩
  | 66 => ⟨S8x4096x8x16, .f32⟩
  | 67 => ⟨S8x4096x8x16, .f32⟩
  | 68 => ⟨S4096x1x16, .f32⟩
  | 69 => ⟨S1x4096x1x16, .f32⟩
  | 70 => ⟨S8x4096x8x16, .f32⟩
  | 71 => ⟨S8x4096x8x16, .f32⟩
  | 72 => ⟨S4096x1x16, .f32⟩
  | 73 => ⟨S1x4096x1x16, .f32⟩
  | 74 => ⟨S8x4096x8x16, .f32⟩
  | 75 => ⟨S8x4096x8x16, .f32⟩
  | 76 => ⟨S8x4096x8x16, .f32⟩
  | 77 => ⟨S4096x1x16, .f32⟩
  | 78 => ⟨S1x4096x1x16, .f32⟩
  | 79 => ⟨S8x4096x8x16, .f32⟩
  | 80 => ⟨S8x4096x8x16, .f32⟩
  | 81 => ⟨S4096x1x16, .f32⟩
  | 82 => ⟨S1x4096x1x16, .f32⟩
  | 83 => ⟨S8x4096x8x16, .f32⟩
  | 84 => ⟨S8x4096x8x16, .f32⟩
  | 85 => ⟨S8x4096x8x16, .f32⟩
  | 86 => ⟨S4096x1x16, .f32⟩
  | 87 => ⟨S1x4096x1x16, .f32⟩
  | 88 => ⟨S8x4096x8x16, .f32⟩
  | 89 => ⟨S8x4096x8x16, .f32⟩
  | 90 => ⟨S4096x1x16, .f32⟩
  | 91 => ⟨S1x4096x1x16, .f32⟩
  | 92 => ⟨S8x4096x8x16, .f32⟩
  | 93 => ⟨S8x4096x8x16, .f32⟩
  | 94 => ⟨S8x4096x8x16, .f32⟩
  | 95 => ⟨S8x4096x8x64, .f32⟩
  | 96 => ⟨S8x256x8x64, .f32⟩
  | 97 => ⟨S8x4352x8x64, .f32⟩
  | 98 => ⟨S_, .f32⟩
  | 99 => ⟨S8x4352x8x64, .f32⟩
  | 100 => ⟨S8x4352x8x64, .f32⟩
  | 101 => ⟨S8x4352x128, .f32⟩
  | 102 => ⟨S8x4352x2x64, .f32⟩
  | 103 => ⟨S8x4096x2x16, .f32⟩
  | 104 => ⟨S8x4096x2x16, .f32⟩
  | 105 => ⟨S8x4096x2x16, .f32⟩
  | 106 => ⟨S8x4096x2x16, .f32⟩
  | 107 => ⟨S4096x1x16, .f32⟩
  | 108 => ⟨S1x4096x1x16, .f32⟩
  | 109 => ⟨S8x4096x2x16, .f32⟩
  | 110 => ⟨S8x4096x2x16, .f32⟩
  | 111 => ⟨S4096x1x16, .f32⟩
  | 112 => ⟨S1x4096x1x16, .f32⟩
  | 113 => ⟨S8x4096x2x16, .f32⟩
  | 114 => ⟨S8x4096x2x16, .f32⟩
  | 115 => ⟨S8x4096x2x16, .f32⟩
  | 116 => ⟨S4096x1x16, .f32⟩
  | 117 => ⟨S1x4096x1x16, .f32⟩
  | 118 => ⟨S8x4096x2x16, .f32⟩
  | 119 => ⟨S8x4096x2x16, .f32⟩
  | 120 => ⟨S4096x1x16, .f32⟩
  | 121 => ⟨S1x4096x1x16, .f32⟩
  | 122 => ⟨S8x4096x2x16, .f32⟩
  | 123 => ⟨S8x4096x2x16, .f32⟩
  | 124 => ⟨S8x4096x2x16, .f32⟩
  | 125 => ⟨S4096x1x16, .f32⟩
  | 126 => ⟨S1x4096x1x16, .f32⟩
  | 127 => ⟨S8x4096x2x16, .f32⟩
  | _ => ⟨S8x4352x1024, .f32⟩

abbrev hbmTy0_1 (i : Nat) : BufTy := match i % 128 with
  | 0 => ⟨S8x4096x2x16, .f32⟩
  | 1 => ⟨S4096x1x16, .f32⟩
  | 2 => ⟨S1x4096x1x16, .f32⟩
  | 3 => ⟨S8x4096x2x16, .f32⟩
  | 4 => ⟨S8x4096x2x16, .f32⟩
  | 5 => ⟨S8x4096x2x16, .f32⟩
  | 6 => ⟨S4096x1x16, .f32⟩
  | 7 => ⟨S1x4096x1x16, .f32⟩
  | 8 => ⟨S8x4096x2x16, .f32⟩
  | 9 => ⟨S8x4096x2x16, .f32⟩
  | 10 => ⟨S4096x1x16, .f32⟩
  | 11 => ⟨S1x4096x1x16, .f32⟩
  | 12 => ⟨S8x4096x2x16, .f32⟩
  | 13 => ⟨S8x4096x2x16, .f32⟩
  | 14 => ⟨S8x4096x2x16, .f32⟩
  | 15 => ⟨S8x4096x2x64, .f32⟩
  | 16 => ⟨S8x256x2x64, .f32⟩
  | 17 => ⟨S8x4352x2x64, .f32⟩
  | 18 => ⟨S8x4352x128, .f32⟩
  | 19 => ⟨S8x4352x2x64, .f32⟩
  | 20 => ⟨S8x4352x2x128, .f32⟩
  | 21 => ⟨S_, .f32⟩
  | 22 => ⟨S8x4352x2x1, .f32⟩
  | 23 => ⟨S_, .f32⟩
  | 24 => ⟨S8x4352x2x63, .f32⟩
  | 25 => ⟨S8x4352x2x128, .f32⟩
  | 26 => ⟨S8x4352x512, .f32⟩
  | 27 => ⟨S8x4352x512, .f32⟩
  | 28 => ⟨S8x4352x512, .f32⟩
  | 29 => ⟨S8x4352x512, .bf16⟩
  | 30 => ⟨S8x4352x256, .f32⟩
  | 31 => ⟨S8x4352x256, .bf16⟩
  | 32 => ⟨S8x4352x256, .f32⟩
  | 33 => ⟨S8x4352x256, .bf16⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_cst_4 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_cst_5 : Ref sig .tc := ⟨.hbm, 149, rfl⟩
abbrev main_v135 : Ref sig .tc := ⟨.hbm, 150, rfl⟩
abbrev main_cst_6 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩

abbrev nD : Nat := 1
abbrev τ : Topo := Topo.v7x

variable {F : FTy → Type} [FloatOps F]
-- ==== Proof.Ffn.Math.lean ====
module

public import Idealize.ShloMosaic.Lib.Pointwise

/-! The feed-forward of one token on the extended reals, in its own terms: the modulated norm of a row, the up
projection, the depthwise convolution over three neighbours, the gated product, the down projection, the residual. -/

@[expose] public section
noncomputable section

namespace Cert.Feed
open Idealize.ShloMosaic

/-- A token's channels. -/
abbrev Row := Fin 1024 → EReal

/-- The reciprocal root of a row's mean square plus 1e-6. -/
def scale (x : Row) : EReal :=
  Ideal.rsqrt (Ideal.div (∑ e, x e * x e) (Ideal.ofBits .f32 1149239296#32) + Ideal.ofBits .f32 897988541#32)

/-- The norm with gain `g`. -/
def rms (x g : Row) : Row := fun e => x e * scale x * g e

/-- … modulated by a scale and a shift. -/
def modulated (x g sc sh : Row) : Row := fun e => rms x g e * (1 + sc e) + sh e

/-- One column of the up projection. -/
def proj (u : Row) (w : Fin 1024 → Fin 5632 → EReal) (c : Fin 5632) : EReal := ∑ e, u e * w e c

/-- The convolution: the row before, the row, the row after. -/
def conv (p u n : Row) (w : Fin 1024 → Fin 5632 → EReal) (cw : Fin 3 → Fin 5632 → EReal) (c : Fin 5632) : EReal :=
  cw 0 c * proj p w c + cw 1 c * proj u w c + cw 2 c * proj n w c

/-- The gated product. -/
def gated (x y : EReal) : EReal := x * Ideal.div 1 (1 + Ideal.exp (-x)) * y

/-- The down projection of the gated products. -/
def down (p u n : Row) (w : Fin 1024 → Fin 5632 → EReal) (cw : Fin 3 → Fin 5632 → EReal) (wd : Fin 2816 → Row) : Row :=
  fun d => ∑ k : Fin 2816, gated (conv p u n w cw ⟨k.val, by omega⟩) (conv p u n w cw ⟨2816 + k.val, by omega⟩) * wd k d

/-- A token's modulated row: scale at channel 4096, shift at 3072 of the modulation vector. -/
def tok (x : Fin 4352 → Row) (g : Row) (m : Fin 6144 → EReal) (l : Fin 4352) : Row :=
  modulated (x l) g (fun e => m ⟨4096 + e.val, by omega⟩) (fun e => m ⟨3072 + e.val, by omega⟩)

/-- The token before, nothing before the stream's first, `lo`. -/
def before (lo : ℕ) (x : Fin 4352 → Row) (g : Row) (m : Fin 6144 → EReal) (l : Fin 4352) : Row :=
  if lo < l.val then tok x g m ⟨l.val - 1, by omega⟩ else fun _ => 0

/-- The token after, nothing from the stream's end, `hi`. -/
def after (hi : ℕ) (x : Fin 4352 → Row) (g : Row) (m : Fin 6144 → EReal) (l : Fin 4352) : Row :=
  if h : l.val + 1 < hi ∧ l.val + 1 < 4352 then tok x g m ⟨l.val + 1, h.2⟩ else fun _ => 0

/-- The layer's second half at token `l` of the stream from `lo` to `hi`; the gate at channel 5120. -/
def line (lo hi : ℕ) (x : Fin 4352 → Row) (g : Row) (m : Fin 6144 → EReal) (w : Fin 1024 → Fin 5632 → EReal)
    (cw : Fin 3 → Fin 5632 → EReal) (wd : Fin 2816 → Row) (l : Fin 4352) : Row := fun d =>
  x l d + m ⟨5120 + d.val, by omega⟩ * down (before lo x g m l) (tok x g m l) (after hi x g m l) w cw wd d

/-- An array of tokens. -/
abbrev Tokens := (⟨3, ![8, 4352, 1024]⟩ : Shape).Idx → EReal

/-- Stream `s` (0 the context, tokens 0–255; 1 the latents, tokens 256–4351) of the arrays. -/
def stream (s : Fin 2) (x : Tokens) (m : (⟨3, ![2, 8, 6144]⟩ : Shape).Idx → EReal) (g : (⟨1, ![1024]⟩ : Shape).Idx → EReal)
    (w : (⟨2, ![1024, 5632]⟩ : Shape).Idx → EReal) (cw : (⟨2, ![3, 5632]⟩ : Shape).Idx → EReal)
    (wd : (⟨2, ![2816, 1024]⟩ : Shape).Idx → EReal) (b : Fin 8) (l : Fin 4352) : Row :=
  line (256 * s.val) (256 + 4096 * s.val) (fun l e => x (ix3 b l e)) (fun e => g (ix1 e)) (fun k => m (ix3 s b k))
    (fun e c => w (ix2 e c)) (fun k c => cw (ix2 k c)) (fun k d => wd (ix2 k d)) l

/-- Both streams. -/
def result (x : Tokens) (m : (⟨3, ![2, 8, 6144]⟩ : Shape).Idx → EReal) (g : (⟨1, ![1024]⟩ : Shape).Idx → EReal)
    (w : (⟨2, ![1024, 5632]⟩ : Shape).Idx → EReal) (cw : (⟨2, ![3, 5632]⟩ : Shape).Idx → EReal)
    (wd : (⟨2, ![2816, 1024]⟩ : Shape).Idx → EReal) (b : Fin 8) (l : Fin 4352) : Row :=
  stream (if l.val < 256 then 0 else 1) x m g w cw wd b l

theorem proj_zero (w : Fin 1024 → Fin 5632 → EReal) (c : Fin 5632) : proj (fun _ => 0) w c = 0 := by
  simp [proj]

end Cert.Feed
-- ==== Proof.Out.Math.lean ====
module

public import Idealize.ShloMosaic.Lib.Pointwise

/-! The output projection of a layer's first half on the extended reals: two branches of 512 channels side by side times a
1024 × 1024 matrix, added to the token under the mixer's gate. -/

@[expose] public section
noncomputable section

namespace Cert.Out
open Idealize.ShloMosaic

/-- The tokens, a branch, the modulation vectors, the weights. -/
abbrev Tokens := (⟨3, ![8, 4352, 1024]⟩ : Shape).Idx → EReal
abbrev Branch := (⟨3, ![8, 4352, 512]⟩ : Shape).Idx → EReal
abbrev Mods := (⟨3, ![16, 1, 6144]⟩ : Shape).Idx → EReal
abbrev Weights := (⟨2, ![1024, 1024]⟩ : Shape).Idx → EReal

/-- The two branches projected. -/
def merge (p q : Fin 512 → EReal) (w : Weights) (d : Fin 1024) : EReal :=
  ∑ k : Fin 512, p k * w (ix2 (⟨k.val, by omega⟩ : Fin 1024) d) + ∑ k : Fin 512, q k * w (ix2 (⟨512 + k.val, by omega⟩ : Fin 1024) d)

/-- The modulation row of a token: the context's (the first 256 tokens) is row 8, a latent's its sequence's. -/
def modOf (b : Fin 8) (l : Fin 4352) : Fin 16 := if l.val < 256 then 8 else ⟨b.val, by omega⟩

/-- The gated residual; the mixer's gate starts at channel 2048. -/
def line (x : Tokens) (m : Mods) (w : Weights) (p q : Fin 512 → EReal) (b : Fin 8) (l : Fin 4352) (d : Fin 1024) : EReal :=
  x (ix3 b l d) + m (ix3 (modOf b l) 0 ⟨2048 + d.val, by omega⟩) * merge p q w d

/-- The projection as one sum over the 1024 channels. -/
theorem merge_eq (y : Fin 1024 → EReal) (w : Weights) (d : Fin 1024) (p q : Fin 512 → EReal)
    (hp : ∀ k : Fin 512, y ⟨k.val, by omega⟩ = p k) (hq : ∀ k : Fin 512, y ⟨512 + k.val, by omega⟩ = q k) :
    ∑ k, y k * w (ix2 k d) = merge p q w d := by
  rw [Fin.sum_univ_two_halves 512 512 rfl]
  unfold merge
  congr 1
  · exact Finset.sum_congr rfl fun k _ => congrArg (· * _) (hp k)
  · exact Finset.sum_congr rfl fun k _ => congrArg (· * _) (hq k)

/-- The tanh form of gelu. -/
def gelu (x : EReal) : EReal :=
  Ideal.ofBits .f32 0x3F000000#32 * x * (1 + Ideal.tanh (Ideal.ofBits .f32 0x3F4C422A#32 * (x + Ideal.ofBits .f32 0x3D372713#32 * (x * x * x))))

/-- The recurrent branch of an odd layer: the two directions added, gated by gelu. -/
def recurrent (hf hr g : Branch) (b : Fin 8) (l : Fin 4352) (k : Fin 512) : EReal :=
  (hf (ix3 b l k) + hr (ix3 b l k)) * gelu (g (ix3 b l k))

/-- Channel `k` of head `h` of an even layer's recurrent branch: the head's 128 channels of `o` normed with gain `og`, gated by
silu of `z`. -/
def headOf (o z : Fin 512 → EReal) (og : Fin 128 → EReal) (h : Fin 4) (k : Fin 128) : EReal :=
  o ⟨128 * h.val + k.val, by omega⟩
    * Ideal.rsqrt (Ideal.div (∑ j : Fin 128, o ⟨128 * h.val + j.val, by omega⟩ * o ⟨128 * h.val + j.val, by omega⟩)
        (Ideal.ofBits .f32 0x43000000#32) + Ideal.ofBits .f32 0x358637BD#32)
    * og k * (z ⟨128 * h.val + k.val, by omega⟩ * Ideal.div 1 (1 + Ideal.exp (-z ⟨128 * h.val + k.val, by omega⟩)))

/-- … its four heads. -/
def heads (o z : Fin 512 → EReal) (og : Fin 128 → EReal) (k : Fin 512) : EReal :=
  headOf o z og ⟨k.val / 128, by omega⟩ ⟨k.val % 128, by omega⟩

/-- The branch: the two directions added, normed and gated. -/
def delta (of r g : Branch) (og : (⟨1, ![128]⟩ : Shape).Idx → EReal) (b : Fin 8) (l : Fin 4352) : Fin 512 → EReal :=
  heads (fun k => of (ix3 b l k) + r (ix3 b l k)) (fun k => g (ix3 b l k)) (fun k => og (ix1 k))

end Cert.Out
-- ==== Proof.In.Math.lean ====
module

public import Idealize.ShloMosaic.Lib.Pointwise
public import proofs.«01_k».proof.Proof.Ffn.Math
public import proofs.«01_k».proof.Proof.Out.Math

/-! The entry of an odd layer's mixers on the extended reals: the modulated norm of a token, its projection, the rotation of
the latents' heads by row and column. -/

@[expose] public section
noncomputable section

namespace Cert.Entry
open Idealize.ShloMosaic Cert.Out

abbrev Gain := (⟨1, ![1024]⟩ : Shape).Idx → EReal
abbrev Phases := (⟨2, ![4096, 16]⟩ : Shape).Idx → EReal
abbrev WOdd := (⟨2, ![1024, 1792]⟩ : Shape).Idx → EReal

/-- A token's modulated row: shift at channel 0, scale at channel 1024 of its modulation vector. -/
def tok (x : Tokens) (m : Mods) (g : Gain) (b : Fin 8) (l : Fin 4352) : Fin 1024 → EReal :=
  Feed.modulated (fun e => x (ix3 b l e)) (fun e => g (ix1 e)) (fun e => m (ix3 (modOf b l) 0 ⟨1024 + e.val, by omega⟩))
    (fun e => m (ix3 (modOf b l) 0 ⟨e.val, by omega⟩))

/-- The four tables of a latent: cosine and sine of the row's angles, of the column's. -/
structure Angles where
  cr : Fin 16 → EReal
  sr : Fin 16 → EReal
  cc : Fin 16 → EReal
  sc : Fin 16 → EReal

/-- … at latent `l - 256`. -/
def angles (cr sr cc sc : Phases) (l : Fin 4352) (h : ¬l.val < 256) : Angles where
  cr f := cr (ix2 ⟨l.val - 256, by omega⟩ f)
  sr f := sr (ix2 ⟨l.val - 256, by omega⟩ f)
  cc f := cc (ix2 ⟨l.val - 256, by omega⟩ f)
  sc f := sc (ix2 ⟨l.val - 256, by omega⟩ f)

/-- A head of 64 channels turned: the first 32 by the row's angles, the last 32 by the column's. -/
def turned (z : Fin 64 → EReal) (a : Angles) (e : Fin 64) : EReal :=
  if h : e.val < 16 then z e * a.cr ⟨e.val, h⟩ - z ⟨e.val + 16, by omega⟩ * a.sr ⟨e.val, h⟩
  else if h : e.val < 32 then z e * a.cr ⟨e.val - 16, by omega⟩ + z ⟨e.val - 16, by omega⟩ * a.sr ⟨e.val - 16, by omega⟩
  else if h : e.val < 48 then z e * a.cc ⟨e.val - 32, by omega⟩ - z ⟨e.val + 16, by omega⟩ * a.sc ⟨e.val - 32, by omega⟩
  else z e * a.cc ⟨e.val - 48, by omega⟩ + z ⟨e.val - 16, by omega⟩ * a.sc ⟨e.val - 48, by omega⟩

/-- … a latent's; the context's heads stay. -/
def rotated (cr sr cc sc : Phases) (l : Fin 4352) (z : Fin 64 → EReal) (e : Fin 64) : EReal :=
  if h : l.val < 256 then z e else turned z (angles cr sr cc sc l h) e

/-- The lanes' tables of the kernel: cosines; minus the sines at the first 16 of each 32 channels; the sines at the last 16. -/
def laneC (a : Angles) (p : Fin 128) : EReal :=
  if h : p.val % 64 < 16 then a.cr ⟨p.val % 64, h⟩ else if h : p.val % 64 < 32 then a.cr ⟨p.val % 64 - 16, by omega⟩
  else if h : p.val % 64 < 48 then a.cc ⟨p.val % 64 - 32, by omega⟩ else a.cc ⟨p.val % 64 - 48, by omega⟩
def laneA (a : Angles) (p : Fin 128) : EReal :=
  if h : p.val % 64 < 16 then -a.sr ⟨p.val % 64, h⟩ else if h : p.val % 64 < 32 then 0
  else if h : p.val % 64 < 48 then -a.sc ⟨p.val % 64 - 32, by omega⟩ else 0
def laneB (a : Angles) (p : Fin 128) : EReal :=
  if h : p.val % 64 < 16 then 0 else if h : p.val % 64 < 32 then a.sr ⟨p.val % 64 - 16, by omega⟩
  else if h : p.val % 64 < 48 then 0 else a.sc ⟨p.val % 64 - 48, by omega⟩

/-- Two heads side by side, turned in lanes. -/
def lane (z c sa sb : Fin 128 → EReal) (p : Fin 128) : EReal :=
  z p * c p + z ⟨(p.val + 16) % 128, by omega⟩ * sa p + z ⟨(p.val + 112) % 128, by omega⟩ * sb p

theorem lane_turned (z : Fin 128 → EReal) (a : Angles) (p : Fin 128) :
    lane z (laneC a) (laneA a) (laneB a) p
      = turned (fun e => z ⟨64 * (p.val / 64) + e.val, by omega⟩) a ⟨p.val % 64, by omega⟩ := by
  have ep : z ⟨64 * (p.val / 64) + p.val % 64, by omega⟩ = z p := congrArg z (Fin.ext (by show 64 * (p.val / 64) + p.val % 64 = p.val; omega))
  unfold lane laneC laneA laneB turned
  dsimp only
  rw [ep]
  by_cases h1 : p.val % 64 < 16
  · have e : (⟨(p.val + 16) % 128, by omega⟩ : Fin 128) = ⟨64 * (p.val / 64) + (p.val % 64 + 16), by omega⟩ := Fin.ext (by
      show (p.val + 16) % 128 = 64 * (p.val / 64) + (p.val % 64 + 16); omega)
    simp only [dif_pos h1, e, mul_zero, add_zero, mul_neg, sub_eq_add_neg]
  by_cases h2 : p.val % 64 < 32
  · have e : (⟨(p.val + 112) % 128, by omega⟩ : Fin 128) = ⟨64 * (p.val / 64) + (p.val % 64 - 16), by omega⟩ := Fin.ext (by
      show (p.val + 112) % 128 = 64 * (p.val / 64) + (p.val % 64 - 16); omega)
    simp only [dif_neg h1, dif_pos h2, e, mul_zero, add_zero]
  by_cases h3 : p.val % 64 < 48
  · have e : (⟨(p.val + 16) % 128, by omega⟩ : Fin 128) = ⟨64 * (p.val / 64) + (p.val % 64 + 16), by omega⟩ := Fin.ext (by
      show (p.val + 16) % 128 = 64 * (p.val / 64) + (p.val % 64 + 16); omega)
    simp only [dif_neg h1, dif_neg h2, dif_pos h3, e, mul_zero, add_zero, mul_neg, sub_eq_add_neg]
  · have e : (⟨(p.val + 112) % 128, by omega⟩ : Fin 128) = ⟨64 * (p.val / 64) + (p.val % 64 - 16), by omega⟩ := Fin.ext (by
      show (p.val + 112) % 128 = 64 * (p.val / 64) + (p.val % 64 - 16); omega)
    simp only [dif_neg h1, dif_neg h2, dif_neg h3, e, mul_zero, add_zero]

/-- … in the tables of a token. -/
def tabC (cr sr cc sc : Phases) (l : Fin 4352) (p : Fin 128) : EReal := if h : l.val < 256 then 1 else laneC (angles cr sr cc sc l h) p
def tabA (cr sr cc sc : Phases) (l : Fin 4352) (p : Fin 128) : EReal := if h : l.val < 256 then 0 else laneA (angles cr sr cc sc l h) p
def tabB (cr sr cc sc : Phases) (l : Fin 4352) (p : Fin 128) : EReal := if h : l.val < 256 then 0 else laneB (angles cr sr cc sc l h) p

theorem lane_rotated (cr sr cc sc : Phases) (l : Fin 4352) (z : Fin 128 → EReal) (p : Fin 128) :
    lane z (tabC cr sr cc sc l) (tabA cr sr cc sc l) (tabB cr sr cc sc l) p
      = rotated cr sr cc sc l (fun e => z ⟨64 * (p.val / 64) + e.val, by omega⟩) ⟨p.val % 64, by omega⟩ := by
  unfold rotated
  by_cases h : l.val < 256
  · rw [dif_pos h]
    unfold lane tabC tabA tabB
    simp only [dif_pos h, mul_one, mul_zero, add_zero]
    exact congrArg z (Fin.ext (by show p.val = 64 * (p.val / 64) + p.val % 64; omega))
  · rw [dif_neg h, ← lane_turned]
    unfold lane tabC tabA tabB
    simp only [dif_neg h]

/-- One column of an odd layer's projection. -/
def proj (u : Fin 1024 → EReal) (w : WOdd) (c : Fin 1792) : EReal := ∑ e, u e * w (ix2 e c)

/-- The queries, times log2(e)/8 as a float32 number. -/
def query (cr sr cc sc : Phases) (l : Fin 4352) (u : Fin 1024 → EReal) (w : WOdd) (k : Fin 512) : EReal :=
  rotated cr sr cc sc l (fun e => proj u w ⟨1024 + 64 * (k.val / 64) + e.val, by omega⟩) ⟨k.val % 64, by omega⟩
    * Ideal.ofBits .f32 0x3E38AA3B#32

/-- The keys, each head twice. -/
def key (cr sr cc sc : Phases) (l : Fin 4352) (u : Fin 1024 → EReal) (w : WOdd) (k : Fin 256) : EReal :=
  rotated cr sr cc sc l (fun e => proj u w ⟨1536 + 64 * (k.val / 128) + e.val, by omega⟩) ⟨k.val % 64, by omega⟩

/-- The values, after each head a one and zeros. -/
def value (u : Fin 1024 → EReal) (w : WOdd) (k : Fin 256) : EReal :=
  if h : k.val % 128 < 64 then proj u w ⟨1664 + 64 * (k.val / 128) + k.val % 128, by omega⟩ else if k.val % 128 = 64 then 1 else 0

end Cert.Entry
-- ==== Proof.In.OddBlocks.lean ====
module

public import proofs.«01_k».proof.Proof.Gen.OddInIdeal.Value
public import proofs.«01_k».proof.Proof.In.Math
public import Idealize.ShloMosaic.Lib.Pipeline.ValueKit
public import Idealize.ShloMosaic.Lib.StableHlo.ReadAt

/-! The odd layer's entry: the blocks of a point and the host's arrays behind them. -/

@[expose] public section
set_option maxRecDepth 16384
noncomputable section

namespace Cert.OddInIdeal.Tile
open Idealize.ShloMosaic Idealize.ShloMosaic.TcCoe Idealize.ShloMosaic.Tactic
open Idealize.SL.Sem Cert.OddInIdeal.Gen Cert.Out Cert.Entry

variable (m : (ℓ : Loc nD τ sig) → Buf (Elt Ideal) ℓ)

/-- Point `t` is tile `t % 17` of sequence `t / 17`; its modulation row is 8 at the context's tile. -/
theorem idx : ∀ t : Fin grid0.N,
    win0_0.index t = ![t.val / 17, t.val % 17, 0]
    ∧ win0_1.index t = ![if t.val % 17 = 0 then 8 else t.val / 17, 0, 0]
    ∧ win0_2.index t = ![0, 0]
    ∧ win0_3.index t = ![t.val % 17, 0]
    ∧ win0_4.index t = ![t.val % 17, 0]
    ∧ win0_5.index t = ![t.val % 17, 0]
    ∧ win0_6.index t = ![0, 0]
    ∧ win0_7.index t = ![0, 0]
    ∧ win0_8.index t = ![0, 0]
    ∧ win0_9.index t = ![t.val / 17, t.val % 17, 0]
    ∧ win0_10.index t = ![t.val / 17, t.val % 17, 0]
    ∧ win0_11.index t = ![t.val / 17, t.val % 17, 0]
    ∧ win0_12.index t = ![t.val / 17, t.val % 17, 0]
    ∧ win0_13.index t = ![t.val / 17, t.val % 17, 0] := by decide +kernel

theorem hN (t : Fin cfg0.N) : t.val < 136 := t.isLt

/-- A point's sequence, and its token `s`. -/
def seq (t : Fin cfg0.N) : Fin 8 := ⟨t.val / 17, by have := hN t; omega⟩
def pos (t : Fin cfg0.N) (s : Fin 256) : Fin 4352 := ⟨256 * (t.val % 17) + s.val, by omega⟩

theorem iblk0_apply (c : Dev nD) (t : Fin cfg0.N) (s : Fin 256) (e : Fin 1024) :
    iblk m c 0 t (ix3 0 s e) = V m c main_arg0 (ix3 (seq t) (pos t s) e) := by
  blk_ext [iblk, (idx t).1, seq, pos]

theorem iblk1_apply (c : Dev nD) (t : Fin cfg0.N) (s : Fin 256) (k : Fin 6144) :
    iblk m c 1 t (ix3 0 0 k) = V m c main_arg1 (ix3 (modOf (seq t) (pos t s)) 0 k) := by
  have e : modOf (seq t) (pos t s) = ⟨if t.val % 17 = 0 then 8 else t.val / 17, by have := hN t; split <;> omega⟩ := by
    unfold modOf pos seq
    by_cases h : t.val % 17 = 0
    · rw [if_pos (show 256 * (t.val % 17) + s.val < 256 by omega)]
      exact Fin.ext (if_pos h).symm
    · rw [if_neg (show ¬256 * (t.val % 17) + s.val < 256 by omega)]
      exact Fin.ext (if_neg h).symm
  rw [e]
  blk_ext [iblk, (idx t).2.1]

theorem iblk2_apply (c : Dev nD) (t : Fin cfg0.N) (k : Fin 1024) :
    iblk m c 2 t (ix2 0 k) = V m c main_v20 (ix2 0 k) := by
  blk_ext [iblk, (idx t).2.2.1]

theorem iblk3_apply (c : Dev nD) (t : Fin cfg0.N) (s : Fin 256) (p : Fin 128) :
    iblk m c 3 t (ix2 s p) = V m c main_v24 (ix2 (pos t s) p) := by
  blk_ext [iblk, (idx t).2.2.2.1, pos]

theorem iblk4_apply (c : Dev nD) (t : Fin cfg0.N) (s : Fin 256) (p : Fin 128) :
    iblk m c 4 t (ix2 s p) = V m c main_v29 (ix2 (pos t s) p) := by
  blk_ext [iblk, (idx t).2.2.2.2.1, pos]

theorem iblk5_apply (c : Dev nD) (t : Fin cfg0.N) (s : Fin 256) (p : Fin 128) :
    iblk m c 5 t (ix2 s p) = V m c main_v32 (ix2 (pos t s) p) := by
  blk_ext [iblk, (idx t).2.2.2.2.2.1, pos]

theorem iblk6_apply (c : Dev nD) (t : Fin cfg0.N) (k d : Fin 1024) :
    iblk m c 6 t (ix2 k d) = V m c main_v1 (ix2 k d) := by
  blk_ext [iblk, (idx t).2.2.2.2.2.2.1]

theorem iblk7_apply (c : Dev nD) (t : Fin cfg0.N) (k : Fin 1024) (d : Fin 512) :
    iblk m c 7 t (ix2 k d) = V m c main_v3 (ix2 k d) := by
  blk_ext [iblk, (idx t).2.2.2.2.2.2.2.1]

theorem iblk8_apply (c : Dev nD) (t : Fin cfg0.N) (k : Fin 1024) (d : Fin 512) :
    iblk m c 8 t (ix2 k d) = V m c main_v19 (ix2 k d) := by
  blk_ext [iblk, (idx t).2.2.2.2.2.2.2.2.1]

theorem v20_apply (c : Dev nD) (k : Fin 1024) : V m c main_v20 (ix2 0 k) = m ((c : Thread nD τ).loc main_arg2) (ix1 k) := by
  unfold V
  after_reads_at

theorem v1_apply (c : Dev nD) (k d : Fin 1024) :
    V m c main_v1 (ix2 k d) = m ((c : Thread nD τ).loc main_arg7) (ix2 k (⟨d.val, by omega⟩ : Fin 1792)) := by
  unfold V
  after_reads_at

theorem v3_apply (c : Dev nD) (k : Fin 1024) (d : Fin 512) :
    V m c main_v3 (ix2 k d) = m ((c : Thread nD τ).loc main_arg7) (ix2 k (⟨1024 + d.val, by omega⟩ : Fin 1792)) := by
  unfold V
  after_reads_at

end Cert.OddInIdeal.Tile
-- ==== Proof.In.OddHost.lean ====
module

public import proofs.«01_k».proof.Proof.Gen.OddInIdeal.Value
public import proofs.«01_k».proof.Proof.In.Math
public import Idealize.ShloMosaic.Lib.Pipeline.ValueKit
public import Idealize.ShloMosaic.Lib.StableHlo.ReadAt

/-! The odd layer's entry: the host's tables and its weights of the keys and values. -/

@[expose] public section
set_option maxRecDepth 16384
noncomputable section

namespace Cert.OddInIdeal.Tile
open Idealize.ShloMosaic Idealize.ShloMosaic.TcCoe Idealize.ShloMosaic.Tactic
open Idealize.SL.Sem Cert.OddInIdeal.Gen Cert.Out Cert.Entry

/-- Equal channels, equal entries. -/
theorem phase_at (t : Phases) (i : Fin 4096) {f g : Fin 16} (h : f.val = g.val) : t (ix2 i f) = t (ix2 i g) := by rw [Fin.ext h]
theorem weight_at (w : WOdd) (i : Fin 1024) {f g : Fin 1792} (h : f.val = g.val) : w (ix2 i f) = w (ix2 i g) := by rw [Fin.ext h]

/-- The kernel's weights of the keys, each head twice, and of the values, each head followed by zeros. -/
def pairs (w : WOdd) (k : Fin 1024) (d : Fin 512) : EReal :=
  if h : d.val < 256 then w (ix2 k ⟨1536 + 64 * (d.val / 128) + d.val % 64, by omega⟩)
  else if h : (d.val - 256) % 128 < 64 then w (ix2 k ⟨1664 + 64 * ((d.val - 256) / 128) + (d.val - 256) % 128, by omega⟩)
  else 0

variable (m : (ℓ : Loc nD τ sig) → Buf (Elt Ideal) ℓ)

theorem v5_leaf (c : Dev nD) (k : Fin 1024) (e : Fin 64) :
    StableHlo.upto hostOps0 (fun b => m (c, b)) 6 (Proc.tc.devRef main_v5) (ix2 k e)
      = m ((c : Thread nD τ).loc main_arg7) (ix2 k (⟨1536 + e.val, by omega⟩ : Fin 1792)) := by
  after_reads_at

theorem v6_leaf (c : Dev nD) (k : Fin 1024) (e : Fin 64) :
    StableHlo.upto hostOps0 (fun b => m (c, b)) 7 (Proc.tc.devRef main_v6) (ix2 k e)
      = m ((c : Thread nD τ).loc main_arg7) (ix2 k (⟨1536 + e.val, by omega⟩ : Fin 1792)) := by
  after_reads_at

theorem v7_leaf (c : Dev nD) (k : Fin 1024) (e : Fin 64) :
    StableHlo.upto hostOps0 (fun b => m (c, b)) 8 (Proc.tc.devRef main_v7) (ix2 k e)
      = m ((c : Thread nD τ).loc main_arg7) (ix2 k (⟨1600 + e.val, by omega⟩ : Fin 1792)) := by
  after_reads_at
  exact weight_at _ _ (by dsimp only; omega)

theorem v8_leaf (c : Dev nD) (k : Fin 1024) (e : Fin 64) :
    StableHlo.upto hostOps0 (fun b => m (c, b)) 9 (Proc.tc.devRef main_v8) (ix2 k e)
      = m ((c : Thread nD τ).loc main_arg7) (ix2 k (⟨1600 + e.val, by omega⟩ : Fin 1792)) := by
  after_reads_at
  exact weight_at _ _ (by dsimp only; omega)

theorem v11_leaf (c : Dev nD) (k : Fin 1024) (e : Fin 64) :
    StableHlo.upto hostOps0 (fun b => m (c, b)) 12 (Proc.tc.devRef main_v11) (ix2 k e)
      = m ((c : Thread nD τ).loc main_arg7) (ix2 k (⟨1664 + e.val, by omega⟩ : Fin 1792)) := by
  after_reads_at

theorem v14_leaf (c : Dev nD) (k : Fin 1024) (e : Fin 64) :
    StableHlo.upto hostOps0 (fun b => m (c, b)) 16 (Proc.tc.devRef main_v14) (ix2 k e)
      = m ((c : Thread nD τ).loc main_arg7) (ix2 k (⟨1728 + e.val, by omega⟩ : Fin 1792)) := by
  after_reads_at
  exact weight_at _ _ (by dsimp only; omega)

theorem v13_leaf (c : Dev nD) (k : Fin 1024) (e : Fin 64) :
    StableHlo.upto hostOps0 (fun b => m (c, b)) 15 (Proc.tc.devRef main_v13) (ix2 k e) = (0 : EReal) := by
  after_reads_at

theorem v16_leaf (c : Dev nD) (k : Fin 1024) (e : Fin 64) :
    StableHlo.upto hostOps0 (fun b => m (c, b)) 19 (Proc.tc.devRef main_v16) (ix2 k e) = (0 : EReal) := by
  after_reads_at

set_option maxHeartbeats 2000000 in
theorem v19_apply (c : Dev nD) (k : Fin 1024) (d : Fin 512) :
    V m c main_v19 (ix2 k d) = pairs (m ((c : Thread nD τ).loc main_arg7)) k d := by
  unfold V
  after_reads_at
  after_reads_at
  unfold pairs
  by_cases h : d.val < 256
  · rw [dif_pos h, dif_pos h]
    by_cases h1 : d.val < 64
    · rw [dif_pos h1]
      exact (v5_leaf m c k _).trans (weight_at _ _ (by dsimp only; omega))
    rw [dif_neg h1]
    by_cases h2 : d.val - 64 < 64
    · rw [dif_pos h2]
      exact (v6_leaf m c k _).trans (weight_at _ _ (by dsimp only; omega))
    rw [dif_neg h2]
    by_cases h3 : d.val - 64 - 64 < 64
    · rw [dif_pos h3]
      exact (v7_leaf m c k _).trans (weight_at _ _ (by dsimp only; omega))
    rw [dif_neg h3]
    exact (v8_leaf m c k _).trans (weight_at _ _ (by dsimp only; omega))
  · rw [dif_neg h, dif_neg h]
    by_cases h1 : d.val - 256 < 64
    · rw [dif_pos h1, dif_pos (by omega)]
      exact (v11_leaf m c k _).trans (weight_at _ _ (by dsimp only; omega))
    rw [dif_neg h1]
    by_cases h2 : d.val - 256 - 64 < 64
    · rw [dif_pos h2, dif_neg (by omega)]
      exact v13_leaf m c k _
    rw [dif_neg h2]
    by_cases h3 : d.val - 256 - 64 - 64 < 64
    · rw [dif_pos h3, dif_pos (by omega)]
      exact (v14_leaf m c k _).trans (weight_at _ _ (by dsimp only; omega))
    rw [dif_neg h3, dif_neg (by omega)]
    exact v16_leaf m c k _

set_option maxHeartbeats 2000000 in
theorem v24_apply (c : Dev nD) (l : Fin 4352) (p : Fin 128) :
    V m c main_v24 (ix2 l p) = tabC (m ((c : Thread nD τ).loc main_arg3)) (m ((c : Thread nD τ).loc main_arg4))
      (m ((c : Thread nD τ).loc main_arg5)) (m ((c : Thread nD τ).loc main_arg6)) l p := by
  unfold V
  after_reads_at
  after_reads_at
  unfold tabC laneC angles
  repeat' split
  all_goals first
    | (exfalso; omega)
    | exact phase_at _ _ (by dsimp only; omega)
    | rfl

set_option maxHeartbeats 2000000 in
theorem v29_apply (c : Dev nD) (l : Fin 4352) (p : Fin 128) :
    V m c main_v29 (ix2 l p) = tabA (m ((c : Thread nD τ).loc main_arg3)) (m ((c : Thread nD τ).loc main_arg4))
      (m ((c : Thread nD τ).loc main_arg5)) (m ((c : Thread nD τ).loc main_arg6)) l p := by
  unfold V
  after_reads_at
  after_reads_at
  unfold tabA laneA angles
  repeat' split
  all_goals first
    | (exfalso; omega)
    | exact congrArg Neg.neg (phase_at _ _ (by dsimp only; omega))
    | rfl

set_option maxHeartbeats 2000000 in
theorem v32_apply (c : Dev nD) (l : Fin 4352) (p : Fin 128) :
    V m c main_v32 (ix2 l p) = tabB (m ((c : Thread nD τ).loc main_arg3)) (m ((c : Thread nD τ).loc main_arg4))
      (m ((c : Thread nD τ).loc main_arg5)) (m ((c : Thread nD τ).loc main_arg6)) l p := by
  unfold V
  after_reads_at
  after_reads_at
  unfold tabB laneB angles
  repeat' split
  all_goals first
    | (exfalso; omega)
    | exact phase_at _ _ (by dsimp only; omega)
    | rfl

end Cert.OddInIdeal.Tile
-- ==== Proof.In.OddLanes.lean ====
module

public import proofs.«01_k».proof.Proof.Gen.OddInIdeal.Frame
public import proofs.«01_k».proof.Proof.In.Math
public import Idealize.ShloMosaic.Lib.Pipeline.ValueKit

/-! The odd layer's entry in the kernel: what a tile's body computes, element by element. -/

@[expose] public section
set_option maxRecDepth 16384
noncomputable section

namespace Cert.OddInIdeal.Tile
open Idealize.ShloMosaic Idealize.ShloMosaic.TcCoe Idealize.ShloMosaic.Tactic
open Idealize.SL.Sem Cert.OddInIdeal.Gen Cert.Out Cert.Entry

/-- The modulated rows. -/
theorem pay2_apply (mo : Vec Ideal S1x1x6144 .f32) (x : Vec Ideal S1x256x1024 .f32) (g : Vec Ideal S1x1024 .f32)
    (s : Fin 256) (e : Fin 1024) : k0_pay2 mo x g (ix2 s e)
      = Feed.modulated (fun e => x (ix3 0 s e)) (fun e => g (ix2 0 e)) (fun e => mo (ix3 0 0 ⟨1024 + e.val, by omega⟩))
        (fun e => mo (ix3 0 0 ⟨e.val, by omega⟩)) e := by
  unfold Feed.modulated Feed.rms Feed.scale
  pointwise [k0_pay2]

theorem pay3_eq (c : Vec Ideal S256x128 .f32) : k0_pay3 c = c := by
  funext i
  obtain ⟨s, p, rfl⟩ : ∃ (s : Fin 256) (p : Fin 128), i = ix2 s p := ⟨_, _, eq_ix2 i⟩
  pointwise [k0_pay3]

theorem pay7_apply (y : FVec Ideal S256x512 .f32) (s : Fin 256) (k : Fin 512) : k0_pay7 y (ix3 0 s k) = y (ix2 s k) := by
  pointwise [k0_pay7]

theorem pay8_apply (u : FVec Ideal S256x1024 .bf16) (w : Vec Ideal S1024x512 .bf16) (s : Fin 256) (k : Fin 512) :
    k0_pay8 u w (ix3 0 s k) = ∑ e, u (ix2 s e) * w (ix2 e k) := by
  pointwise [k0_pay8]

theorem pay9_apply (u : FVec Ideal S256x1024 .bf16) (w : Vec Ideal S1024x512 .bf16) (s : Fin 256) (k : Fin 512) :
    k0_pay9 u w (ix2 s k) = ∑ e, u (ix2 s e) * w (ix2 e k) := by
  pointwise [k0_pay9]

theorem pay18_apply (u : FVec Ideal S256x1024 .bf16) (w : Vec Ideal S1024x256 .bf16) (s k : Fin 256) :
    k0_pay18 u w (ix2 s k) = ∑ e, u (ix2 s e) * w (ix2 e k) := by
  pointwise [k0_pay18]

/-- 128 lanes turned: by the lane itself, the lane 16 above and the lane 16 below. -/
def turn {F : FTy → Type} [FloatOps F] (z c sa sb : FVec F S256x128 .f32) : FVec F S256x128 .f32 :=
  addf (addf (mulf z c) (mulf (dynamicRotate 1 112#32 none z rotates_S256x128_d1) sa))
    (mulf (dynamicRotate 1 16#32 none z rotates_S256x128_d1) sb)

theorem turn_apply (z c sa sb : FVec Ideal S256x128 .f32) (s : Fin 256) (p : Fin 128) : turn z c sa sb (ix2 s p)
    = lane (fun p => z (ix2 s p)) (fun p => c (ix2 s p)) (fun p => sa (ix2 s p)) (fun p => sb (ix2 s p)) p := by
  unfold lane
  pointwise [turn]
  have e1 : (⟨(p.val + 128 - 112) % 128, by omega⟩ : Fin 128) = ⟨(p.val + 16) % 128, by omega⟩ := Fin.ext (by
    show (p.val + 128 - 112) % 128 = (p.val + 16) % 128; omega)
  have e2 : (⟨(p.val + 128 - 16) % 128, by omega⟩ : Fin 128) = ⟨(p.val + 112) % 128, by omega⟩ := Fin.ext (by
    show (p.val + 128 - 16) % 128 = (p.val + 112) % 128; omega)
  rw [e1, e2]

/-- The test of a column of the values for the one: its remainder by 128, made non-negative, is 64. -/
def flag (v : BitVec 32) : BitVec 1 :=
  let n : BitVec 32 := Scalar.select (Scalar.cmpi .eq 128#32 0#32) 1#32 128#32
  let r : BitVec 32 := IntOp.remsi ArithUnit.vector v n
  IntOp.cmpi .eq (Scalar.select (IntOp.andi (IntOp.xori (IntOp.cmpi .slt r 0#32) (Scalar.cmpi .slt n 0#32)) (IntOp.cmpi .ne r 0#32))
    (IntOp.addi r n) r) 64#32

theorem flag_eq : ∀ k : Fin 256, flag (BitVec.ofNat 32 k.val) = if k.val % 128 = 64 then 1#1 else 0#1 := by decide +kernel

theorem pay1_apply (y : FVec Ideal S256x256 .f32) (s k : Fin 256) :
    k0_pay1 y (iota .tc S256x256 32 [1] iota_S256x256_d1_w32) 128#32 (ix3 0 s k) = if k.val % 128 = 64 then 1 else y (ix2 s k) := by
  pointwise [k0_pay1]
  have e : ∀ v, v = BitVec.ofNat 32 k.val → Scalar.select (flag v) (1 : EReal) (y (ix2 s k)) = if k.val % 128 = 64 then 1 else y (ix2 s k) := by
    rintro v rfl
    rw [flag_eq]
    by_cases h : k.val % 128 = 64
    · rw [if_pos h, if_pos h]
      rfl
    · rw [if_neg h, if_neg h]
      rfl
  exact e _ rfl

/-- Columns `128 h …` of a product. -/
def cols (z : FVec Ideal S256x512 .f32) (h : Fin 4) : FVec Ideal S256x128 .f32 := fun i => z (ix2 (i 0) ⟨128 * h.val + (i 1).val, by
  have : (i 1).val < 128 := (i 1).isLt
  omega⟩)

theorem slice_cols (z : FVec Ideal S256x512 .f32) (h : Fin 4) (n : ℕ) (hs : Shape.Slices S256x512 ![0, n] S256x128)
    (hn : n = 128 * h.val) : extractStridedSlice S256x128 ![0, n] z hs = cols z h := by
  subst hn
  funext y
  obtain ⟨s, k, rfl⟩ : ∃ (s : Fin 256) (k : Fin 128), y = ix2 s k := ⟨_, _, eq_ix2 y⟩
  refine (extractStridedSlice_apply _ z hs (ix2 s k) (ix2 s ⟨128 * h.val + k.val, by omega⟩) fun a => ?_).trans rfl
  fin_cases a
  · show s.val = 0 + s.val
    omega
  · rfl

/-- … of the keys'. -/
def cols' (z : FVec Ideal S256x256 .f32) (h : Fin 2) : FVec Ideal S256x128 .f32 := fun i => z (ix2 (i 0) ⟨128 * h.val + (i 1).val, by
  have : (i 1).val < 128 := (i 1).isLt
  omega⟩)

theorem slice_cols' (z : FVec Ideal S256x256 .f32) (h : Fin 2) (n : ℕ) (hs : Shape.Slices S256x256 ![0, n] S256x128)
    (hn : n = 128 * h.val) : extractStridedSlice S256x128 ![0, n] z hs = cols' z h := by
  subst hn
  funext y
  obtain ⟨s, k, rfl⟩ : ∃ (s : Fin 256) (k : Fin 128), y = ix2 s k := ⟨_, _, eq_ix2 y⟩
  refine (extractStridedSlice_apply _ z hs (ix2 s k) (ix2 s ⟨128 * h.val + k.val, by omega⟩) fun a => ?_).trans rfl
  fin_cases a
  · show s.val = 0 + s.val
    omega
  · rfl

section
variable {F : FTy → Type} [FloatOps F]

/-- The queries' four pieces side by side, times their scale. -/
def scaled (a b c d : FVec F S256x128 .f32) : FVec F S256x512 .f32 :=
  mulf (concatenate S256x512 1 [⟨S256x128, a⟩, ⟨S256x128, b⟩, ⟨S256x128, c⟩, ⟨S256x128, d⟩]
    concatenates_S256x128_S256x128_S256x128_S256x128_S256x512_d1) (broadcast S256x512 (Scalar.ofBits .f32 0x3E38AA3B#32))

/-- The keys' two. -/
def both (a b : FVec F S256x128 .f32) : FVec F S256x256 .f32 :=
  concatenate S256x256 1 [⟨S256x128, a⟩, ⟨S256x128, b⟩] concatenates_S256x128_S256x128_S256x256_d1

theorem queries_eq (u : FVec F S256x1024 .bf16) (c sa sb : FVec F S256x128 .f32) (w : Vec F S1024x512 .bf16) :
    k0_pay16 sb (k0_pay10 u c sa sb w) (k0_pay11 u c sa sb w) (k0_pay12 u c sa sb w) (k0_pay13 u w) (k0_pay14 u c w) (k0_pay15 u sa w)
      = shapeCast S1x256x512 (truncf .bf16 (scaled
        (turn (extractStridedSlice S256x128 ![0, 0] (k0_pay9 u w) slices_S256x512_o0_0_S256x128) c sa sb)
        (turn (extractStridedSlice S256x128 ![0, 128] (k0_pay9 u w) slices_S256x512_o0_128_S256x128) c sa sb)
        (turn (extractStridedSlice S256x128 ![0, 256] (k0_pay9 u w) slices_S256x512_o0_256_S256x128) c sa sb)
        (turn (extractStridedSlice S256x128 ![0, 384] (k0_pay9 u w) slices_S256x512_o0_384_S256x128) c sa sb)) bitsLt_bf16_f32)
        shapeCasts_S256x512_S1x256x512 := rfl

theorem keys_eq (u : FVec F S256x1024 .bf16) (c sa sb : FVec F S256x128 .f32) (w : Vec F S1024x256 .bf16) :
    k0_pay17 u c sa sb w
      = shapeCast S1x256x256 (truncf .bf16 (both
        (turn (extractStridedSlice S256x128 ![0, 0] (k0_pay18 u w) slices_S256x256_o0_0_S256x128) c sa sb)
        (turn (extractStridedSlice S256x128 ![0, 128] (k0_pay18 u w) slices_S256x256_o0_128_S256x128) c sa sb)) bitsLt_bf16_f32)
        shapeCasts_S256x256_S1x256x256 := rfl
end

theorem scaled_apply (a : Fin 4 → FVec Ideal S256x128 .f32) (s : Fin 256) (k : Fin 512) :
    scaled (a 0) (a 1) (a 2) (a 3) (ix2 s k)
      = a ⟨k.val / 128, by omega⟩ (ix2 s ⟨k.val % 128, by omega⟩) * Ideal.ofBits .f32 0x3E38AA3B#32 := by
  pointwise [scaled]
  refine congrArg (· * _) ?_
  by_cases h0 : k.val < 128
  · rw [dif_pos h0]
    exact congrArg₂ (fun h j => a h (ix2 s j)) (Fin.ext (by show 0 = k.val / 128; omega)) (Fin.ext (by show k.val = k.val % 128; omega))
  rw [dif_neg h0]
  by_cases h1 : k.val - 128 < 128
  · rw [dif_pos h1]
    exact congrArg₂ (fun h j => a h (ix2 s j)) (Fin.ext (by show 1 = k.val / 128; omega))
      (Fin.ext (by show k.val - 128 = k.val % 128; omega))
  rw [dif_neg h1]
  by_cases h2 : k.val - 128 - 128 < 128
  · rw [dif_pos h2]
    exact congrArg₂ (fun h j => a h (ix2 s j)) (Fin.ext (by show 2 = k.val / 128; omega))
      (Fin.ext (by show k.val - 128 - 128 = k.val % 128; omega))
  rw [dif_neg h2]
  exact congrArg₂ (fun h j => a h (ix2 s j)) (Fin.ext (by show 3 = k.val / 128; omega))
    (Fin.ext (by show k.val - 128 - 128 - 128 = k.val % 128; omega))

theorem both_apply (a : Fin 2 → FVec Ideal S256x128 .f32) (s k : Fin 256) :
    both (a 0) (a 1) (ix2 s k) = a ⟨k.val / 128, by omega⟩ (ix2 s ⟨k.val % 128, by omega⟩) := by
  pointwise [both]
  by_cases h0 : k.val < 128
  · rw [dif_pos h0]
    exact congrArg₂ (fun h j => a h (ix2 s j)) (Fin.ext (by show 0 = k.val / 128; omega)) (Fin.ext (by show k.val = k.val % 128; omega))
  rw [dif_neg h0]
  exact congrArg₂ (fun h j => a h (ix2 s j)) (Fin.ext (by show 1 = k.val / 128; omega))
    (Fin.ext (by show k.val - 128 = k.val % 128; omega))

theorem cast512 (y : FVec Ideal S256x512 .f32) (s : Fin 256) (k : Fin 512) :
    shapeCast S1x256x512 (truncf .bf16 y bitsLt_bf16_f32) shapeCasts_S256x512_S1x256x512 (ix3 0 s k) = y (ix2 s k) := by
  pointwise

theorem cast256 (y : FVec Ideal S256x256 .f32) (s k : Fin 256) :
    shapeCast S1x256x256 (truncf .bf16 y bitsLt_bf16_f32) shapeCasts_S256x256_S1x256x256 (ix3 0 s k) = y (ix2 s k) := by
  pointwise

/-- The queries of a tile. -/
theorem queries_apply (u : FVec Ideal S256x1024 .bf16) (c sa sb : FVec Ideal S256x128 .f32) (w : Vec Ideal S1024x512 .bf16)
    (s : Fin 256) (k : Fin 512) :
    k0_pay16 sb (k0_pay10 u c sa sb w) (k0_pay11 u c sa sb w) (k0_pay12 u c sa sb w) (k0_pay13 u w) (k0_pay14 u c w) (k0_pay15 u sa w)
      (ix3 0 s k)
      = lane (fun p => ∑ e, u (ix2 s e) * w (ix2 e ⟨128 * (k.val / 128) + p.val, by omega⟩)) (fun p => c (ix2 s p)) (fun p => sa (ix2 s p))
        (fun p => sb (ix2 s p)) ⟨k.val % 128, by omega⟩ * Ideal.ofBits .f32 0x3E38AA3B#32 := by
  rw [queries_eq, cast512, slice_cols _ 0 0 _ rfl, slice_cols _ 1 128 _ rfl, slice_cols _ 2 256 _ rfl, slice_cols _ 3 384 _ rfl]
  refine (scaled_apply (fun h => turn (cols (k0_pay9 u w) h) c sa sb) s k).trans (congrArg (· * _) ?_)
  rw [turn_apply]
  simp only [← pay9_apply]
  rfl

/-- The keys of a tile. -/
theorem keys_apply (u : FVec Ideal S256x1024 .bf16) (c sa sb : FVec Ideal S256x128 .f32) (w : Vec Ideal S1024x256 .bf16)
    (s k : Fin 256) : k0_pay17 u c sa sb w (ix3 0 s k)
      = lane (fun p => ∑ e, u (ix2 s e) * w (ix2 e ⟨128 * (k.val / 128) + p.val, by omega⟩)) (fun p => c (ix2 s p)) (fun p => sa (ix2 s p))
        (fun p => sb (ix2 s p)) ⟨k.val % 128, by omega⟩ := by
  rw [keys_eq, cast256, slice_cols' _ 0 0 _ rfl, slice_cols' _ 1 128 _ rfl]
  refine (both_apply (fun h => turn (cols' (k0_pay18 u w) h) c sa sb) s k).trans ?_
  rw [turn_apply]
  simp only [← pay18_apply]
  rfl

end Cert.OddInIdeal.Tile
-- ==== Proof.In.OddBody.lean ====
module

public import proofs.«01_k».proof.Proof.Gen.OddInIdeal.Value
public import proofs.«01_k».proof.Proof.In.OddLanes

/-! The odd layer's entry: what a tile leaves in the five outputs' blocks. -/

@[expose] public section
set_option maxRecDepth 16384
noncomputable section

namespace Cert.OddInIdeal.Tile
open Idealize.ShloMosaic Idealize.ShloMosaic.TcCoe Idealize.ShloMosaic.Tactic
open Idealize.SL.Sem Cert.OddInIdeal.Gen Cert.Out Cert.Entry

section
variable (x : Vec Ideal S1x256x1024 .f32) (mo : Vec Ideal S1x1x6144 .f32) (g : Vec Ideal S1x1024 .f32)
  (tc ta tb : Vec Ideal S256x128 .f32) (wr : Vec Ideal S1024x1024 .bf16) (wq wkv : Vec Ideal S1024x512 .bf16)

/-- The tile's modulated row, from its blocks. -/
def row (s : Fin 256) : Fin 1024 → EReal :=
  Feed.modulated (fun e => x (ix3 0 s e)) (fun e => g (ix2 0 e)) (fun e => mo (ix3 0 0 ⟨1024 + e.val, by omega⟩))
    (fun e => mo (ix3 0 0 ⟨e.val, by omega⟩))

/-! The loads that are halves of the weights. -/

theorem ld4 (k : Fin 1024) (d : Fin 512) : View.ld wr r0_4 (ix2 k d) = wr (ix2 k (⟨d.val, by omega⟩ : Fin 1024)) := by
  unfold r0_4
  pointwise
theorem ld6 (k : Fin 1024) (d : Fin 512) : View.ld wr r0_6 (ix2 k d) = wr (ix2 k (⟨512 + d.val, by omega⟩ : Fin 1024)) := by
  unfold r0_6
  pointwise
theorem ld8 (k : Fin 1024) (d : Fin 256) : View.ld wkv r0_8 (ix2 k d) = wkv (ix2 k (⟨d.val, by omega⟩ : Fin 512)) := by
  unfold r0_8
  pointwise
theorem ld10 (k : Fin 1024) (d : Fin 256) : View.ld wkv r0_10 (ix2 k d) = wkv (ix2 k (⟨256 + d.val, by omega⟩ : Fin 512)) := by
  unfold r0_10
  pointwise

theorem rows (s : Fin 256) (e : Fin 1024) : k0_pay2 mo x g (ix2 s e) = row x mo g s e := by
  rw [pay2_apply]
  rfl

/-! What the body leaves in the five outputs' blocks. -/

theorem block9 (s : Fin 256) (k : Fin 512) : out0_9 x mo g tc ta tb wr wq wkv (ix3 0 s k)
    = ∑ e, row x mo g s e * wr (ix2 e (⟨k.val, by omega⟩ : Fin 1024)) := by
  unfold_out out0_9
  frame_out
  rw [pay7_apply]
  refine (pay9_apply (k0_pay2 mo x g) (View.ld wr r0_4) s k).trans ?_
  exact Finset.sum_congr rfl fun e _ => congrArg₂ (· * ·) (rows x mo g s e) (ld4 wr e k)

theorem block10 (s : Fin 256) (k : Fin 512) : out0_10 x mo g tc ta tb wr wq wkv (ix3 0 s k)
    = ∑ e, row x mo g s e * wr (ix2 e (⟨512 + k.val, by omega⟩ : Fin 1024)) := by
  unfold_out out0_10
  frame_out
  refine (pay8_apply (k0_pay2 mo x g) (View.ld wr r0_6) s k).trans ?_
  exact Finset.sum_congr rfl fun e _ => congrArg₂ (· * ·) (rows x mo g s e) (ld6 wr e k)

theorem block11 (s : Fin 256) (k : Fin 512) : out0_11 x mo g tc ta tb wr wq wkv (ix3 0 s k)
    = lane (fun p => ∑ e, row x mo g s e * wq (ix2 e ⟨128 * (k.val / 128) + p.val, by omega⟩)) (fun p => tc (ix2 s p))
        (fun p => ta (ix2 s p)) (fun p => tb (ix2 s p)) ⟨k.val % 128, by omega⟩ * Ideal.ofBits .f32 0x3E38AA3B#32 := by
  unfold_out out0_11
  frame_out
  refine (queries_apply (k0_pay2 mo x g) (k0_pay3 tc)
    (k0_pay3 ta) (k0_pay3 tb) wq s k).trans ?_
  simp only [rows, pay3_eq]

theorem block12 (s k : Fin 256) : out0_12 x mo g tc ta tb wr wq wkv (ix3 0 s k)
    = lane (fun p => ∑ e, row x mo g s e * wkv (ix2 e (⟨128 * (k.val / 128) + p.val, by omega⟩ : Fin 512))) (fun p => tc (ix2 s p))
        (fun p => ta (ix2 s p)) (fun p => tb (ix2 s p)) ⟨k.val % 128, by omega⟩ := by
  unfold_out out0_12
  frame_out
  refine (keys_apply (k0_pay2 mo x g) (k0_pay3 tc)
    (k0_pay3 ta) (k0_pay3 tb) (View.ld wkv r0_8) s k).trans ?_
  simp only [rows, pay3_eq]
  exact congrArg (fun z => lane z _ _ _ _) (funext fun p => Finset.sum_congr rfl fun e _ => congrArg (_ * ·) (ld8 wkv e _))

theorem block13 (s k : Fin 256) : out0_13 x mo g tc ta tb wr wq wkv (ix3 0 s k)
    = if k.val % 128 = 64 then 1 else ∑ e, row x mo g s e * wkv (ix2 e (⟨256 + k.val, by omega⟩ : Fin 512)) := by
  unfold_out out0_13
  frame_out
  refine (pay1_apply _ s k).trans ?_
  refine congrArg (ite (k.val % 128 = 64) 1) ?_
  refine (pay18_apply (k0_pay2 mo x g) (View.ld wkv r0_10) s k).trans ?_
  exact Finset.sum_congr rfl fun e _ => congrArg₂ (· * ·) (rows x mo g s e) (ld10 wkv e k)
end

end Cert.OddInIdeal.Tile
-- ==== Proof.In.OddFinal.lean ====
module

public import proofs.«01_k».proof.Proof.In.OddBlocks
public import proofs.«01_k».proof.Proof.In.OddHost
public import proofs.«01_k».proof.Proof.In.OddBody

/-! The odd layer's entry, the five arrays after the run: every element is that of its token. -/

@[expose] public section
set_option maxRecDepth 16384
noncomputable section

namespace Cert.OddInIdeal.Tile
open Idealize.ShloMosaic Idealize.ShloMosaic.TcCoe Idealize.ShloMosaic.Tactic
open Idealize.SL.Sem Cert.OddInIdeal.Gen Cert.Out Cert.Entry

variable (m : (ℓ : Loc nD τ sig) → Buf (Elt Ideal) ℓ)

/-- The blocks' row is the token's. -/
theorem row_eq (c : Dev nD) (t : Fin cfg0.N) (s : Fin 256) : row (iblk m c 0 t) (iblk m c 1 t) (iblk m c 2 t) s = tok (m ((c : Thread nD τ).loc main_arg0)) (m ((c : Thread nD τ).loc main_arg1)) (m ((c : Thread nD τ).loc main_arg2)) (seq t) (pos t s) := by
  unfold row tok
  simp only [iblk0_apply, iblk1_apply m c t s, iblk2_apply]
  rw [V_main_arg0, V_main_arg1]
  exact congrArg (fun g : Fin 1024 → EReal => Feed.modulated _ g _ _) (funext fun e => v20_apply m c e)

/-- A product with a column whose elements are those of the weight's column is the projection on it. -/
theorem sum_at (u : Fin 1024 → EReal) (w : WOdd) (f : Fin 1024 → EReal) (j : Fin 1792) (h : ∀ e, f e = w (ix2 e j)) :
    ∑ e, u e * f e = proj u w j :=
  Finset.sum_congr rfl fun e _ => congrArg (u e * ·) (h e)

/-- The first columns of the pairs are the keys'. -/
theorem pairs_key (w : WOdd) (e : Fin 1024) (d : Fin 512) (h : d.val < 256) :
    pairs w e d = w (ix2 e ⟨1536 + 64 * (d.val / 128) + d.val % 64, by omega⟩) := dif_pos h

/-- The other columns of the pairs give the values, a one after each. -/
theorem pairs_value (u : Fin 1024 → EReal) (w : WOdd) (k : Fin 256) :
    (if k.val % 128 = 64 then (1 : EReal) else ∑ e, u e * pairs w e (⟨256 + k.val, by omega⟩ : Fin 512)) = value u w k := by
  unfold value pairs
  simp only [dif_neg (show ¬256 + k.val < 256 by omega)]
  by_cases h : k.val % 128 = 64
  · rw [if_pos h, dif_neg (by omega), if_pos h]
  rw [if_neg h]
  by_cases h' : k.val % 128 < 64
  · rw [dif_pos h']
    refine sum_at _ _ _ _ fun e => ?_
    rw [dif_pos (by omega)]
    exact weight_at _ _ (by dsimp only; omega)
  · rw [dif_neg h', if_neg h]
    refine Finset.sum_eq_zero fun e _ => ?_
    rw [dif_neg (by omega), mul_zero]

/-! The blocks' tables are the token's. -/

theorem tabC_eq (c : Dev nD) (t : Fin cfg0.N) (s : Fin 256) :
    (fun p : Fin 128 => (iblk m c 3 t (ix2 s p) : EReal)) = tabC (m ((c : Thread nD τ).loc main_arg3)) (m ((c : Thread nD τ).loc main_arg4)) (m ((c : Thread nD τ).loc main_arg5)) (m ((c : Thread nD τ).loc main_arg6)) (pos t s) :=
  funext fun p => (iblk3_apply m c t s p).trans (v24_apply m c _ p)

theorem tabA_eq (c : Dev nD) (t : Fin cfg0.N) (s : Fin 256) :
    (fun p : Fin 128 => (iblk m c 4 t (ix2 s p) : EReal)) = tabA (m ((c : Thread nD τ).loc main_arg3)) (m ((c : Thread nD τ).loc main_arg4)) (m ((c : Thread nD τ).loc main_arg5)) (m ((c : Thread nD τ).loc main_arg6)) (pos t s) :=
  funext fun p => (iblk4_apply m c t s p).trans (v29_apply m c _ p)

theorem tabB_eq (c : Dev nD) (t : Fin cfg0.N) (s : Fin 256) :
    (fun p : Fin 128 => (iblk m c 5 t (ix2 s p) : EReal)) = tabB (m ((c : Thread nD τ).loc main_arg3)) (m ((c : Thread nD τ).loc main_arg4)) (m ((c : Thread nD τ).loc main_arg5)) (m ((c : Thread nD τ).loc main_arg6)) (pos t s) :=
  funext fun p => (iblk5_apply m c t s p).trans (v32_apply m c _ p)

/-! The output elements of a point. -/

theorem point9 (c : Dev nD) (t : Fin cfg0.N) (s : Fin 256) (k : Fin 512) :
    (dats m 0 c).after 9 t (ix3 0 s k) = proj (tok (m ((c : Thread nD τ).loc main_arg0)) (m ((c : Thread nD τ).loc main_arg1)) (m ((c : Thread nD τ).loc main_arg2)) (seq t) (pos t s)) (m ((c : Thread nD τ).loc main_arg7)) ⟨k.val, by omega⟩ := by
  rw [after0_9, block9, row_eq]
  exact sum_at _ _ _ _ fun e => ((iblk6_apply m c t e _).trans (v1_apply m c e _))

theorem point10 (c : Dev nD) (t : Fin cfg0.N) (s : Fin 256) (k : Fin 512) :
    (dats m 0 c).after 10 t (ix3 0 s k) = proj (tok (m ((c : Thread nD τ).loc main_arg0)) (m ((c : Thread nD τ).loc main_arg1)) (m ((c : Thread nD τ).loc main_arg2)) (seq t) (pos t s)) (m ((c : Thread nD τ).loc main_arg7)) ⟨512 + k.val, by omega⟩ := by
  rw [after0_10, block10, row_eq]
  exact sum_at _ _ _ _ fun e => ((iblk6_apply m c t e _).trans (v1_apply m c e _))

theorem point11 (c : Dev nD) (t : Fin cfg0.N) (s : Fin 256) (k : Fin 512) :
    (dats m 0 c).after 11 t (ix3 0 s k) = query (m ((c : Thread nD τ).loc main_arg3)) (m ((c : Thread nD τ).loc main_arg4)) (m ((c : Thread nD τ).loc main_arg5)) (m ((c : Thread nD τ).loc main_arg6)) (pos t s) (tok (m ((c : Thread nD τ).loc main_arg0)) (m ((c : Thread nD τ).loc main_arg1)) (m ((c : Thread nD τ).loc main_arg2)) (seq t) (pos t s)) (m ((c : Thread nD τ).loc main_arg7)) k := by
  rw [after0_11, block11, row_eq, tabC_eq, tabA_eq, tabB_eq]
  have ez : (fun p : Fin 128 => ∑ e, (tok (m ((c : Thread nD τ).loc main_arg0)) (m ((c : Thread nD τ).loc main_arg1)) (m ((c : Thread nD τ).loc main_arg2)) (seq t) (pos t s)) e * (iblk m c 7 t (ix2 e ⟨128 * (k.val / 128) + p.val, by omega⟩) : EReal))
      = fun p => proj (tok (m ((c : Thread nD τ).loc main_arg0)) (m ((c : Thread nD τ).loc main_arg1)) (m ((c : Thread nD τ).loc main_arg2)) (seq t) (pos t s)) (m ((c : Thread nD τ).loc main_arg7)) ⟨1024 + (128 * (k.val / 128) + p.val), by omega⟩ :=
    funext fun p => sum_at _ _ _ _ fun e => ((iblk7_apply m c t e _).trans (v3_apply m c e _))
  rw [ez, lane_rotated]
  unfold query
  exact congrArg (· * _) (congrArg₂ (rotated _ _ _ _ _)
    (funext fun e => congrArg (proj _ _) (Fin.ext (by dsimp only; omega))) (Fin.ext (by dsimp only; omega)))

theorem point12 (c : Dev nD) (t : Fin cfg0.N) (s k : Fin 256) :
    (dats m 0 c).after 12 t (ix3 0 s k) = key (m ((c : Thread nD τ).loc main_arg3)) (m ((c : Thread nD τ).loc main_arg4)) (m ((c : Thread nD τ).loc main_arg5)) (m ((c : Thread nD τ).loc main_arg6)) (pos t s) (tok (m ((c : Thread nD τ).loc main_arg0)) (m ((c : Thread nD τ).loc main_arg1)) (m ((c : Thread nD τ).loc main_arg2)) (seq t) (pos t s)) (m ((c : Thread nD τ).loc main_arg7)) k := by
  rw [after0_12, block12, row_eq, tabC_eq, tabA_eq, tabB_eq]
  have ez : (fun p : Fin 128 => ∑ e, (tok (m ((c : Thread nD τ).loc main_arg0)) (m ((c : Thread nD τ).loc main_arg1)) (m ((c : Thread nD τ).loc main_arg2)) (seq t) (pos t s)) e * (iblk m c 8 t (ix2 e (⟨128 * (k.val / 128) + p.val, by omega⟩ : Fin 512)) : EReal))
      = fun p => proj (tok (m ((c : Thread nD τ).loc main_arg0)) (m ((c : Thread nD τ).loc main_arg1)) (m ((c : Thread nD τ).loc main_arg2)) (seq t) (pos t s)) (m ((c : Thread nD τ).loc main_arg7)) ⟨1536 + 64 * ((128 * (k.val / 128) + p.val) / 128) + (128 * (k.val / 128) + p.val) % 64, by omega⟩ :=
    funext fun p => sum_at _ _ _ _ fun e => ((iblk8_apply m c t e _).trans (v19_apply m c e _)).trans
      (pairs_key _ e _ (show 128 * (k.val / 128) + p.val < 256 by omega))
  rw [ez, lane_rotated]
  unfold key
  exact congrArg₂ (rotated _ _ _ _ _)
    (funext fun e => congrArg (proj _ _) (Fin.ext (by dsimp only; omega))) (Fin.ext (by dsimp only; omega))

theorem point13 (c : Dev nD) (t : Fin cfg0.N) (s k : Fin 256) :
    (dats m 0 c).after 13 t (ix3 0 s k) = value (tok (m ((c : Thread nD τ).loc main_arg0)) (m ((c : Thread nD τ).loc main_arg1)) (m ((c : Thread nD τ).loc main_arg2)) (seq t) (pos t s)) (m ((c : Thread nD τ).loc main_arg7)) k := by
  rw [after0_13, block13, row_eq]
  have e8 : ∀ e : Fin 1024, (iblk m c 8 t (ix2 e (⟨256 + k.val, by omega⟩ : Fin 512)) : EReal) = pairs (m ((c : Thread nD τ).loc main_arg7)) e ⟨256 + k.val, by omega⟩ :=
    fun e => (iblk8_apply m c t e _).trans (v19_apply m c e _)
  simp only [e8]
  exact pairs_value _ _ k

/-! The arrays after the run. -/

/-- The elements of array 9 … -/
def arr9 (c : Dev nD) (b : Fin 8) (l : Fin 4352) (k : Fin 512) : EReal :=
  proj (tok (m ((c : Thread nD τ).loc main_arg0)) (m ((c : Thread nD τ).loc main_arg1)) (m ((c : Thread nD τ).loc main_arg2)) b l) (m ((c : Thread nD τ).loc main_arg7)) (⟨(k : Fin 512).val, by omega⟩ : Fin 1792)

/-- … are its after the run. -/
theorem final9 (c : Dev nD) : (dats m 0 c).arrAt 9 cfg0.N = fun i => arr9 m c (i 0) (i 1) (i 2) := by
  refine (dats m 0 c).arrAt_eq_of_covers 9 _ (by decide +kernel) fun t hf y => ?_
  obtain ⟨s, d, rfl⟩ : ∃ (s : Fin 256) (d : Fin 512), y = ix3 0 s d :=
    ⟨y 1, y 2, (eq_ix3 y).trans (congrArg (fun z : Fin 1 => ix3 z (y 1) (y 2)) (Subsingleton.elim _ _))⟩
  refine Eq.trans ?_ ((point9 m c t s d).trans (b := arr9 m c (seq t) (pos t s) d) ?_)
  · blk_simp
  · have c0 : (((cfg0.win 9).blk t).view.emb (ix3 0 s d) 0).val = t.val / 17 := by
      blk_simp [(idx t).2.2.2.2.2.2.2.2.2.1]
      rfl
    have c1 : (((cfg0.win 9).blk t).view.emb (ix3 0 s d) 1).val = 256 * (t.val % 17) + s.val := by
      blk_simp [(idx t).2.2.2.2.2.2.2.2.2.1]
      omega
    have c2 : (((cfg0.win 9).blk t).view.emb (ix3 0 s d) 2).val = d.val := by
      blk_simp [(idx t).2.2.2.2.2.2.2.2.2.1]
    generalize ((cfg0.win 9).blk t).view.emb (ix3 0 s d) = z at c0 c1 c2
    have z0 : seq t = z 0 := Fin.ext c0.symm
    have z1 : pos t s = z 1 := Fin.ext c1.symm
    have z2 : d = z 2 := Fin.ext c2.symm
    rw [z0, z1]
    exact congrArg (arr9 m c _ _) z2

/-- The elements of array 10 … -/
def arr10 (c : Dev nD) (b : Fin 8) (l : Fin 4352) (k : Fin 512) : EReal :=
  proj (tok (m ((c : Thread nD τ).loc main_arg0)) (m ((c : Thread nD τ).loc main_arg1)) (m ((c : Thread nD τ).loc main_arg2)) b l) (m ((c : Thread nD τ).loc main_arg7)) (⟨512 + (k : Fin 512).val, by omega⟩ : Fin 1792)

/-- … are its after the run. -/
theorem final10 (c : Dev nD) : (dats m 0 c).arrAt 10 cfg0.N = fun i => arr10 m c (i 0) (i 1) (i 2) := by
  refine (dats m 0 c).arrAt_eq_of_covers 10 _ (by decide +kernel) fun t hf y => ?_
  obtain ⟨s, d, rfl⟩ : ∃ (s : Fin 256) (d : Fin 512), y = ix3 0 s d :=
    ⟨y 1, y 2, (eq_ix3 y).trans (congrArg (fun z : Fin 1 => ix3 z (y 1) (y 2)) (Subsingleton.elim _ _))⟩
  refine Eq.trans ?_ ((point10 m c t s d).trans (b := arr10 m c (seq t) (pos t s) d) ?_)
  · blk_simp
  · have c0 : (((cfg0.win 10).blk t).view.emb (ix3 0 s d) 0).val = t.val / 17 := by
      blk_simp [(idx t).2.2.2.2.2.2.2.2.2.2.1]
      rfl
    have c1 : (((cfg0.win 10).blk t).view.emb (ix3 0 s d) 1).val = 256 * (t.val % 17) + s.val := by
      blk_simp [(idx t).2.2.2.2.2.2.2.2.2.2.1]
      omega
    have c2 : (((cfg0.win 10).blk t).view.emb (ix3 0 s d) 2).val = d.val := by
      blk_simp [(idx t).2.2.2.2.2.2.2.2.2.2.1]
    generalize ((cfg0.win 10).blk t).view.emb (ix3 0 s d) = z at c0 c1 c2
    have z0 : seq t = z 0 := Fin.ext c0.symm
    have z1 : pos t s = z 1 := Fin.ext c1.symm
    have z2 : d = z 2 := Fin.ext c2.symm
    rw [z0, z1]
    exact congrArg (arr10 m c _ _) z2

/-- The elements of array 11 … -/
def arr11 (c : Dev nD) (b : Fin 8) (l : Fin 4352) (k : Fin 512) : EReal :=
  query (m ((c : Thread nD τ).loc main_arg3)) (m ((c : Thread nD τ).loc main_arg4)) (m ((c : Thread nD τ).loc main_arg5)) (m ((c : Thread nD τ).loc main_arg6)) l (tok (m ((c : Thread nD τ).loc main_arg0)) (m ((c : Thread nD τ).loc main_arg1)) (m ((c : Thread nD τ).loc main_arg2)) b l) (m ((c : Thread nD τ).loc main_arg7)) k

/-- … are its after the run. -/
theorem final11 (c : Dev nD) : (dats m 0 c).arrAt 11 cfg0.N = fun i => arr11 m c (i 0) (i 1) (i 2) := by
  refine (dats m 0 c).arrAt_eq_of_covers 11 _ (by decide +kernel) fun t hf y => ?_
  obtain ⟨s, d, rfl⟩ : ∃ (s : Fin 256) (d : Fin 512), y = ix3 0 s d :=
    ⟨y 1, y 2, (eq_ix3 y).trans (congrArg (fun z : Fin 1 => ix3 z (y 1) (y 2)) (Subsingleton.elim _ _))⟩
  refine Eq.trans ?_ ((point11 m c t s d).trans (b := arr11 m c (seq t) (pos t s) d) ?_)
  · blk_simp
  · have c0 : (((cfg0.win 11).blk t).view.emb (ix3 0 s d) 0).val = t.val / 17 := by
      blk_simp [(idx t).2.2.2.2.2.2.2.2.2.2.2.1]
      rfl
    have c1 : (((cfg0.win 11).blk t).view.emb (ix3 0 s d) 1).val = 256 * (t.val % 17) + s.val := by
      blk_simp [(idx t).2.2.2.2.2.2.2.2.2.2.2.1]
      omega
    have c2 : (((cfg0.win 11).blk t).view.emb (ix3 0 s d) 2).val = d.val := by
      blk_simp [(idx t).2.2.2.2.2.2.2.2.2.2.2.1]
    generalize ((cfg0.win 11).blk t).view.emb (ix3 0 s d) = z at c0 c1 c2
    have z0 : seq t = z 0 := Fin.ext c0.symm
    have z1 : pos t s = z 1 := Fin.ext c1.symm
    have z2 : d = z 2 := Fin.ext c2.symm
    rw [z0, z1]
    exact congrArg (arr11 m c _ _) z2

/-- The elements of array 12 … -/
def arr12 (c : Dev nD) (b : Fin 8) (l : Fin 4352) (k : Fin 256) : EReal :=
  key (m ((c : Thread nD τ).loc main_arg3)) (m ((c : Thread nD τ).loc main_arg4)) (m ((c : Thread nD τ).loc main_arg5)) (m ((c : Thread nD τ).loc main_arg6)) l (tok (m ((c : Thread nD τ).loc main_arg0)) (m ((c : Thread nD τ).loc main_arg1)) (m ((c : Thread nD τ).loc main_arg2)) b l) (m ((c : Thread nD τ).loc main_arg7)) k

/-- … are its after the run. -/
theorem final12 (c : Dev nD) : (dats m 0 c).arrAt 12 cfg0.N = fun i => arr12 m c (i 0) (i 1) (i 2) := by
  refine (dats m 0 c).arrAt_eq_of_covers 12 _ (by decide +kernel) fun t hf y => ?_
  obtain ⟨s, d, rfl⟩ : ∃ (s : Fin 256) (d : Fin 256), y = ix3 0 s d :=
    ⟨y 1, y 2, (eq_ix3 y).trans (congrArg (fun z : Fin 1 => ix3 z (y 1) (y 2)) (Subsingleton.elim _ _))⟩
  refine Eq.trans ?_ ((point12 m c t s d).trans (b := arr12 m c (seq t) (pos t s) d) ?_)
  · blk_simp
  · have c0 : (((cfg0.win 12).blk t).view.emb (ix3 0 s d) 0).val = t.val / 17 := by
      blk_simp [(idx t).2.2.2.2.2.2.2.2.2.2.2.2.1]
      rfl
    have c1 : (((cfg0.win 12).blk t).view.emb (ix3 0 s d) 1).val = 256 * (t.val % 17) + s.val := by
      blk_simp [(idx t).2.2.2.2.2.2.2.2.2.2.2.2.1]
      omega
    have c2 : (((cfg0.win 12).blk t).view.emb (ix3 0 s d) 2).val = d.val := by
      blk_simp [(idx t).2.2.2.2.2.2.2.2.2.2.2.2.1]
    generalize ((cfg0.win 12).blk t).view.emb (ix3 0 s d) = z at c0 c1 c2
    have z0 : seq t = z 0 := Fin.ext c0.symm
    have z1 : pos t s = z 1 := Fin.ext c1.symm
    have z2 : d = z 2 := Fin.ext c2.symm
    rw [z0, z1]
    exact congrArg (arr12 m c _ _) z2

/-- The elements of array 13 … -/
def arr13 (c : Dev nD) (b : Fin 8) (l : Fin 4352) (k : Fin 256) : EReal :=
  value (tok (m ((c : Thread nD τ).loc main_arg0)) (m ((c : Thread nD τ).loc main_arg1)) (m ((c : Thread nD τ).loc main_arg2)) b l) (m ((c : Thread nD τ).loc main_arg7)) k

/-- … are its after the run. -/
theorem final13 (c : Dev nD) : (dats m 0 c).arrAt 13 cfg0.N = fun i => arr13 m c (i 0) (i 1) (i 2) := by
  refine (dats m 0 c).arrAt_eq_of_covers 13 _ (by decide +kernel) fun t hf y => ?_
  obtain ⟨s, d, rfl⟩ : ∃ (s : Fin 256) (d : Fin 256), y = ix3 0 s d :=
    ⟨y 1, y 2, (eq_ix3 y).trans (congrArg (fun z : Fin 1 => ix3 z (y 1) (y 2)) (Subsingleton.elim _ _))⟩
  refine Eq.trans ?_ ((point13 m c t s d).trans (b := arr13 m c (seq t) (pos t s) d) ?_)
  · blk_simp
  · have c0 : (((cfg0.win 13).blk t).view.emb (ix3 0 s d) 0).val = t.val / 17 := by
      blk_simp [(idx t).2.2.2.2.2.2.2.2.2.2.2.2.2]
      rfl
    have c1 : (((cfg0.win 13).blk t).view.emb (ix3 0 s d) 1).val = 256 * (t.val % 17) + s.val := by
      blk_simp [(idx t).2.2.2.2.2.2.2.2.2.2.2.2.2]
      omega
    have c2 : (((cfg0.win 13).blk t).view.emb (ix3 0 s d) 2).val = d.val := by
      blk_simp [(idx t).2.2.2.2.2.2.2.2.2.2.2.2.2]
    generalize ((cfg0.win 13).blk t).view.emb (ix3 0 s d) = z at c0 c1 c2
    have z0 : seq t = z 0 := Fin.ext c0.symm
    have z1 : pos t s = z 1 := Fin.ext c1.symm
    have z2 : d = z 2 := Fin.ext c2.symm
    rw [z0, z1]
    exact congrArg (arr13 m c _ _) z2

end Cert.OddInIdeal.Tile
-- ==== Proof.In.OddRefProj.lean ====
module

public import proofs.«01_k».proof.Proof.Gen.OddInReferenceIdeal.Read
public import proofs.«01_k».proof.Proof.In.Math
public import Idealize.ShloMosaic.Lib.KernelVsHost

/-! The odd layer's projection in the reference, element by element. -/

@[expose] public section
set_option maxRecDepth 16384
noncomputable section

namespace Cert.OddInReferenceIdeal.Tile
open Idealize.ShloMosaic Idealize.ShloMosaic.TcCoe
open Cert.OddInReferenceIdeal Cert.OddInReferenceIdeal.Gen Cert.OddInReferenceIdeal.Read Cert.Out Cert.Entry

variable (x0 : Tokens) (x1 : Mods) (x2 : Gain) (x3 x4 x5 x6 : Phases) (x7 : WOdd) (b : Fin 8) (l : Fin 4352)

theorem v12 (e : Fin 1024) : val_main_v12 (F := Ideal) x0 x2 (ix3 b l e)
    = Feed.rms (fun e => x0 (ix3 b l e)) (fun e => x2 (ix1 e)) e := by
  unfold Feed.rms Feed.scale
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

theorem v38 (e : Fin 1024) : val_main_v38 (F := Ideal) x0 x1 x2 (ix3 b l e) = tok x0 x1 x2 b l e := by
  have h := v12 x0 x2 b
  unfold val_main_v38 val_main_v37 val_main_v28 val_main_v24 val_main_v34 val_main_v18 val_main_v29
  generalize val_main_v12 (F := Ideal) x0 x2 = y at h
  unfold tok Feed.modulated modOf
  rw [← h]
  pointwise [val_main_v36, val_main_v35, val_main_v33, val_main_v32, val_main_v31, val_main_v30, val_main_v27, val_main_v26,
    val_main_v25, val_main_v23, val_main_v22, val_main_v21, val_main_v20, val_main_v19, val_main_v17, val_main_v16, val_main_v15,
    val_main_v14, val_main_v13, val_main_cst_2, val_main_cst_3]
  by_cases hl : l.val < 256
  · rw [dif_pos hl, if_pos hl]
  · rw [dif_neg hl, if_neg hl]
    have el : (⟨256 + (l.val - 256), by omega⟩ : Fin 4352) = l := Fin.ext (by show 256 + (l.val - 256) = l.val; omega)
    rw [el]

theorem left39 (c : Fin 1792) (k : Fin 1024) : lidx_main_v39 (ix3 b l c) k = ix3 b l k := by
  funext a; fin_cases a <;> rfl

theorem right39 (c : Fin 1792) (k : Fin 1024) : ridx_main_v39 (ix3 b l c) k = ix2 k c := by
  funext a; fin_cases a <;> rfl

theorem v39 (c : Fin 1792) : val_main_v39 (F := Ideal) x0 x1 x2 x7 (ix3 b l c) = proj (tok x0 x1 x2 b l) x7 c := by
  rw [val_main_v39_apply]
  simp only [left39, right39]
  exact Finset.sum_congr rfl fun k _ => congrArg (· * _) (v38 x0 x1 x2 b l k)

theorem recurrent (k : Fin 512) : val_main_v138 (F := Ideal) x0 x1 x2 x7 (ix3 b l k)
    = proj (tok x0 x1 x2 b l) x7 ⟨k.val, by omega⟩ := by
  rw [← v39 x0 x1 x2 x7]
  unfold val_main_v138
  generalize val_main_v39 (F := Ideal) x0 x1 x2 x7 = z
  pointwise

theorem gate (k : Fin 512) : val_main_v139 (F := Ideal) x0 x1 x2 x7 (ix3 b l k)
    = proj (tok x0 x1 x2 b l) x7 ⟨512 + k.val, by omega⟩ := by
  rw [← v39 x0 x1 x2 x7]
  unfold val_main_v139
  generalize val_main_v39 (F := Ideal) x0 x1 x2 x7 = z
  pointwise

end Cert.OddInReferenceIdeal.Tile
-- ==== Proof.In.OddRefQuarters.lean ====
module

public import proofs.«01_k».proof.Proof.Gen.OddInReferenceIdeal.Read
public import proofs.«01_k».proof.Proof.In.Math
public import Idealize.ShloMosaic.Lib.KernelVsHost

/-! A head of the reference, turned quarter by quarter. -/

@[expose] public section
set_option maxRecDepth 16384
noncomputable section

namespace Cert.OddInReferenceIdeal.Tile
open Idealize.ShloMosaic Idealize.ShloMosaic.TcCoe
open Cert.OddInReferenceIdeal Cert.OddInReferenceIdeal.Gen Cert.OddInReferenceIdeal.Read Cert.Out Cert.Entry

variable (x0 : Tokens) (x1 : Mods) (x2 : Gain) (x3 x4 x5 x6 : Phases) (x7 : WOdd) (b : Fin 8) (l : Fin 4352)

/-- Four quarters side by side are the head turned. -/
theorem quarters_eq (z : Fin 64 → EReal) (c s c' s' : Fin 16 → EReal) (e : Fin 64) :
    (if h : e.val < 16 then z ⟨e.val, by omega⟩ * c ⟨e.val, h⟩ - z ⟨16 + e.val, by omega⟩ * s ⟨e.val, h⟩
      else if h : e.val - 16 < 16 then z ⟨16 + (e.val - 16), by omega⟩ * c ⟨e.val - 16, h⟩ + z ⟨e.val - 16, by omega⟩ * s ⟨e.val - 16, h⟩
      else if h : e.val - 16 - 16 < 16 then
        z ⟨32 + (e.val - 16 - 16), by omega⟩ * c' ⟨e.val - 16 - 16, h⟩ - z ⟨48 + (e.val - 16 - 16), by omega⟩ * s' ⟨e.val - 16 - 16, h⟩
      else z ⟨48 + (e.val - 16 - 16 - 16), by omega⟩ * c' ⟨e.val - 16 - 16 - 16, by omega⟩
        + z ⟨32 + (e.val - 16 - 16 - 16), by omega⟩ * s' ⟨e.val - 16 - 16 - 16, by omega⟩)
      = turned z ⟨c, s, c', s'⟩ e := by
  have hz : ∀ {i j : Nat} (hi : i < 64) (hj : j < 64), i = j → z ⟨i, hi⟩ = z ⟨j, hj⟩ := fun _ _ h => congrArg z (Fin.ext h)
  have hf : ∀ (t : Fin 16 → EReal) {i j : Nat} (hi : i < 16) (hj : j < 16), i = j → t ⟨i, hi⟩ = t ⟨j, hj⟩ :=
    fun t _ _ _ _ h => congrArg t (Fin.ext h)
  unfold turned
  by_cases h1 : e.val < 16
  · rw [dif_pos h1, dif_pos h1]
    exact congrArg₂ (· - ·) rfl (congrArg (· * _) (hz _ _ (by omega)))
  rw [dif_neg h1, dif_neg h1]
  by_cases h2 : e.val < 32
  · rw [dif_pos h2, dif_pos (show e.val - 16 < 16 by omega)]
    exact congrArg₂ (· + ·) (congrArg (· * _) (hz _ _ (by omega))) rfl
  rw [dif_neg h2, dif_neg (show ¬e.val - 16 < 16 by omega)]
  by_cases h3 : e.val < 48
  · rw [dif_pos h3, dif_pos (show e.val - 16 - 16 < 16 by omega)]
    exact congrArg₂ (· - ·) (congrArg₂ (· * ·) (hz _ _ (by omega)) (hf _ _ _ (by omega)))
      (congrArg₂ (· * ·) (hz _ _ (by omega)) (hf _ _ _ (by omega)))
  · rw [dif_neg h3, dif_neg (show ¬e.val - 16 - 16 < 16 by omega)]
    exact congrArg₂ (· + ·) (congrArg₂ (· * ·) (hz _ _ (by omega)) (hf _ _ _ (by omega)))
      (congrArg₂ (· * ·) (hz _ _ (by omega)) (hf _ _ _ (by omega)))

end Cert.OddInReferenceIdeal.Tile
-- ==== Proof.In.OddRefPair.lean ====
module

public import proofs.«01_k».proof.Proof.Gen.OddInReferenceIdeal.Read
public import proofs.«01_k».proof.Proof.In.Math
public import proofs.«01_k».proof.Proof.In.OddRefProj
public import proofs.«01_k».proof.Proof.In.OddRefQuarters
public import Idealize.ShloMosaic.Lib.KernelVsHost

/-! The reference's keys, turned. -/

@[expose] public section
set_option maxRecDepth 16384
noncomputable section

namespace Cert.OddInReferenceIdeal.Tile
open Idealize.ShloMosaic Idealize.ShloMosaic.TcCoe
open Cert.OddInReferenceIdeal Cert.OddInReferenceIdeal.Gen Cert.OddInReferenceIdeal.Read Cert.Out Cert.Entry

variable (x0 : Tokens) (x1 : Mods) (x2 : Gain) (x3 x4 x5 x6 : Phases) (x7 : WOdd) (b : Fin 8) (l : Fin 4352)

/-! The two heads of the keys, in the same way. -/

theorem pair (h : Fin 2) (e : Fin 64) : val_main_v88 (F := Ideal) x0 x1 x2 x7 (ix4 b l h e)
    = proj (tok x0 x1 x2 b l) x7 ⟨1536 + 64 * h.val + e.val, by omega⟩ := by
  rw [← v39 x0 x1 x2 x7]
  unfold val_main_v88 val_main_v87
  generalize val_main_v39 (F := Ideal) x0 x1 x2 x7 = z
  pointwise
  exact congrArg (fun c => z (ix3 b l c)) (Fin.ext (by simp only []; omega))

theorem pair_slice0 (i : Fin 4096) (h : Fin 2) (f : Fin 16) : idx_main_v89 (ix4 b i h f)
    = ix4 b ⟨256 + i.val, by omega⟩ h ⟨f.val, by omega⟩ := by
  funext a; fin_cases a <;> rfl

theorem pair_slice16 (i : Fin 4096) (h : Fin 2) (f : Fin 16) : idx_main_v90 (ix4 b i h f)
    = ix4 b ⟨256 + i.val, by omega⟩ h ⟨16 + f.val, by omega⟩ := by
  funext a; fin_cases a <;> rfl

theorem pair_slice32 (i : Fin 4096) (h : Fin 2) (f : Fin 16) : idx_main_v91 (ix4 b i h f)
    = ix4 b ⟨256 + i.val, by omega⟩ h ⟨32 + f.val, by omega⟩ := by
  funext a; fin_cases a <;> rfl

theorem pair_slice48 (i : Fin 4096) (h : Fin 2) (f : Fin 16) : idx_main_v92 (ix4 b i h f)
    = ix4 b ⟨256 + i.val, by omega⟩ h ⟨48 + f.val, by omega⟩ := by
  funext a; fin_cases a <;> rfl

theorem pair1 (i : Fin 4096) (h : Fin 2) (f : Fin 16) : val_main_v101 (F := Ideal) x0 x1 x2 x3 x4 x7 (ix4 b i h f)
    = val_main_v88 (F := Ideal) x0 x1 x2 x7 (ix4 b ⟨256 + i.val, by omega⟩ h ⟨f.val, by omega⟩) * x3 (ix2 i f)
      - val_main_v88 (F := Ideal) x0 x1 x2 x7 (ix4 b ⟨256 + i.val, by omega⟩ h ⟨16 + f.val, by omega⟩) * x4 (ix2 i f) := by
  have e1 : idx_main_v93 (idx_main_v94 (idx_main_v95 (ix4 b i h f))) = ix2 i f := by funext a; fin_cases a <;> rfl
  have e2 : idx_main_v97 (idx_main_v98 (idx_main_v99 (ix4 b i h f))) = ix2 i f := by funext a; fin_cases a <;> rfl
  rw [val_main_v101_apply, val_main_v96_apply, val_main_v100_apply, val_main_v89_apply, val_main_v90_apply, val_main_v95_apply, val_main_v94_apply, val_main_v93_apply,
    val_main_v99_apply, val_main_v98_apply, val_main_v97_apply, e1, e2, pair_slice0, pair_slice16]
  rfl

theorem pair2 (i : Fin 4096) (h : Fin 2) (f : Fin 16) : val_main_v110 (F := Ideal) x0 x1 x2 x3 x4 x7 (ix4 b i h f)
    = val_main_v88 (F := Ideal) x0 x1 x2 x7 (ix4 b ⟨256 + i.val, by omega⟩ h ⟨16 + f.val, by omega⟩) * x3 (ix2 i f)
      + val_main_v88 (F := Ideal) x0 x1 x2 x7 (ix4 b ⟨256 + i.val, by omega⟩ h ⟨f.val, by omega⟩) * x4 (ix2 i f) := by
  have e1 : idx_main_v102 (idx_main_v103 (idx_main_v104 (ix4 b i h f))) = ix2 i f := by funext a; fin_cases a <;> rfl
  have e2 : idx_main_v106 (idx_main_v107 (idx_main_v108 (ix4 b i h f))) = ix2 i f := by funext a; fin_cases a <;> rfl
  rw [val_main_v110_apply, val_main_v105_apply, val_main_v109_apply, val_main_v90_apply, val_main_v89_apply, val_main_v104_apply, val_main_v103_apply, val_main_v102_apply,
    val_main_v108_apply, val_main_v107_apply, val_main_v106_apply, e1, e2, pair_slice16, pair_slice0]
  rfl

theorem pair3 (i : Fin 4096) (h : Fin 2) (f : Fin 16) : val_main_v119 (F := Ideal) x0 x1 x2 x5 x6 x7 (ix4 b i h f)
    = val_main_v88 (F := Ideal) x0 x1 x2 x7 (ix4 b ⟨256 + i.val, by omega⟩ h ⟨32 + f.val, by omega⟩) * x5 (ix2 i f)
      - val_main_v88 (F := Ideal) x0 x1 x2 x7 (ix4 b ⟨256 + i.val, by omega⟩ h ⟨48 + f.val, by omega⟩) * x6 (ix2 i f) := by
  have e1 : idx_main_v111 (idx_main_v112 (idx_main_v113 (ix4 b i h f))) = ix2 i f := by funext a; fin_cases a <;> rfl
  have e2 : idx_main_v115 (idx_main_v116 (idx_main_v117 (ix4 b i h f))) = ix2 i f := by funext a; fin_cases a <;> rfl
  rw [val_main_v119_apply, val_main_v114_apply, val_main_v118_apply, val_main_v91_apply, val_main_v92_apply, val_main_v113_apply, val_main_v112_apply, val_main_v111_apply,
    val_main_v117_apply, val_main_v116_apply, val_main_v115_apply, e1, e2, pair_slice32, pair_slice48]
  rfl

theorem pair4 (i : Fin 4096) (h : Fin 2) (f : Fin 16) : val_main_v128 (F := Ideal) x0 x1 x2 x5 x6 x7 (ix4 b i h f)
    = val_main_v88 (F := Ideal) x0 x1 x2 x7 (ix4 b ⟨256 + i.val, by omega⟩ h ⟨48 + f.val, by omega⟩) * x5 (ix2 i f)
      + val_main_v88 (F := Ideal) x0 x1 x2 x7 (ix4 b ⟨256 + i.val, by omega⟩ h ⟨32 + f.val, by omega⟩) * x6 (ix2 i f) := by
  have e1 : idx_main_v120 (idx_main_v121 (idx_main_v122 (ix4 b i h f))) = ix2 i f := by funext a; fin_cases a <;> rfl
  have e2 : idx_main_v124 (idx_main_v125 (idx_main_v126 (ix4 b i h f))) = ix2 i f := by funext a; fin_cases a <;> rfl
  rw [val_main_v128_apply, val_main_v123_apply, val_main_v127_apply, val_main_v92_apply, val_main_v91_apply, val_main_v122_apply, val_main_v121_apply, val_main_v120_apply,
    val_main_v126_apply, val_main_v125_apply, val_main_v124_apply, e1, e2, pair_slice48, pair_slice32]
  rfl

theorem pair_latent (i : Fin 4096) (h : Fin 2) (e : Fin 64) (hl : ¬256 + i.val < 256) :
    val_main_v129 (F := Ideal) x0 x1 x2 x3 x4 x5 x6 x7 (ix4 b i h e)
      = turned (fun e => val_main_v88 (F := Ideal) x0 x1 x2 x7 (ix4 b ⟨256 + i.val, by omega⟩ h e))
        (angles x3 x4 x5 x6 ⟨256 + i.val, by omega⟩ hl) e := by
  have h1 := pair1 x0 x1 x2 x3 x4 x7 b i h
  have h2 := pair2 x0 x1 x2 x3 x4 x7 b i h
  have h3 := pair3 x0 x1 x2 x5 x6 x7 b i h
  have h4 := pair4 x0 x1 x2 x5 x6 x7 b i h
  unfold val_main_v129
  generalize val_main_v101 (F := Ideal) x0 x1 x2 x3 x4 x7 = y1 at h1 ⊢
  generalize val_main_v110 (F := Ideal) x0 x1 x2 x3 x4 x7 = y2 at h2 ⊢
  generalize val_main_v119 (F := Ideal) x0 x1 x2 x5 x6 x7 = y3 at h3 ⊢
  generalize val_main_v128 (F := Ideal) x0 x1 x2 x5 x6 x7 = y4 at h4 ⊢
  generalize val_main_v88 (F := Ideal) x0 x1 x2 x7 = z at h1 h2 h3 h4 ⊢
  have el : (⟨256 + i.val - 256, by omega⟩ : Fin 4096) = i := Fin.ext (by show 256 + i.val - 256 = i.val; omega)
  pointwise
  simp only [h1, h2, h3, h4]
  clear h1 h2 h3 h4
  unfold turned angles
  simp only [el]
  exact quarters_eq (fun e => z (ix4 b ⟨256 + i.val, by omega⟩ h e)) (fun f => x3 (ix2 i f)) (fun f => x4 (ix2 i f))
    (fun f => x5 (ix2 i f)) (fun f => x6 (ix2 i f)) e

theorem pair_rotated (h : Fin 2) (e : Fin 64) : val_main_v131 (F := Ideal) x0 x1 x2 x3 x4 x5 x6 x7 (ix4 b l h e)
    = rotated x3 x4 x5 x6 l (fun e => proj (tok x0 x1 x2 b l) x7 ⟨1536 + 64 * h.val + e.val, by omega⟩) e := by
  simp only [← pair x0 x1 x2 x7]
  have h1 := fun i => pair_latent x0 x1 x2 x3 x4 x5 x6 x7 b i h e
  unfold val_main_v131 val_main_v130
  generalize val_main_v129 (F := Ideal) x0 x1 x2 x3 x4 x5 x6 x7 = y at h1 ⊢
  generalize val_main_v88 (F := Ideal) x0 x1 x2 x7 = z at h1 ⊢
  unfold rotated
  pointwise
  by_cases hl : l.val < 256
  · rw [dif_pos hl, dif_pos hl]
  · rw [dif_neg hl, dif_neg hl, h1 _ (by omega)]
    have el : (⟨256 + (l.val - 256), by omega⟩ : Fin 4352) = l := Fin.ext (by show 256 + (l.val - 256) = l.val; omega)
    simp only [el]

end Cert.OddInReferenceIdeal.Tile
-- ==== Proof.In.OddRefHeads.lean ====
module

public import proofs.«01_k».proof.Proof.Gen.OddInReferenceIdeal.Read
public import proofs.«01_k».proof.Proof.In.Math
public import proofs.«01_k».proof.Proof.In.OddRefProj
public import proofs.«01_k».proof.Proof.In.OddRefQuarters
public import Idealize.ShloMosaic.Lib.KernelVsHost

/-! The reference's queries, turned. -/

@[expose] public section
set_option maxRecDepth 16384
noncomputable section

namespace Cert.OddInReferenceIdeal.Tile
open Idealize.ShloMosaic Idealize.ShloMosaic.TcCoe
open Cert.OddInReferenceIdeal Cert.OddInReferenceIdeal.Gen Cert.OddInReferenceIdeal.Read Cert.Out Cert.Entry

variable (x0 : Tokens) (x1 : Mods) (x2 : Gain) (x3 x4 x5 x6 : Phases) (x7 : WOdd) (b : Fin 8) (l : Fin 4352)

/-! The eight heads of the queries, turned quarter by quarter. -/

theorem heads (h : Fin 8) (e : Fin 64) : val_main_v41 (F := Ideal) x0 x1 x2 x7 (ix4 b l h e)
    = proj (tok x0 x1 x2 b l) x7 ⟨1024 + 64 * h.val + e.val, by omega⟩ := by
  rw [← v39 x0 x1 x2 x7]
  unfold val_main_v41 val_main_v40
  generalize val_main_v39 (F := Ideal) x0 x1 x2 x7 = z
  pointwise
  exact congrArg (fun c => z (ix3 b l c)) (Fin.ext (by simp only []; omega))

theorem heads_slice0 (i : Fin 4096) (h : Fin 8) (f : Fin 16) : idx_main_v42 (ix4 b i h f)
    = ix4 b ⟨256 + i.val, by omega⟩ h ⟨f.val, by omega⟩ := by
  funext a; fin_cases a <;> rfl

theorem heads_slice16 (i : Fin 4096) (h : Fin 8) (f : Fin 16) : idx_main_v43 (ix4 b i h f)
    = ix4 b ⟨256 + i.val, by omega⟩ h ⟨16 + f.val, by omega⟩ := by
  funext a; fin_cases a <;> rfl

theorem heads_slice32 (i : Fin 4096) (h : Fin 8) (f : Fin 16) : idx_main_v44 (ix4 b i h f)
    = ix4 b ⟨256 + i.val, by omega⟩ h ⟨32 + f.val, by omega⟩ := by
  funext a; fin_cases a <;> rfl

theorem heads_slice48 (i : Fin 4096) (h : Fin 8) (f : Fin 16) : idx_main_v45 (ix4 b i h f)
    = ix4 b ⟨256 + i.val, by omega⟩ h ⟨48 + f.val, by omega⟩ := by
  funext a; fin_cases a <;> rfl

theorem heads1 (i : Fin 4096) (h : Fin 8) (f : Fin 16) : val_main_v54 (F := Ideal) x0 x1 x2 x3 x4 x7 (ix4 b i h f)
    = val_main_v41 (F := Ideal) x0 x1 x2 x7 (ix4 b ⟨256 + i.val, by omega⟩ h ⟨f.val, by omega⟩) * x3 (ix2 i f)
      - val_main_v41 (F := Ideal) x0 x1 x2 x7 (ix4 b ⟨256 + i.val, by omega⟩ h ⟨16 + f.val, by omega⟩) * x4 (ix2 i f) := by
  have e1 : idx_main_v46 (idx_main_v47 (idx_main_v48 (ix4 b i h f))) = ix2 i f := by funext a; fin_cases a <;> rfl
  have e2 : idx_main_v50 (idx_main_v51 (idx_main_v52 (ix4 b i h f))) = ix2 i f := by funext a; fin_cases a <;> rfl
  rw [val_main_v54_apply, val_main_v49_apply, val_main_v53_apply, val_main_v42_apply, val_main_v43_apply, val_main_v48_apply, val_main_v47_apply, val_main_v46_apply,
    val_main_v52_apply, val_main_v51_apply, val_main_v50_apply, e1, e2, heads_slice0, heads_slice16]
  rfl

theorem heads2 (i : Fin 4096) (h : Fin 8) (f : Fin 16) : val_main_v63 (F := Ideal) x0 x1 x2 x3 x4 x7 (ix4 b i h f)
    = val_main_v41 (F := Ideal) x0 x1 x2 x7 (ix4 b ⟨256 + i.val, by omega⟩ h ⟨16 + f.val, by omega⟩) * x3 (ix2 i f)
      + val_main_v41 (F := Ideal) x0 x1 x2 x7 (ix4 b ⟨256 + i.val, by omega⟩ h ⟨f.val, by omega⟩) * x4 (ix2 i f) := by
  have e1 : idx_main_v55 (idx_main_v56 (idx_main_v57 (ix4 b i h f))) = ix2 i f := by funext a; fin_cases a <;> rfl
  have e2 : idx_main_v59 (idx_main_v60 (idx_main_v61 (ix4 b i h f))) = ix2 i f := by funext a; fin_cases a <;> rfl
  rw [val_main_v63_apply, val_main_v58_apply, val_main_v62_apply, val_main_v43_apply, val_main_v42_apply, val_main_v57_apply, val_main_v56_apply, val_main_v55_apply,
    val_main_v61_apply, val_main_v60_apply, val_main_v59_apply, e1, e2, heads_slice16, heads_slice0]
  rfl

theorem heads3 (i : Fin 4096) (h : Fin 8) (f : Fin 16) : val_main_v72 (F := Ideal) x0 x1 x2 x5 x6 x7 (ix4 b i h f)
    = val_main_v41 (F := Ideal) x0 x1 x2 x7 (ix4 b ⟨256 + i.val, by omega⟩ h ⟨32 + f.val, by omega⟩) * x5 (ix2 i f)
      - val_main_v41 (F := Ideal) x0 x1 x2 x7 (ix4 b ⟨256 + i.val, by omega⟩ h ⟨48 + f.val, by omega⟩) * x6 (ix2 i f) := by
  have e1 : idx_main_v64 (idx_main_v65 (idx_main_v66 (ix4 b i h f))) = ix2 i f := by funext a; fin_cases a <;> rfl
  have e2 : idx_main_v68 (idx_main_v69 (idx_main_v70 (ix4 b i h f))) = ix2 i f := by funext a; fin_cases a <;> rfl
  rw [val_main_v72_apply, val_main_v67_apply, val_main_v71_apply, val_main_v44_apply, val_main_v45_apply, val_main_v66_apply, val_main_v65_apply, val_main_v64_apply,
    val_main_v70_apply, val_main_v69_apply, val_main_v68_apply, e1, e2, heads_slice32, heads_slice48]
  rfl

theorem heads4 (i : Fin 4096) (h : Fin 8) (f : Fin 16) : val_main_v81 (F := Ideal) x0 x1 x2 x5 x6 x7 (ix4 b i h f)
    = val_main_v41 (F := Ideal) x0 x1 x2 x7 (ix4 b ⟨256 + i.val, by omega⟩ h ⟨48 + f.val, by omega⟩) * x5 (ix2 i f)
      + val_main_v41 (F := Ideal) x0 x1 x2 x7 (ix4 b ⟨256 + i.val, by omega⟩ h ⟨32 + f.val, by omega⟩) * x6 (ix2 i f) := by
  have e1 : idx_main_v73 (idx_main_v74 (idx_main_v75 (ix4 b i h f))) = ix2 i f := by funext a; fin_cases a <;> rfl
  have e2 : idx_main_v77 (idx_main_v78 (idx_main_v79 (ix4 b i h f))) = ix2 i f := by funext a; fin_cases a <;> rfl
  rw [val_main_v81_apply, val_main_v76_apply, val_main_v80_apply, val_main_v45_apply, val_main_v44_apply, val_main_v75_apply, val_main_v74_apply, val_main_v73_apply,
    val_main_v79_apply, val_main_v78_apply, val_main_v77_apply, e1, e2, heads_slice48, heads_slice32]
  rfl

theorem heads_latent (i : Fin 4096) (h : Fin 8) (e : Fin 64) (hl : ¬256 + i.val < 256) :
    val_main_v82 (F := Ideal) x0 x1 x2 x3 x4 x5 x6 x7 (ix4 b i h e)
      = turned (fun e => val_main_v41 (F := Ideal) x0 x1 x2 x7 (ix4 b ⟨256 + i.val, by omega⟩ h e))
        (angles x3 x4 x5 x6 ⟨256 + i.val, by omega⟩ hl) e := by
  have h1 := heads1 x0 x1 x2 x3 x4 x7 b i h
  have h2 := heads2 x0 x1 x2 x3 x4 x7 b i h
  have h3 := heads3 x0 x1 x2 x5 x6 x7 b i h
  have h4 := heads4 x0 x1 x2 x5 x6 x7 b i h
  unfold val_main_v82
  generalize val_main_v54 (F := Ideal) x0 x1 x2 x3 x4 x7 = y1 at h1 ⊢
  generalize val_main_v63 (F := Ideal) x0 x1 x2 x3 x4 x7 = y2 at h2 ⊢
  generalize val_main_v72 (F := Ideal) x0 x1 x2 x5 x6 x7 = y3 at h3 ⊢
  generalize val_main_v81 (F := Ideal) x0 x1 x2 x5 x6 x7 = y4 at h4 ⊢
  generalize val_main_v41 (F := Ideal) x0 x1 x2 x7 = z at h1 h2 h3 h4 ⊢
  have el : (⟨256 + i.val - 256, by omega⟩ : Fin 4096) = i := Fin.ext (by show 256 + i.val - 256 = i.val; omega)
  pointwise
  simp only [h1, h2, h3, h4]
  clear h1 h2 h3 h4
  unfold turned angles
  simp only [el]
  exact quarters_eq (fun e => z (ix4 b ⟨256 + i.val, by omega⟩ h e)) (fun f => x3 (ix2 i f)) (fun f => x4 (ix2 i f))
    (fun f => x5 (ix2 i f)) (fun f => x6 (ix2 i f)) e

theorem heads_rotated (h : Fin 8) (e : Fin 64) : val_main_v84 (F := Ideal) x0 x1 x2 x3 x4 x5 x6 x7 (ix4 b l h e)
    = rotated x3 x4 x5 x6 l (fun e => proj (tok x0 x1 x2 b l) x7 ⟨1024 + 64 * h.val + e.val, by omega⟩) e := by
  simp only [← heads x0 x1 x2 x7]
  have h1 := fun i => heads_latent x0 x1 x2 x3 x4 x5 x6 x7 b i h e
  unfold val_main_v84 val_main_v83
  generalize val_main_v82 (F := Ideal) x0 x1 x2 x3 x4 x5 x6 x7 = y at h1 ⊢
  generalize val_main_v41 (F := Ideal) x0 x1 x2 x7 = z at h1 ⊢
  unfold rotated
  pointwise
  by_cases hl : l.val < 256
  · rw [dif_pos hl, dif_pos hl]
  · rw [dif_neg hl, dif_neg hl, h1 _ (by omega)]
    have el : (⟨256 + (l.val - 256), by omega⟩ : Fin 4352) = l := Fin.ext (by show 256 + (l.val - 256) = l.val; omega)
    simp only [el]

end Cert.OddInReferenceIdeal.Tile
-- ==== Proof.In.OddRef.lean ====
module

public import proofs.«01_k».proof.Proof.Gen.OddInReferenceIdeal.Read
public import proofs.«01_k».proof.Proof.In.Math
public import proofs.«01_k».proof.Proof.In.OddRefPair
public import proofs.«01_k».proof.Proof.In.OddRefHeads
public import Idealize.ShloMosaic.Lib.KernelVsHost

/-! The arrays of the odd layer's entry in the reference. -/

@[expose] public section
set_option maxRecDepth 16384
noncomputable section

namespace Cert.OddInReferenceIdeal.Tile
open Idealize.ShloMosaic Idealize.ShloMosaic.TcCoe
open Cert.OddInReferenceIdeal Cert.OddInReferenceIdeal.Gen Cert.OddInReferenceIdeal.Read Cert.Out Cert.Entry

variable (x0 : Tokens) (x1 : Mods) (x2 : Gain) (x3 x4 x5 x6 : Phases) (x7 : WOdd) (b : Fin 8) (l : Fin 4352)

/-! The arrays of the call: their columns as heads and channels. -/

theorem columns140 (k : Fin 512) : idx_main_v140 (ix3 b l k) = ix4 b l ⟨k.val / 64, by omega⟩ ⟨k.val % 64, by omega⟩ := by
  funext a
  fin_cases a <;> apply Fin.ext
  · show ((b.val * 4352 + l.val) * 512 + k.val) / 2228224 = b.val
    omega
  · show ((b.val * 4352 + l.val) * 512 + k.val) / 512 % 4352 = l.val
    omega
  · show ((b.val * 4352 + l.val) * 512 + k.val) / 64 % 8 = k.val / 64
    omega
  · show ((b.val * 4352 + l.val) * 512 + k.val) % 64 = k.val % 64
    omega

theorem columns142 (k : Fin 256) : idx_main_v142 (ix3 b l k) = ix4 b l ⟨k.val / 128, by omega⟩ ⟨k.val % 128, by omega⟩ := by
  funext a
  fin_cases a <;> apply Fin.ext
  · show ((b.val * 4352 + l.val) * 256 + k.val) / 1114112 = b.val
    omega
  · show ((b.val * 4352 + l.val) * 256 + k.val) / 256 % 4352 = l.val
    omega
  · show ((b.val * 4352 + l.val) * 256 + k.val) / 128 % 2 = k.val / 128
    omega
  · show ((b.val * 4352 + l.val) * 256 + k.val) % 128 = k.val % 128
    omega

theorem columns144 (k : Fin 256) : idx_main_v144 (ix3 b l k) = ix4 b l ⟨k.val / 128, by omega⟩ ⟨k.val % 128, by omega⟩ :=
  columns142 b l k

theorem columns133 (h : Fin 2) (e : Fin 64) : idx_main_v132 (idx_main_v133 (ix4 b l h e))
    = ix3 b l ⟨1664 + 64 * h.val + e.val, by omega⟩ := by
  funext a
  fin_cases a <;> apply Fin.ext
  · show (((b.val * 4352 + l.val) * 2 + h.val) * 64 + e.val) / 557056 = b.val
    omega
  · show (((b.val * 4352 + l.val) * 2 + h.val) * 64 + e.val) / 128 % 4352 = l.val
    omega
  · show 1664 + (((b.val * 4352 + l.val) * 2 + h.val) * 64 + e.val) % 128 = 1664 + 64 * h.val + e.val
    omega

theorem queries (k : Fin 512) : val_main_v141 (F := Ideal) x0 x1 x2 x3 x4 x5 x6 x7 (ix3 b l k)
    = query x3 x4 x5 x6 l (tok x0 x1 x2 b l) x7 k := by
  rw [val_main_v141_apply, val_main_v140_apply, columns140, val_main_v86_apply, heads_rotated, val_main_v85_apply, val_main_cst_4_apply]
  rfl

/-- Each key twice. -/
theorem twice (h : Fin 2) (e : Fin 128) : val_main_v134 (F := Ideal) x0 x1 x2 x3 x4 x5 x6 x7 (ix4 b l h e)
    = val_main_v131 (F := Ideal) x0 x1 x2 x3 x4 x5 x6 x7 (ix4 b l h ⟨e.val % 64, by omega⟩) := by
  unfold val_main_v134
  generalize val_main_v131 (F := Ideal) x0 x1 x2 x3 x4 x5 x6 x7 = y
  pointwise
  by_cases he : e.val < 64
  · rw [dif_pos he]
    exact congrArg (fun e => y (ix4 b l h e)) (Fin.ext (by show e.val = e.val % 64; omega))
  · rw [dif_neg he]
    exact congrArg (fun e => y (ix4 b l h e)) (Fin.ext (by show e.val - 64 = e.val % 64; omega))

theorem keys (k : Fin 256) : val_main_v143 (F := Ideal) x0 x1 x2 x3 x4 x5 x6 x7 (ix3 b l k)
    = key x3 x4 x5 x6 l (tok x0 x1 x2 b l) x7 k := by
  have e : (⟨k.val % 128 % 64, by omega⟩ : Fin 64) = ⟨k.val % 64, by omega⟩ := Fin.ext (by show k.val % 128 % 64 = k.val % 64; omega)
  rw [val_main_v143_apply, val_main_v142_apply, columns142, twice]
  dsimp only
  rw [e, pair_rotated]
  rfl

/-- After each value a one and zeros. -/
theorem widened (h : Fin 2) (e : Fin 128) : val_main_v137 (F := Ideal) x0 x1 x2 x7 (ix4 b l h e)
    = if he : e.val < 64 then val_main_v133 (F := Ideal) x0 x1 x2 x7 (ix4 b l h ⟨e.val, he⟩) else if e.val = 64 then 1 else 0 := by
  have h1 : ∀ i, val_main_v135 (F := Ideal) i = 1 := fun i => by
    rw [val_main_v135_apply, val_main_cst_5_apply]
    exact Idealize.ShloMosaic.Ideal.ofBits_one_f32
  have h0 : ∀ i, val_main_v136 (F := Ideal) i = 0 := fun i => by
    rw [val_main_v136_apply, val_main_cst_6_apply]
    exact Idealize.ShloMosaic.Ideal.ofBits_zero_f32
  unfold val_main_v137
  generalize val_main_v133 (F := Ideal) x0 x1 x2 x7 = y
  generalize val_main_v135 (F := Ideal) = p at h1 ⊢
  generalize val_main_v136 (F := Ideal) = q at h0 ⊢
  pointwise
  simp only [h1, h0]
  by_cases he : e.val < 64
  · rw [dif_pos he, dif_pos he]
  · rw [dif_neg he, dif_neg he]
    by_cases he' : e.val = 64
    · rw [if_pos he', dif_pos (by omega)]
    · rw [if_neg he', dif_neg (by omega)]

theorem values (k : Fin 256) : val_main_v145 (F := Ideal) x0 x1 x2 x7 (ix3 b l k)
    = value (tok x0 x1 x2 b l) x7 k := by
  rw [val_main_v145_apply, val_main_v144_apply, columns144, widened]
  unfold value
  refine congrArg (fun f => dite (k.val % 128 < 64) f _) ?_
  funext h
  rw [val_main_v133_apply, val_main_v132_apply, columns133, v39]

end Cert.OddInReferenceIdeal.Tile
-- ==== Proof.Attn.Finite.lean ====
module
public import proofs.«01_k».proof.Defs
public import proofs.«01_k».proof.Proof.Gen.Pre_finite
public import Idealize.ShloMosaic.Lib.Pointwise

/-! What the precondition says. -/

@[expose] public section
noncomputable section

namespace Cert.Pre_finite.Real
open Idealize.ShloMosaic

/-- A value whose magnitude is below +∞ is real. -/
theorem real_of_abs (x : EReal) (h : max x (-x) < ⊤) : ∃ r : ℝ, x = r := by
  induction x using EReal.rec with
  | bot => simp at h
  | top => simp at h
  | coe r => exact ⟨r, rfl⟩

theorem ofBits_top : Ideal.ofBits .f32 0x7F800000#32 = ⊤ := by
  simp [Ideal.ofBits, Ideal.ieee]

/-- The test of one element. -/
theorem real_of_bit (x : EReal)
    (h : FloatOps.cmpf (F := Ideal) (φ := .f32) .olt (FloatOps.hostAbsf (F := Ideal) (φ := .f32) x) (FloatOps.ofBits .f32 0x7F800000#32) = 1#1) :
    ∃ r : ℝ, x = r := by
  refine real_of_abs x ?_
  have e : FloatOps.ofBits (F := Ideal) .f32 0x7F800000#32 = (⊤ : EReal) := ofBits_top
  rw [e] at h
  by_contra hn
  have h' : BitVec.ofBool (decide (max x (-x) < ⊤)) = 1#1 := h
  rw [decide_eq_false hn] at h'
  exact absurd h' (by decide)

open Cert.Pre_finite

/-- Real element by element, real as an array. -/
theorem reals_of {ι : Type*} {x : ι → EReal} (h : ∀ i, ∃ r : ℝ, x i = r) : ∃ X : ι → ℝ, ∀ i, x i = X i := by
  choose X hX using h
  exact ⟨X, hX⟩

/-- The precondition: the values and the λ vectors are real. -/
theorem reals (q k v : S8x4352x512.Idx → EReal) (l : S4x64.Idx → EReal) (g : S128.Idx → EReal)
    (h : (fn (F := Ideal) q k v l g).1 = (fun _ => 1#1) ∧ (fn (F := Ideal) q k v l g).2 = (fun _ => 1#1)) :
    (∃ X : S8x4352x512.Idx → ℝ, ∀ i, v i = X i) ∧ (∃ X : S4x64.Idx → ℝ, ∀ i, l i = X i) :=
  ⟨reals_of fun i => real_of_bit _ (congrFun h.1 i), reals_of fun i => real_of_bit _ (congrFun h.2 i)⟩

end Cert.Pre_finite.Real
-- ==== Proof.Attn.Step.lean ====
module

public import proofs.«01_k».proof.Proof.Gen.KernelIdeal.Value
public import Idealize.ShloMosaic.Lib.Pipeline.ValueKit
public import Idealize.ShloMosaic.Lib.Pipeline.ReadBack

/-! What one grid point of the attention leaves: the pieces found by the run, read back as a few named functions of
the point's blocks and of the state before it. Both branches of the body (even and odd query blocks) give the same
functions; they differ only in which of the two score buffers is read and which is written. -/

@[expose] public section
set_option maxRecDepth 16384
set_option maxHeartbeats 1000000
noncomputable section

namespace Cert.KernelIdeal.Attn
open Idealize.ShloMosaic Idealize.ShloMosaic.TcCoe Idealize.ShloMosaic.Tactic
open Idealize.SL.Sem Cert.KernelIdeal.Gen
open Idealize.ShloMosaic.ValueIdx

variable {F : FTy → Type} [FloatOps F] [Named F]

/-- Rows `256 n … 256 n + 255` of a score buffer. -/
def ldS (s : Vec F S4352x512 .f32) (n : Fin 17) : Vec F S256x512 .f32 :=
  View.ld s (Rect.unit (s := S4352x512) ![256 * n.val, 0] S256x512.size (by
    intro a; have := n.isLt; fin_cases a <;> simp [S256x512, S4352x512] <;> omega))

/-- Columns `256 n … 256 n + 255` of the transposed values. -/
def ldV (v : Vec F S144x4352 .bf16) (n : Fin 17) : Vec F S144x256 .bf16 :=
  View.ld v (Rect.unit (s := S144x4352) ![0, 256 * n.val] S144x256.size (by
    intro a; have := n.isLt; fin_cases a <;> simp [S144x256, S144x4352] <;> omega))

/-- Keys `256 n … 256 n + 255`. -/
def ldK (k : Vec F S1x4352x128 .bf16) (n : Fin 17) : Vec F S1x256x128 .bf16 :=
  View.ld k (Rect.unit (s := S1x4352x128) ![0, 256 * n.val, 0] S1x256x128.size (by
    intro a; have := n.isLt; fin_cases a <;> simp [S1x256x128, S1x4352x128] <;> omega))

/-- One key block's part of the weighted values (rows 0–127) and of the weights' sum (row 128). -/
def part (mx : FVec F S1x512 .f32) (s : Vec F S256x512 .f32) (v : Vec F S144x256 .bf16) : FVec F S144x512 .f32 :=
  matmul dot_S144x256_S256x512_S144x512_1_0_0_1_n_n none v
    (truncf .bf16 (exp2 (subf s (broadcastTo S256x512 mx broadcasts_S1x512_S256x512))) bitsLt_bf16_f32)
    (constant S144x512 .f32 0x00000000#32)

/-- Seventeen parts added in order. -/
def sum17 (f : Fin 17 → FVec F S144x512 .f32) : FVec F S144x512 .f32 :=
  addf (addf (addf (addf (addf (addf (addf (addf (addf (addf (addf (addf (addf (addf (addf (addf
    (f ⟨0, by decide⟩) (f ⟨1, by decide⟩)) (f ⟨2, by decide⟩)) (f ⟨3, by decide⟩)) (f ⟨4, by decide⟩))
    (f ⟨5, by decide⟩)) (f ⟨6, by decide⟩)) (f ⟨7, by decide⟩)) (f ⟨8, by decide⟩)) (f ⟨9, by decide⟩))
    (f ⟨10, by decide⟩)) (f ⟨11, by decide⟩)) (f ⟨12, by decide⟩)) (f ⟨13, by decide⟩)) (f ⟨14, by decide⟩))
    (f ⟨15, by decide⟩)) (f ⟨16, by decide⟩)

/-- The output block of a point: from the scores `s` with running maxima `mb`, the values `vt`, the vectors of the
    weight and the norm's gain. -/
def outV (lam : Vec F S4x64 .f32) (g : Vec F S128x1 .f32) (vt : Vec F S144x4352 .bf16) (s : Vec F S4352x512 .f32)
    (mb : Vec F S8x512 .f32) : FVec F S1x256x128 .bf16 :=
  k0_pay67 (k0_pay5 lam) (sum17 fun n => part (k0_pay6 mb) (ldS s n) (ldV vt n)) g

/-- Scores of a key block against the stacked queries. -/
def score (q : FVec F S512x128 .bf16) (k : Vec F S1x256x128 .bf16) : FVec F S256x512 .f32 :=
  matmul dot_S256x128_S512x128_S256x512_1_1_0_0_n_n none (shapeCast S256x128 k shapeCasts_S1x256x128_S256x128) q
    (constant S256x512 .f32 0x00000000#32)

/-- … masked where `b` is set. -/
def scoreM (b : BitVec 1) (q : FVec F S512x128 .bf16) (k : Vec F S1x256x128 .bf16) : FVec F S256x512 .f32 :=
  Scalar.select b (broadcast S256x512 (Named.named κ "mask" 0xF149F2CA#32)) (score q k)

/-- A block's column maxima, eight rows of them. -/
def colMax (s : FVec F S256x512 .f32) : FVec F S8x512 .f32 :=
  multiReduction .maximumf [0] S8x512 (shapeCast S32x8x512 s shapeCasts_S256x512_S32x8x512) 0xFF800000#32
    reduces_S32x8x512_S8x512 (.inl rfl) rfl

/-- The maxima of seventeen blocks. -/
def max17 (a : FVec F S8x512 .f32) (f : Fin 17 → FVec F S8x512 .f32) : FVec F S8x512 .f32 :=
  maximumf (maximumf (maximumf (maximumf (maximumf (maximumf (maximumf (maximumf (maximumf (maximumf (maximumf
    (maximumf (maximumf (maximumf (maximumf (maximumf
    a (f ⟨1, by decide⟩)) (f ⟨2, by decide⟩)) (f ⟨3, by decide⟩)) (f ⟨4, by decide⟩))
    (f ⟨5, by decide⟩)) (f ⟨6, by decide⟩)) (f ⟨7, by decide⟩)) (f ⟨8, by decide⟩)) (f ⟨9, by decide⟩))
    (f ⟨10, by decide⟩)) (f ⟨11, by decide⟩)) (f ⟨12, by decide⟩)) (f ⟨13, by decide⟩)) (f ⟨14, by decide⟩))
    (f ⟨15, by decide⟩)) (f ⟨16, by decide⟩)

/-- Block `n` of the scores: the first is never masked. -/
def scoreN (b : BitVec 1) (q : FVec F S512x128 .bf16) (k : Vec F S1x4352x128 .bf16) (n : Fin 17) : FVec F S256x512 .f32 :=
  if n.val = 0 then score q (ldK k n) else scoreM b q (ldK k n)

/-- Whether the point's queries are context queries. -/
def ctx (t : Fin cfg0.N) : BitVec 1 :=
  Scalar.cmpi .slt (Scalar.minsi (BitVec.ofNat 32 (grid0.coords t 2).val) 16#32) 1#32

/-- The running maxima a point leaves. -/
def maxV (b : BitVec 1) (q : Vec F S1x256x128 .bf16) (k : Vec F S1x4352x128 .bf16) : FVec F S8x512 .f32 :=
  shapeCast S8x512 (max17 (colMax (score (k0_pay7 q) (ldK k ⟨0, by decide⟩)))
    fun n => colMax (scoreM b (k0_pay7 q) (ldK k n))) shapeCasts_S8x512_S8x512

/-- The scores a point leaves: row `256 n + r` is row `r` of block `n`. -/
def scoreV (b : BitVec 1) (q : Vec F S1x256x128 .bf16) (k : Vec F S1x4352x128 .bf16) : Vec F S4352x512 .f32 := fun y =>
  scoreN b (k0_pay7 q) k ⟨(y 0).val / 256, by have : (y 0).val < 4352 := (y 0).isLt; omega⟩
    (ValueIdx.ix2 ⟨(y 0).val % 256, Nat.mod_lt _ (by decide)⟩ ⟨(y 1).val, (y 1).isLt⟩)

variable (m : (ℓ : Loc nD τ sig) → Buf (Elt F) ℓ)

/-- The seventeen stores of the scores, read back. -/
theorem canon_scores (b : BitVec 1) (q : Vec F S1x256x128 .bf16) (k : Vec F S1x4352x128 .bf16) :
    View.canon (List.ofFn fun j : Fin 17 =>
      (⟨Rect.unit (s := S4352x512) ![256 * (16 - j.val), 0] S256x512.size (by
          intro a; fin_cases a <;> simp [S256x512, S4352x512] <;> omega),
        shapeCast S256x512 (scoreN b (k0_pay7 q) k ⟨16 - j.val, by omega⟩) shapeCasts_S256x512_S256x512⟩
        : View.Piece (Elt F) S4352x512 .f32)) = scoreV b q k := by
  funext y
  have hy : (y 0).val < 4352 := (y 0).isLt
  have hy1 : (y 1).val < 512 := (y 1).isLt
  refine View.canon_ofFn_unit_eq_of_forall _ _ _ _ _ _ ⟨⟨16 - (y 0).val / 256, by omega⟩, fun a => ?_⟩ fun j x hx => ?_
  · fin_cases a
    · show 256 * (16 - (16 - (y 0).val / 256)) ≤ (y 0).val ∧ (y 0).val < 256 * (16 - (16 - (y 0).val / 256)) + 256
      omega
    · show 0 ≤ (y 1).val ∧ (y 1).val < 0 + 512
      omega
  · have e0 : (y 0).val = 256 * (16 - j.val) + (x 0).val := hx 0
    have e1 : (y 1).val = 0 + (x 1).val := hx 1
    have x0 : (x 0).val < 256 := (x 0).isLt
    rw [shapeCast_self]
    unfold scoreV
    have en : (⟨(y 0).val / 256, by omega⟩ : Fin 17) = ⟨16 - j.val, by omega⟩ := Fin.ext (by show (y 0).val / 256 = 16 - j.val; omega)
    rw [en]
    congr 1
    funext a
    fin_cases a
    · exact Fin.ext (by show (x 0).val = (y 0).val % 256; omega)
    · exact Fin.ext (by show (x 1).val = (y 1).val; omega)

theorem outB (c : Dev nD) (t : Fin cfg0.N) (h0 : ¬t.val % 18 = 0) (h1 : ¬t.val % 2 = 0) (h2 : t.val % 2 = 1) :
    (outsAt0 m c t.val t.isLt).1 = outV (iblk m c 3 t) (iblk m c 4 t)
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2.2.1 := by
  rw [outsAt0_B m c t h0 h1 h2]
  frame_out
  repeat rw [read_unread_whole]
  rfl

theorem outC (c : Dev nD) (t : Fin cfg0.N) (h0 : ¬t.val % 18 = 0) (h1 : t.val % 2 = 0) (h2 : ¬t.val % 2 = 1) :
    (outsAt0 m c t.val t.isLt).1 = outV (iblk m c 3 t) (iblk m c 4 t)
      (outsAt0 m c (t.val - 1) (Nat.lt_of_le_of_lt (Nat.sub_le _ _) t.isLt)).2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.2 := by
  rw [outsAt0_C m c t h0 h1 h2]
  frame_out
  repeat rw [read_unread_whole]
  rfl

theorem maxB (c : Dev nD) (t : Fin cfg0.N) (h0 : ¬t.val % 18 = 0) (h1 : ¬t.val % 2 = 0) (h2 : t.val % 2 = 1) :
    (outsAt0 m c t.val t.isLt).2.2.2.2.2 = maxV (ctx t) (iblk m c 0 t) (iblk m c 1 t) := by
  rw [outsAt0_B m c t h0 h1 h2]
  frame_out
  rw [(hs0_0 t).read_unread (iblk m c 0 t), View.ld_unit_lit' (S := S1x256x128) _ (iblk m c 0 t) (by decide)]
  rfl

theorem scoreB (c : Dev nD) (t : Fin cfg0.N) (h0 : ¬t.val % 18 = 0) (h1 : ¬t.val % 2 = 0) (h2 : t.val % 2 = 1) :
    (outsAt0 m c t.val t.isLt).2.2.2.1 = scoreV (ctx t) (iblk m c 0 t) (iblk m c 1 t) := by
  rw [outsAt0_B m c t h0 h1 h2]
  frame_out
  rw [(hs0_0 t).read_unread (iblk m c 0 t), View.ld_unit_lit' (S := S1x256x128) _ (iblk m c 0 t) (by decide)]
  exact canon_scores (ctx t) (iblk m c 0 t) (iblk m c 1 t)

theorem keepB (c : Dev nD) (t : Fin cfg0.N) (h0 : ¬t.val % 18 = 0) (h1 : ¬t.val % 2 = 0) (h2 : t.val % 2 = 1) :
    (outsAt0 m c t.val t.isLt).2.1 = (outsAt0 m c (t.val - 1) (Nat.lt_of_le_of_lt (Nat.sub_le _ _) t.isLt)).2.1 := by
  rw [outsAt0_B m c t h0 h1 h2]
  rfl

theorem keepC (c : Dev nD) (t : Fin cfg0.N) (h0 : ¬t.val % 18 = 0) (h1 : t.val % 2 = 0) (h2 : ¬t.val % 2 = 1) :
    (outsAt0 m c t.val t.isLt).2.1 = (outsAt0 m c (t.val - 1) (Nat.lt_of_le_of_lt (Nat.sub_le _ _) t.isLt)).2.1 := by
  rw [outsAt0_C m c t h0 h1 h2]
  rfl

theorem maxC (c : Dev nD) (t : Fin cfg0.N) (h0 : ¬t.val % 18 = 0) (h1 : t.val % 2 = 0) (h2 : ¬t.val % 2 = 1) :
    (outsAt0 m c t.val t.isLt).2.2.2.2.1 = maxV (ctx t) (iblk m c 0 t) (iblk m c 1 t) := by
  rw [outsAt0_C m c t h0 h1 h2]
  frame_out
  rw [(hs0_0 t).read_unread (iblk m c 0 t), View.ld_unit_lit' (S := S1x256x128) _ (iblk m c 0 t) (by decide)]
  rfl

theorem scoreC (c : Dev nD) (t : Fin cfg0.N) (h0 : ¬t.val % 18 = 0) (h1 : t.val % 2 = 0) (h2 : ¬t.val % 2 = 1) :
    (outsAt0 m c t.val t.isLt).2.2.1 = scoreV (ctx t) (iblk m c 0 t) (iblk m c 1 t) := by
  rw [outsAt0_C m c t h0 h1 h2]
  frame_out
  rw [(hs0_0 t).read_unread (iblk m c 0 t), View.ld_unit_lit' (S := S1x256x128) _ (iblk m c 0 t) (by decide)]
  exact canon_scores (ctx t) (iblk m c 0 t) (iblk m c 1 t)

theorem maxA (c : Dev nD) (t : Fin cfg0.N) (h0 : t.val % 18 = 0) (h1 : t.val % 2 = 0) (h2 : ¬t.val % 2 = 1) :
    (outsAt0 m c t.val t.isLt).2.2.2.2.1 = maxV (ctx t) (iblk m c 0 t) (iblk m c 1 t) := by
  rw [outsAt0_A m c t h0 h1 h2]
  frame_out
  rw [(hs0_0 t).read_unread (iblk m c 0 t), View.ld_unit_lit' (S := S1x256x128) _ (iblk m c 0 t) (by decide)]
  rfl

theorem scoreA (c : Dev nD) (t : Fin cfg0.N) (h0 : t.val % 18 = 0) (h1 : t.val % 2 = 0) (h2 : ¬t.val % 2 = 1) :
    (outsAt0 m c t.val t.isLt).2.2.1 = scoreV (ctx t) (iblk m c 0 t) (iblk m c 1 t) := by
  rw [outsAt0_A m c t h0 h1 h2]
  frame_out
  rw [(hs0_0 t).read_unread (iblk m c 0 t), View.ld_unit_lit' (S := S1x256x128) _ (iblk m c 0 t) (by decide)]
  exact canon_scores (ctx t) (iblk m c 0 t) (iblk m c 1 t)

/-- The transposed values with the row of ones, as the first point of a run writes them. -/
def valV (v : Vec F S1x4352x128 .bf16) : Vec F S144x4352 .bf16 := fun y =>
  if h : (y 0).val < 128 then k0_pay1 v (ValueIdx.ix2 ⟨(y 0).val, h⟩ ⟨(y 1).val, (y 1).isLt⟩)
  else k0_pay2 (F := F) (ValueIdx.ix2 ⟨(y 0).val - 128, by have : (y 0).val < 144 := (y 0).isLt; omega⟩ ⟨(y 1).val, (y 1).isLt⟩)

/-- The two stores of the values and the ones, read back. -/
theorem canon_vals (v : Vec F S1x4352x128 .bf16) :
    View.canon [(⟨Rect.unit (s := S144x4352) ![128, 0] S16x4352.size inb_S144x4352_S16x4352_128_0, k0_pay2 (F := F)⟩
        : View.Piece (Elt F) S144x4352 .bf16),
      ⟨Rect.unit (s := S144x4352) ![0, 0] S128x4352.size inb_S144x4352_S128x4352_0_0, k0_pay1 v⟩] = valV v := by
  funext y
  have hy : (y 0).val < 144 := (y 0).isLt
  have hy1 : (y 1).val < 4352 := (y 1).isLt
  refine View.canon_eq_of_allAt _ y _ ?_ (View.allAt_cons_unit _ _ _ _ _ ?_ (View.allAt_cons_unit _ _ _ _ _ ?_ (View.allAt_nil _ _)))
  · by_cases h : (y 0).val < 128
    · refine ⟨_, List.mem_cons_of_mem _ (List.mem_cons_self ..), ?_⟩
      rw [Rect.mem_set_unit]
      intro a; fin_cases a
      · exact ⟨Nat.zero_le _, by show (y 0).val < 0 + 128; omega⟩
      · exact ⟨Nat.zero_le _, by show (y 1).val < 0 + 4352; omega⟩
    · refine ⟨_, List.mem_cons_self .., ?_⟩
      rw [Rect.mem_set_unit]
      intro a; fin_cases a
      · exact ⟨by show 128 ≤ (y 0).val; omega, by show (y 0).val < 128 + 16; omega⟩
      · exact ⟨Nat.zero_le _, by show (y 1).val < 0 + 4352; omega⟩
  · intro x hx
    have e0 : (y 0).val = 128 + (x 0).val := hx 0
    have e1 : (y 1).val = 0 + (x 1).val := hx 1
    unfold valV
    rw [dif_neg (by omega)]
    congr 1
    funext a; fin_cases a
    · exact Fin.ext (by show (x 0).val = (y 0).val - 128; omega)
    · exact Fin.ext (by show (x 1).val = (y 1).val; omega)
  · intro x hx
    have e0 : (y 0).val = 0 + (x 0).val := hx 0
    have e1 : (y 1).val = 0 + (x 1).val := hx 1
    have x0 : (x 0).val < 128 := (x 0).isLt
    unfold valV
    rw [dif_pos (by omega)]
    congr 1
    funext a; fin_cases a
    · exact Fin.ext (by show (x 0).val = (y 0).val; omega)
    · exact Fin.ext (by show (x 1).val = (y 1).val; omega)

theorem valA (c : Dev nD) (t : Fin cfg0.N) (h0 : t.val % 18 = 0) (h1 : t.val % 2 = 0) (h2 : ¬t.val % 2 = 1) :
    (outsAt0 m c t.val t.isLt).2.1 = valV (iblk m c 2 t) := by
  rw [outsAt0_A m c t h0 h1 h2]
  frame_out
  exact canon_vals (iblk m c 2 t)

end Cert.KernelIdeal.Attn
-- ==== Proof.Attn.Soft.lean ====
module

public import Idealize.ShloMosaic.Lib.Pointwise

/-! Softmax averages of real values with extended real scores: whatever is subtracted from the scores, and whether the exponential
is taken to the base 2 of scores scaled by `1 / ln 2` or to the base e, the weighted mean of the values is the same number; and
where infinite scores have no softmax, the norm of the head brings both programs to zeros. -/

@[expose] public section
noncomputable section

namespace Cert.Soft
open Idealize.ShloMosaic

/-- The mean of `v` weighted by `w`. -/
def mean {n : ℕ} (w v : Fin n → ℝ) : ℝ := (∑ j, w j * v j) / ∑ j, w j

/-- A common positive factor of the weights drops out. -/
theorem mean_scale {n : ℕ} (w v : Fin n → ℝ) (a : ℝ) (ha : a ≠ 0) : mean (fun j => w j * a) v = mean w v := by
  unfold mean
  rw [← Finset.sum_mul, show (∑ j, w j * a * v j) = (∑ j, w j * v j) * a by
    rw [Finset.sum_mul]; exact Finset.sum_congr rfl fun j _ => by ring]
  exact mul_div_mul_right _ _ ha

theorem coe_sum {ι : Type*} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- The greatest of the scores. -/
def IsMax {ι : Type*} (y : ι → EReal) (m : EReal) : Prop := (∀ j, y j ≤ m) ∧ ∃ j, y j = m

/-- Scores that have no softmax: one is +∞, or all are −∞. -/
def Deg {ι : Type*} (y : ι → EReal) : Prop := (∃ j, y j = ⊤) ∨ ∀ j, y j = ⊥

/-- The exponential of a score below +∞. -/
def ex (x : EReal) : ℝ := if x = ⊥ then 0 else Real.exp x.toReal

theorem ex_nonneg (x : EReal) : 0 ≤ ex x := by
  unfold ex
  split <;> positivity

/-- A least upper bound of finitely many scores is their maximum. -/
theorem isMax_of_le_iff {ι : Type*} [Finite ι] [Nonempty ι] (y : ι → EReal) (m : EReal) (h : ∀ B, m ≤ B ↔ ∀ j, y j ≤ B) : IsMax y m := by
  obtain ⟨j, hj⟩ := Finite.exists_max y
  exact ⟨(h m).1 le_rfl, j, le_antisymm ((h m).1 le_rfl j) ((h (y j)).2 hj)⟩

/-- The maximum of a fold from −∞. -/
theorem isMax_fold {ι κ : Type*} [Fintype ι] [Nonempty ι] (S : Finset κ) (f : κ → EReal) (y : ι → EReal)
    (h : ∀ B, (∀ i ∈ S, f i ≤ B) ↔ ∀ j, y j ≤ B) : IsMax y (S.fold max ⊥ f) :=
  isMax_of_le_iff _ _ fun B => (Finset.fold_max_le B).trans ((and_iff_right bot_le).trans (h B))

/-- Without a softmax every score less the maximum is −∞. -/
theorem sub_max_deg {ι : Type*} {y : ι → EReal} {m : EReal} (hm : IsMax y m) (hd : Deg y) (j : ι) : y j - m = ⊥ := by
  rcases hd with ⟨i, hi⟩ | hb
  · have : m = ⊤ := top_le_iff.1 (hi ▸ hm.1 i)
    rw [this, EReal.sub_top]
  · rw [hb j, EReal.bot_sub]

/-- With one the maximum is real. -/
theorem max_real {ι : Type*} {y : ι → EReal} {m : EReal} (hm : IsMax y m) (hd : ¬Deg y) : ∃ M : ℝ, m = M := by
  obtain ⟨hle, i, hi⟩ := hm
  refine ⟨m.toReal, (EReal.coe_toReal (fun h => hd (.inl ⟨i, hi.trans h⟩)) fun h => hd (.inr fun j => ?_)).symm⟩
  exact le_bot_iff.1 (h ▸ hle j)

theorem ne_top {ι : Type*} {y : ι → EReal} (hd : ¬Deg y) (j : ι) : y j ≠ ⊤ := fun h => hd (.inl ⟨j, h⟩)

theorem sum_ex_pos {n : ℕ} {y : Fin n → EReal} (hd : ¬Deg y) : 0 < ∑ j, ex (y j) := by
  obtain ⟨j, hj⟩ : ∃ j, y j ≠ ⊥ := by
    by_contra h
    exact hd (.inr fun j => by by_contra hj; exact h ⟨j, hj⟩)
  refine Finset.sum_pos' (fun j _ => ex_nonneg _) ⟨j, Finset.mem_univ _, ?_⟩
  rw [ex, if_neg hj]
  positivity

/-- The exponential of a score less a bound. -/
theorem exp_sub (x : EReal) (hx : x ≠ ⊤) (M : ℝ) : Ideal.exp (x - (M : EReal)) = ((ex x * Real.exp (-M) : ℝ) : EReal) := by
  induction x using EReal.rec with
  | bot => rw [EReal.bot_sub, Ideal.exp_bot, ex, if_pos rfl, zero_mul]; rfl
  | top => exact absurd rfl hx
  | coe r => rw [← EReal.coe_sub, Ideal.exp_coe, ex, if_neg (EReal.coe_ne_bot r), EReal.toReal_coe, ← Real.exp_add]; rfl

/-- The same with a power of two of the score divided by `ln 2`. -/
theorem exp2_sub (x : EReal) (hx : x ≠ ⊤) (M : ℝ) :
    Ideal.exp2 (x * ((1 / Real.log 2 : ℝ) : EReal) - (M : EReal)) = ((ex x * Real.exp (-(M * Real.log 2)) : ℝ) : EReal) := by
  have h2 : 0 < Real.log 2 := Real.log_pos (by norm_num)
  induction x using EReal.rec with
  | bot => rw [EReal.bot_mul_coe_of_pos (by positivity), EReal.bot_sub, Ideal.exp2_bot, ex, if_pos rfl, zero_mul]; rfl
  | top => exact absurd rfl hx
  | coe r =>
    rw [← EReal.coe_mul, ← EReal.coe_sub, Ideal.exp2_coe, ex, if_neg (EReal.coe_ne_bot r), EReal.toReal_coe, ← Real.exp_add]
    congr 1
    show (2 : ℝ) ^ (r * (1 / Real.log 2) - M) = _
    rw [Real.rpow_def_of_pos (by norm_num)]
    congr 1
    field_simp
    ring

/-- A positive real factor: what is infinite stays so, and a score becomes infinite by it only if it was. -/
theorem deg_scale {ι : Type*} (y : ι → EReal) (c : ℝ) (hc : 0 < c) : Deg (fun j => y j * (c : EReal)) ↔ Deg y := by
  have ht : ∀ x : EReal, x * (c : EReal) = ⊤ ↔ x = ⊤ := fun x => by
    induction x using EReal.rec with
    | bot => simp [EReal.bot_mul_coe_of_pos hc]
    | top => simp [EReal.top_mul_coe_of_pos hc]
    | coe r => simp [← EReal.coe_mul]
  have hb : ∀ x : EReal, x * (c : EReal) = ⊥ ↔ x = ⊥ := fun x => by
    induction x using EReal.rec with
    | bot => simp [EReal.bot_mul_coe_of_pos hc]
    | top => simp [EReal.top_mul_coe_of_pos hc]
    | coe r => simp [← EReal.coe_mul]
  simp only [Deg, ht, hb]

/-- … and it may be taken out of a sum. -/
theorem sum_scale {ι : Type*} (S : Finset ι) (f : ι → EReal) (c : ℝ) (hc : 0 ≤ c) :
    ∑ i ∈ S, f i * (c : EReal) = (∑ i ∈ S, f i) * (c : EReal) := by
  classical
  induction S using Finset.induction_on with
  | empty => simp
  | insert a S h ih =>
    rw [Finset.sum_insert h, Finset.sum_insert h, ih,
      EReal.right_distrib_of_nonneg_of_ne_top (EReal.coe_nonneg.2 hc) (EReal.coe_ne_top c)]

open Classical in
/-- The mean taken with powers of two and a division at the end. -/
theorem mean_of_exp2 {n : ℕ} (v s y : Fin n → EReal) (V : Fin n → ℝ) (m : EReal) (hv : ∀ j, v j = V j)
    (hs : ∀ j, s j = y j * ((1 / Real.log 2 : ℝ) : EReal)) (hm : IsMax s m) :
    Ideal.div (∑ j, v j * Ideal.exp2 (s j - m)) (∑ j, 1 * Ideal.exp2 (s j - m))
      = if Deg y then ⊥ else ((mean (fun j => ex (y j)) V : ℝ) : EReal) := by
  have h2 : 0 < 1 / Real.log 2 := by have := Real.log_pos (show (1 : ℝ) < 2 by norm_num); positivity
  have hd : Deg s ↔ Deg y := by
    rw [← deg_scale y _ h2]
    exact iff_of_eq (congrArg Deg (funext hs))
  split
  · rename_i h
    simp only [sub_max_deg hm (hd.2 h), Ideal.exp2_bot, mul_zero, Finset.sum_const_zero]
    simp [Ideal.div]
  · rename_i h
    obtain ⟨M, rfl⟩ := max_real hm fun h' => h (hd.1 h')
    have he : ∀ j, Ideal.exp2 (s j - (M : EReal)) = ((ex (y j) * Real.exp (-(M * Real.log 2)) : ℝ) : EReal) := fun j => by
      rw [hs, exp2_sub _ (ne_top h j)]
    have hpos : 0 < ∑ j, ex (y j) * Real.exp (-(M * Real.log 2)) := by
      rw [← Finset.sum_mul]
      exact mul_pos (sum_ex_pos h) (Real.exp_pos _)
    simp only [he, hv, one_mul, ← EReal.coe_mul, coe_sum]
    rw [Ideal.div_coe hpos.ne', ← EReal.coe_mul, ← mean_scale _ _ _ (Real.exp_pos (-(M * Real.log 2))).ne']
    congr 1
    unfold mean
    rw [mul_one_div]
    congr 1
    exact Finset.sum_congr rfl fun j _ => mul_comm _ _

open Classical in
/-- One softmax weight. -/
theorem weight {n : ℕ} (y : Fin n → EReal) (m : EReal) (hm : IsMax y m) (j : Fin n) :
    Ideal.div (Ideal.exp (y j - m)) (∑ i, Ideal.exp (y i - m))
      = if Deg y then ⊥ else ((ex (y j) / ∑ i, ex (y i) : ℝ) : EReal) := by
  split
  · rename_i h
    simp only [sub_max_deg hm h, Ideal.exp_bot, Finset.sum_const_zero]
    simp [Ideal.div]
  · rename_i h
    obtain ⟨M, rfl⟩ := max_real hm h
    simp only [exp_sub _ (ne_top h _), coe_sum]
    have hp := Real.exp_pos (-M)
    rw [← Finset.sum_mul, Ideal.div_coe (mul_pos (sum_ex_pos h) hp).ne', ← EReal.coe_mul, mul_one_div, mul_div_mul_right _ _ hp.ne']

/-- Softmax weights applied to the values: the mean weighted by the exponentials. -/
theorem sum_softmax {n : ℕ} (w V : Fin n → ℝ) : ∑ j, V j * (w j / ∑ i, w i) = mean w V := by
  unfold mean
  rw [Finset.sum_div]
  exact Finset.sum_congr rfl fun j _ => by ring

/-- Weights that vanish from `a` on: the mean over the first `a`. -/
theorem mean_take (a b n : ℕ) (h : a + b = n) (w v : Fin n → ℝ) :
    mean (fun j => if a ≤ j.val then 0 else w j) v
      = mean (fun j : Fin a => w ⟨j.val, by omega⟩) (fun j : Fin a => v ⟨j.val, by omega⟩) := by
  unfold mean
  have hx : ∀ x : Fin a, ¬a ≤ x.val := fun x => Nat.not_le.2 x.isLt
  rw [Fin.sum_univ_two_halves a b h, Fin.sum_univ_two_halves a b h]
  simp [hx]

/-! ## What the attention computes -/

/-- An array of a layer: batch, position, channel. -/
abbrev A3 := (⟨3, ![8, 4352, 512]⟩ : Shape).Idx

/-- Lane `d` of map `w`. -/
def lane (w : Fin 2) (d : Fin 64) : Fin 128 := ⟨64 * w.val + d.val, by omega⟩

/-- Channel `e` of head `h`. -/
def chan (h : Fin 4) (e : Fin 128) : Fin 512 := ⟨128 * h.val + e.val, by omega⟩

/-- The scaled score of key `j` and query `s` in map `w` of head `h`. -/
def score (X K : A3 → EReal) (b : Fin 8) (h : Fin 4) (w : Fin 2) (s j : Fin 4352) : EReal :=
  (∑ d : Fin 64, K (ix3 b j (chan h (lane w d))) * X (ix3 b s (chan h (lane w d)))) * ((1 / 8 : ℝ) : EReal)

/-- The vector of a head normalised by its mean square, times the gain. -/
def normed (o : Fin 128 → EReal) (g : EReal) (d : Fin 128) : EReal :=
  o d * Ideal.rsqrt (Ideal.div (∑ e, o e * o e) (Ideal.ofBits .f32 0x43000000#32) + Ideal.ofBits .f32 0x358637BD#32)
    * (g * Ideal.ofBits .f32 0x3F4CCCCD#32)

/-- The weight λ of the second map. -/
def lamV (lam : (⟨2, ![4, 64]⟩ : Shape).Idx → EReal) : EReal :=
  Ideal.exp (∑ x, lam (ix2 0 x) * lam (ix2 1 x)) - Ideal.exp (∑ x, lam (ix2 2 x) * lam (ix2 3 x))
    + Ideal.ofBits .f32 0x3E4CCCCD#32

theorem ofBits_lam : ∃ x : ℝ, Ideal.ofBits .f32 0x3E4CCCCD#32 = x := by
  simp only [Ideal.ofBits, Ideal.ieee]
  rw [if_neg (by decide), if_neg (by decide)]
  exact ⟨_, rfl⟩

theorem lamV_real (lam : (⟨2, ![4, 64]⟩ : Shape).Idx → EReal) (x : (⟨2, ![4, 64]⟩ : Shape).Idx → ℝ) (h : ∀ i, lam i = x i) :
    ∃ L : ℝ, lamV lam = L := by
  obtain ⟨k, hk⟩ := ofBits_lam
  unfold lamV
  simp only [h, hk, ← EReal.coe_mul, coe_sum, Ideal.exp_coe, ← EReal.coe_sub, ← EReal.coe_add]
  exact ⟨_, rfl⟩

/-- A sum with an infinite term is infinite. -/
theorem sum_infinite {ι : Type*} (S : Finset ι) (f : ι → EReal) (i : ι) (hi : i ∈ S) (h : f i = ⊤ ∨ f i = ⊥) :
    ∑ j ∈ S, f j = ⊤ ∨ ∑ j ∈ S, f j = ⊥ := by
  classical
  rw [← Finset.add_sum_erase S f hi]
  generalize ∑ j ∈ S.erase i, f j = x
  rcases h with h | h <;> rw [h]
  · induction x using EReal.rec with
    | bot => exact .inr rfl
    | top => exact .inl rfl
    | coe r => exact .inl rfl
  · exact .inr (EReal.bot_add x)

/-- A head with an infinite element is normalised to zeros. -/
theorem normed_infinite (o : Fin 128 → EReal) (g : EReal) (d e : Fin 128) (h : o e = ⊤ ∨ o e = ⊥) : normed o g d = 0 := by
  have hn : ∀ i, 0 ≤ o i * o i := fun i => by
    rcases le_total 0 (o i) with hi | hi
    · exact mul_nonneg hi hi
    · rw [← neg_mul_neg]
      exact mul_nonneg (EReal.neg_nonneg.2 hi) (EReal.neg_nonneg.2 hi)
  have hs : ∑ i, o i * o i = ⊤ := by
    refine top_le_iff.1 (le_trans ?_ (Finset.single_le_sum (fun i _ => hn i) (Finset.mem_univ e)))
    rcases h with h | h <;> rw [h] <;> simp
  have h128 : Ideal.ofBits .f32 0x43000000#32 = ((128 : ℝ) : EReal) := by
    simp [Ideal.ofBits, Ideal.ieee, -EReal.coe_mul]; norm_num
  obtain ⟨x, hx⟩ : ∃ x : ℝ, Ideal.ofBits .f32 0x358637BD#32 = x := by
    simp only [Ideal.ofBits, Ideal.ieee]
    rw [if_neg (by decide), if_neg (by decide)]
    exact ⟨_, rfl⟩
  unfold normed
  rw [hs, h128, hx, Ideal.div_coe (by norm_num), EReal.top_mul_coe_of_pos (by norm_num), EReal.top_add_coe, Ideal.rsqrt_top,
    mul_zero, zero_mul]

theorem normed_zero (o : Fin 128 → EReal) (g : EReal) (d : Fin 128) (h : ∀ e, o e = 0) : normed o g d = 0 := by
  unfold normed
  rw [h d, zero_mul, zero_mul]

open Classical in
/-- A query's result from its two maps' scores: the difference of the two means of the values, normalised; zero where a softmax
    that counts does not exist. -/
def row {n : ℕ} (y0 y1 : Fin n → EReal) (V : Fin 128 → Fin n → ℝ) (L : ℝ) (g : EReal) (d : Fin 128) : EReal :=
  if Deg y0 ∨ (L ≠ 0 ∧ Deg y1) then 0
  else normed (fun e => ((mean (fun j => ex (y0 j)) (V e) - L * mean (fun j => ex (y1 j)) (V e) : ℝ) : EReal)) g d

/-- Where a softmax that counts does not exist, the difference is infinite. -/
theorem diff_infinite (p q : Prop) [Decidable p] [Decidable q] (L a b : ℝ) (h : p ∨ (L ≠ 0 ∧ q)) :
    ((if p then (⊥ : EReal) else (a : EReal)) - (L : EReal) * (if q then (⊥ : EReal) else (b : EReal)) = ⊤)
      ∨ ((if p then (⊥ : EReal) else (a : EReal)) - (L : EReal) * (if q then (⊥ : EReal) else (b : EReal)) = ⊥) := by
  by_cases hp : p
  · rw [if_pos hp, EReal.bot_sub]
    exact .inr rfl
  · obtain ⟨hL, hq⟩ := h.resolve_left hp
    rw [if_neg hp, if_pos hq]
    rcases lt_or_gt_of_ne hL with hL | hL
    · rw [EReal.coe_mul_bot_of_neg hL, EReal.sub_top]
      exact .inr rfl
    · rw [EReal.coe_mul_bot_of_pos hL]
      exact .inl rfl

theorem diff_real (p q : Prop) [Decidable p] [Decidable q] (L a b : ℝ) (h : ¬(p ∨ (L ≠ 0 ∧ q))) :
    (if p then (⊥ : EReal) else (a : EReal)) - (L : EReal) * (if q then (⊥ : EReal) else (b : EReal)) = ((a - L * b : ℝ) : EReal) := by
  rw [if_neg fun hp => h (.inl hp)]
  by_cases hL : L = 0
  · rw [hL, EReal.coe_zero, zero_mul, zero_mul, sub_zero, sub_zero]
  · rw [if_neg fun hq => h (.inr ⟨hL, hq⟩), ← EReal.coe_mul, ← EReal.coe_sub]

open Classical in
/-- The difference of two means, taken at the end. -/
theorem row_means {n : ℕ} (y0 y1 : Fin n → EReal) (V : Fin 128 → Fin n → ℝ) (L : ℝ) (g : EReal) (d : Fin 128) :
    normed (fun e => (if Deg y0 then (⊥ : EReal) else ((mean (fun j => ex (y0 j)) (V e) : ℝ) : EReal))
      - (L : EReal) * (if Deg y1 then (⊥ : EReal) else ((mean (fun j => ex (y1 j)) (V e) : ℝ) : EReal))) g d = row y0 y1 V L g d := by
  unfold row
  by_cases h : Deg y0 ∨ (L ≠ 0 ∧ Deg y1)
  · rw [if_pos h]
    exact normed_infinite _ _ _ d (diff_infinite _ _ L _ _ h)
  · rw [if_neg h]
    exact congrArg (fun o => normed o g d) (funext fun e => diff_real _ _ L _ _ h)

open Classical in
/-- The difference of the weights, applied to the values. -/
theorem row_weights {n : ℕ} (y0 y1 : Fin n → EReal) (v : Fin 128 → Fin n → EReal) (V : Fin 128 → Fin n → ℝ) (L : ℝ) (g : EReal)
    (d : Fin 128) (hv : ∀ e j, v e j = V e j) :
    normed (fun e => ∑ j, v e j * ((if Deg y0 then (⊥ : EReal) else ((ex (y0 j) / ∑ i, ex (y0 i) : ℝ) : EReal))
      - (L : EReal) * (if Deg y1 then (⊥ : EReal) else ((ex (y1 j) / ∑ i, ex (y1 i) : ℝ) : EReal)))) g d = row y0 y1 V L g d := by
  unfold row
  by_cases h : Deg y0 ∨ (L ≠ 0 ∧ Deg y1)
  · rw [if_pos h]
    by_cases hz : ∀ e j, V e j = 0
    · exact normed_zero _ _ _ fun e => Finset.sum_eq_zero fun j _ => by rw [hv, hz, EReal.coe_zero, zero_mul]
    · push Not at hz
      obtain ⟨e, j, hz⟩ := hz
      refine normed_infinite _ _ _ e (sum_infinite _ _ j (Finset.mem_univ _) ?_)
      rw [hv]
      rcases diff_infinite _ _ L (ex (y0 j) / ∑ i, ex (y0 i)) (ex (y1 j) / ∑ i, ex (y1 i)) h with hi | hi <;> rw [hi]
      · rcases lt_or_gt_of_ne hz with hz | hz
        · exact .inr (EReal.coe_mul_top_of_neg hz)
        · exact .inl (EReal.coe_mul_top_of_pos hz)
      · rcases lt_or_gt_of_ne hz with hz | hz
        · exact .inl (EReal.coe_mul_bot_of_neg hz)
        · exact .inr (EReal.coe_mul_bot_of_pos hz)
  · rw [if_neg h]
    refine congrArg (fun o => normed o g d) (funext fun e => ?_)
    simp only [hv, diff_real _ _ L _ _ h, ← EReal.coe_mul, coe_sum]
    congr 1
    rw [← sum_softmax, ← sum_softmax, Finset.mul_sum, ← Finset.sum_sub_distrib]
    exact Finset.sum_congr rfl fun j _ => by ring

/-- Scores that are −∞ from `a` on: the first `a` decide. -/
theorem row_take (a b n : ℕ) (h : a + b = n) (y0 y1 : Fin n → EReal) (V : Fin 128 → Fin n → ℝ) (L : ℝ) (g : EReal) (d : Fin 128) :
    row (fun j => if a ≤ j.val then ⊥ else y0 j) (fun j => if a ≤ j.val then ⊥ else y1 j) V L g d
      = row (fun j : Fin a => y0 ⟨j.val, by omega⟩) (fun j : Fin a => y1 ⟨j.val, by omega⟩) (fun e j => V e ⟨j.val, by omega⟩) L g d := by
  have hd : ∀ y : Fin n → EReal, Deg (fun j => if a ≤ j.val then ⊥ else y j) ↔ Deg fun j : Fin a => y ⟨j.val, by omega⟩ := fun y => by
    refine or_congr ⟨fun ⟨j, hj⟩ => ?_, fun ⟨j, hj⟩ => ⟨⟨j.val, by omega⟩, by simpa [Nat.not_le.2 j.isLt] using hj⟩⟩
      ⟨fun hy j => by simpa [Nat.not_le.2 j.isLt] using hy ⟨j.val, by omega⟩, fun hy j => ?_⟩
    · by_cases hja : a ≤ j.val
      · simp [hja] at hj
      · exact ⟨⟨j.val, by omega⟩, by simpa [hja] using hj⟩
    · by_cases hja : a ≤ j.val
      · simp [hja]
      · simpa [hja] using hy ⟨j.val, by omega⟩
  have he : ∀ (y : Fin n → EReal) (v : Fin n → ℝ), mean (fun j => ex (if a ≤ j.val then ⊥ else y j)) v
      = mean (fun j : Fin a => ex (y ⟨j.val, by omega⟩)) fun j : Fin a => v ⟨j.val, by omega⟩ := fun y v => by
    rw [← mean_take a b n h (fun j => ex (y j)) v]
    congr 1
    funext j
    by_cases hja : a ≤ j.val
    · simp [hja, ex]
    · simp [hja]
  unfold row
  rw [propext (hd y0), propext (hd y1)]
  simp only [he]

/-- The result of the call: the first 256 queries see the first 256 keys only. -/
def spec (X K : A3 → EReal) (V : A3 → ℝ) (L : ℝ) (g : Fin 128 → EReal) (b : Fin 8) (h : Fin 4) (s : Fin 4352) (d : Fin 128) : EReal :=
  row (fun j => if s.val < 256 ∧ 256 ≤ j.val then ⊥ else score X K b h 0 s j)
    (fun j => if s.val < 256 ∧ 256 ≤ j.val then ⊥ else score X K b h 1 s j) (fun e j => V (ix3 b j (chan h e))) L (g d) d

end Cert.Soft
-- ==== Proof.Attn.Point.lean ====
module

public import proofs.«01_k».proof.Proof.Attn.Step
public import proofs.«01_k».proof.Proof.Attn.Soft

/-! The functions of `Attn.Step` on the extended reals, element by element. -/

@[expose] public section
set_option maxRecDepth 16384
noncomputable section

namespace Cert.KernelIdeal.Attn
open Idealize.ShloMosaic Idealize.ShloMosaic.TcCoe
open Cert.KernelIdeal.Gen Cert.Soft

theorem ldS_apply (s : Vec Ideal S4352x512 .f32) (n : Fin 17) (r : Fin 256) (c : Fin 512) :
    ldS s n (ix2 r c) = s (ix2 ⟨256 * n.val + r.val, by omega⟩ c) := by
  unfold ldS
  pointwise

theorem ldV_apply (s : Vec Ideal S144x4352 .bf16) (n : Fin 17) (r : Fin 144) (c : Fin 256) :
    ldV s n (ix2 r c) = s (ix2 r ⟨256 * n.val + c.val, by omega⟩) := by
  unfold ldV
  pointwise

theorem ldK_apply (s : Vec Ideal S1x4352x128 .bf16) (n : Fin 17) (r : Fin 256) (d : Fin 128) :
    ldK s n (ix3 0 r d) = s (ix3 0 ⟨256 * n.val + r.val, by omega⟩ d) := by
  unfold ldK
  pointwise

/-- Column of the stacked queries: query `r` of map `w`. -/
def col (w : Fin 2) (r : Fin 256) : Fin 512 := ⟨256 * w.val + r.val, by omega⟩

theorem part_apply (mx : FVec Ideal S1x512 .f32) (s : Vec Ideal S256x512 .f32) (v : Vec Ideal S144x256 .bf16)
    (r : Fin 144) (c : Fin 512) :
    part mx s v (ix2 r c) = ∑ k : Fin 256, v (ix2 r k) * Ideal.exp2 (s (ix2 k c) - mx (ix2 0 c)) := by
  pointwise [part]
  rfl

theorem score_apply (q : FVec Ideal S512x128 .bf16) (k : Vec Ideal S1x256x128 .bf16) (r : Fin 256) (c : Fin 512) :
    score q k (ix2 r c) = ∑ d : Fin 128, k (ix3 0 r d) * q (ix2 c d) := by
  pointwise [score]

/-- The stacked queries: each half keeps its own map's lanes. -/
theorem pay7_apply (q : Vec Ideal S1x256x128 .bf16) (w : Fin 2) (r : Fin 256) (d : Fin 128) :
    k0_pay7 q (ix2 (col w r) d) = if d.val / 64 = w.val then q (ix3 0 r d) else (0 : EReal) := by
  have hlt : IntOp.cmpi .slt (BitVec.ofNat 32 d.val) 64#32 = BitVec.ofBool (decide (d.val < 64)) := by
    revert d; decide
  have hge : IntOp.cmpi .sge (BitVec.ofNat 32 d.val) 64#32 = BitVec.ofBool (decide (64 ≤ d.val)) := by
    revert d; decide
  pointwise [k0_pay7, col]
  rw [hlt, hge]
  have hr := r.isLt
  have hd := d.isLt
  rcases w with ⟨w, hw⟩
  obtain rfl | rfl : w = 0 ∨ w = 1 := by omega
  · rw [dif_pos (show 256 * 0 + r.val < 256 by omega)]
    have er : (⟨256 * 0 + r.val, by omega⟩ : Fin 256) = r := Fin.ext (by simp)
    show Scalar.select _ (q (ix3 0 (⟨256 * 0 + r.val, by omega⟩ : Fin 256) d)) 0 = _
    rw [er]
    by_cases h : d.val < 64
    · rw [if_pos (show d.val / 64 = 0 by omega)]; simp [h, Scalar.select]
    · rw [if_neg (show ¬d.val / 64 = 0 by omega)]; simp [h, Scalar.select]
  · rw [dif_neg (show ¬256 * 1 + r.val < 256 by omega)]
    have er : (⟨256 * 1 + r.val - 256, by omega⟩ : Fin 256) = r := Fin.ext (by simp)
    show Scalar.select _ (q (ix3 0 (⟨256 * 1 + r.val - 256, by omega⟩ : Fin 256) d)) 0 = _
    rw [er]
    by_cases h : 64 ≤ d.val
    · rw [if_pos (show d.val / 64 = 1 by omega)]; simp [h, Scalar.select]
    · rw [if_neg (show ¬d.val / 64 = 1 by omega)]; simp [h, Scalar.select]

theorem valV_lt (v : Vec Ideal S1x4352x128 .bf16) (r : Fin 128) (j : Fin 4352) :
    valV v (ix2 ⟨r.val, by omega⟩ j) = v (ix3 0 j r) := by
  show (if h : r.val < 128 then k0_pay1 v (ix2 ⟨r.val, h⟩ j) else _) = _
  rw [dif_pos r.isLt]
  pointwise [k0_pay1]

theorem valV_one (v : Vec Ideal S1x4352x128 .bf16) (j : Fin 4352) :
    valV v (ix2 ⟨128, by omega⟩ j) = (1 : EReal) := by
  show k0_pay2 (F := Ideal) (ix2 ⟨0, _⟩ j) = _
  pointwise [k0_pay2]

/-- Seventeen parts added in order are their sum. -/
theorem sum17_apply (f : Fin 17 → FVec Ideal S144x512 .f32) (i : S144x512.Idx) :
    sum17 f i = ∑ n, (f n i : EReal) := by
  rw [Fin.sum_univ_castSucc]
  repeat rw [Fin.sum_univ_castSucc]
  simp only [Finset.univ_eq_empty, Finset.sum_empty, zero_add]
  rfl

/-- Key `j` of the whole sequence is key `r` of block `n`. -/
theorem sum_blocks (f : Fin 4352 → EReal) :
    ∑ n : Fin 17, ∑ k : Fin 256, f ⟨256 * n.val + k.val, by omega⟩ = ∑ j, f j := by
  exact Fin.sum_mul_add_congr (S := 17) (n := 256) fun n k _ => congrArg f (Fin.ext (by simp [Nat.mul_comm]))

/-- The weighted values of a point: all keys in one sum. -/
theorem oe_apply (mx : FVec Ideal S1x512 .f32) (s : Vec Ideal S4352x512 .f32) (v : Vec Ideal S144x4352 .bf16)
    (r : Fin 144) (c : Fin 512) :
    sum17 (fun n => part mx (ldS s n) (ldV v n)) (ix2 r c)
      = ∑ j, v (ix2 r j) * Ideal.exp2 (s (ix2 j c) - mx (ix2 0 c)) := by
  rw [sum17_apply, ← sum_blocks]
  refine Finset.sum_congr rfl fun n _ => ?_
  rw [part_apply]
  refine Finset.sum_congr rfl fun k _ => ?_
  rw [ldS_apply, ldV_apply]

/-- The score of key `j` with query `r` in map `w`. -/
def sc (q : Vec Ideal S1x256x128 .bf16) (k : Vec Ideal S1x4352x128 .bf16) (w : Fin 2) (r : Fin 256) (j : Fin 4352) : EReal :=
  ∑ d : Fin 64, k (ix3 0 j (lane w d)) * q (ix3 0 r (lane w d))

theorem score_sc (q : Vec Ideal S1x256x128 .bf16) (k : Vec Ideal S1x4352x128 .bf16) (n : Fin 17) (w : Fin 2) (r : Fin 256)
    (a : Fin 256) :
    score (k0_pay7 q) (ldK k n) (ix2 a (col w r)) = sc q k w r ⟨256 * n.val + a.val, by omega⟩ := by
  rw [score_apply]
  simp only [pay7_apply, ldK_apply]
  rw [Fin.sum_univ_two_halves 64 64 rfl]
  unfold sc
  rcases w with ⟨w, hw⟩
  obtain rfl | rfl : w = 0 ∨ w = 1 := by omega
  · rw [Finset.sum_eq_zero (s := Finset.univ (α := Fin 64)) (f := fun d : Fin 64 => k (ix3 0 ⟨256 * n.val + a.val, _⟩ ⟨64 + d.val, _⟩) * _)
      fun d _ => by rw [if_neg (show ¬(64 + d.val) / 64 = 0 by omega), mul_zero], add_zero]
    refine Finset.sum_congr rfl fun d _ => ?_
    have ed : lane ⟨0, hw⟩ d = ⟨d.val, by omega⟩ := Fin.ext (by show 64 * 0 + d.val = d.val; omega)
    rw [if_pos (show d.val / 64 = 0 by omega), ed]
  · rw [Finset.sum_eq_zero (s := Finset.univ (α := Fin 64)) (f := fun d : Fin 64 => k (ix3 0 ⟨256 * n.val + a.val, _⟩ ⟨d.val, _⟩) * _)
      fun d _ => by rw [if_neg (show ¬d.val / 64 = 1 by omega), mul_zero], zero_add]
    refine Finset.sum_congr rfl fun d _ => ?_
    have ed : lane ⟨1, hw⟩ d = ⟨64 + d.val, by omega⟩ := Fin.ext (by show 64 * 1 + d.val = 64 + d.val; omega)
    rw [if_pos (show (64 + d.val) / 64 = 1 by omega), ed]

/-- The score as stored: −∞ where masked. -/
theorem scoreV_apply (b : BitVec 1) (q : Vec Ideal S1x256x128 .bf16) (k : Vec Ideal S1x4352x128 .bf16) (w : Fin 2)
    (r : Fin 256) (j : Fin 4352) :
    scoreV b q k (ix2 j (col w r)) = if b = 1#1 ∧ 256 ≤ j.val then (⊥ : EReal) else sc q k w r j := by
  have e : scoreV b q k (ix2 j (col w r)) = scoreN b (k0_pay7 q) k ⟨j.val / 256, by omega⟩
      (ix2 ⟨j.val % 256, by omega⟩ (col w r)) := rfl
  have hj : (⟨256 * (j.val / 256) + j.val % 256, by omega⟩ : Fin 4352) = j := Fin.ext (by simp; omega)
  rw [e]
  unfold scoreN scoreM
  split
  · rename_i h
    rw [score_sc, if_neg (by simp at h; omega), hj]
  · rename_i h
    simp at h
    by_cases hb : b = 1#1
    · rw [if_pos ⟨hb, by omega⟩, hb]; rfl
    · have hb0 : b = 0#1 := (by decide : ∀ b : BitVec 1, ¬b = 1#1 → b = 0#1) b hb
      rw [if_neg (by simp [hb]), hb0]
      refine (score_sc ..).trans ?_
      rw [hj]

/-- A query's weighted mean of the values, `Σ vⱼ eⱼ / Σ eⱼ`, from its scores and their bound. -/
def wavg (v : Fin 4352 → EReal) (s : Fin 4352 → EReal) (mx : EReal) : EReal :=
  Ideal.div (∑ j, v j * Ideal.exp2 (s j - mx)) (∑ j, 1 * Ideal.exp2 (s j - mx))

theorem pay67_apply (lam : FVec Ideal S1x1 .f32) (oe : FVec Ideal S144x512 .f32) (g : Vec Ideal S128x1 .f32)
    (r : Fin 256) (d : Fin 128) :
    k0_pay67 lam oe g (ix3 0 r d) = normed (fun e => Ideal.div (oe (ix2 ⟨e.val, by omega⟩ (col 0 r))) (oe (ix2 128 (col 0 r)))
      - lam (ix2 0 0) * Ideal.div (oe (ix2 ⟨e.val, by omega⟩ (col 1 r))) (oe (ix2 128 (col 1 r)))) (g (ix2 d 0)) d := by
  have e0 : col 0 r = ⟨r.val, by omega⟩ := Fin.ext (by show 256 * 0 + r.val = r.val; omega)
  have e1 : col 1 r = ⟨256 + r.val, by omega⟩ := Fin.ext (by show 256 * 1 + r.val = 256 + r.val; omega)
  rw [e0, e1]
  pointwise [k0_pay67]
  rfl

theorem pay5_apply (lam : Vec Ideal S4x64 .f32) : k0_pay5 lam (ix2 0 0) = lamV lam := by
  pointwise [k0_pay5]
  rfl

/-- The running maximum of a query. -/
def mxOf (b : BitVec 1) (q : Vec Ideal S1x256x128 .bf16) (k : Vec Ideal S1x4352x128 .bf16) (w : Fin 2) (r : Fin 256) : EReal :=
  k0_pay6 (maxV b q k) (ix2 0 (col w r))

/-- An output element of a point, from the stored scores, maxima and values. -/
theorem outV_apply (lam : Vec Ideal S4x64 .f32) (g : Vec Ideal S128x1 .f32) (b : BitVec 1) (q : Vec Ideal S1x256x128 .bf16)
    (k v : Vec Ideal S1x4352x128 .bf16) (r : Fin 256) (d : Fin 128) :
    outV lam g (valV v) (scoreV b q k) (maxV b q k) (ix3 0 r d) = normed (fun e =>
      wavg (fun j => v (ix3 0 j e)) (fun j => scoreV b q k (ix2 j (col 0 r))) (mxOf b q k 0 r)
        - lamV lam * wavg (fun j => v (ix3 0 j e)) (fun j => scoreV b q k (ix2 j (col 1 r))) (mxOf b q k 1 r))
      (g (ix2 d 0)) d := by
  unfold outV
  rw [pay67_apply, pay5_apply]
  congr 1
  funext e
  have h1 : ∀ c, sum17 (fun n => part (k0_pay6 (maxV b q k)) (ldS (scoreV b q k) n) (ldV (valV v) n)) (ix2 128 c)
      = ∑ j, 1 * Ideal.exp2 (scoreV b q k (ix2 j c) - k0_pay6 (maxV b q k) (ix2 0 c)) := fun c => by
    rw [oe_apply]
    exact Finset.sum_congr rfl fun j _ => congrArg (· * _) (valV_one v j)
  simp only [h1, oe_apply, valV_lt]
  rfl

theorem ofBits_ninf : Ideal.ofBits .f32 0xFF800000#32 = ⊥ := by
  simp [Ideal.ofBits, Ideal.ieee]

/-- A bound of a block's column maxima bounds the column. -/
theorem colMax_le (s : FVec Ideal S256x512 .f32) (c : Fin 512) (B : EReal) :
    (∀ a : Fin 8, colMax s (ix2 a c) ≤ B) ↔ ∀ r : Fin 256, s (ix2 r c) ≤ B := by
  have e : ∀ a : Fin 8, colMax s (ix2 a c) ≤ B ↔ ∀ p : Fin 32, s (ix2 ⟨p.val * 8 + a.val, by omega⟩ c) ≤ B := fun a => by
    pointwise [colMax]
    rw [Finset.fold_max_le, ofBits_ninf]
    simp
  simp only [e]
  refine ⟨fun h r => ?_, fun h a p => h _⟩
  have hr : (⟨r.val / 8 * 8 + r.val % 8, by omega⟩ : Fin 256) = r := Fin.ext (by simp; omega)
  exact hr ▸ h ⟨r.val % 8, by omega⟩ ⟨r.val / 8, by omega⟩

/-- A bound of seventeen blocks' maxima bounds each. -/
theorem max17_le (a : FVec Ideal S8x512 .f32) (f : Fin 17 → FVec Ideal S8x512 .f32) (y : S8x512.Idx) (B : EReal) :
    max17 a f y ≤ B ↔ ∀ n : Fin 17, (if n.val = 0 then a else f n) y ≤ B := by
  have e : max17 a f y ≤ B ↔ (a y : EReal) ≤ B ∧ ∀ n : Fin 16, (f ⟨n.val + 1, by omega⟩ y : EReal) ≤ B := by
    pointwise [max17]
    simp only [max_le_iff, Fin.forall_fin_succ, and_assoc]
    simp
  rw [e]
  refine ⟨fun h n => ?_, fun h => ⟨h 0, fun n => h ⟨n.val + 1, by omega⟩⟩⟩
  rcases n with ⟨n, hn⟩
  cases n with
  | zero => exact h.1
  | succ n => exact h.2 ⟨n, by omega⟩

/-- The running maximum of a query is the greatest of its scores. -/
theorem mxOf_isMax (b : BitVec 1) (q : Vec Ideal S1x256x128 .bf16) (k : Vec Ideal S1x4352x128 .bf16) (w : Fin 2) (r : Fin 256) :
    IsMax (fun j => scoreV b q k (ix2 j (col w r))) (mxOf b q k w r) := by
  refine isMax_of_le_iff _ _ fun B => ?_
  have e0 : mxOf b q k w r ≤ B ↔ ∀ a : Fin 8, maxV b q k (ix2 a (col w r)) ≤ B := by
    unfold mxOf
    pointwise [k0_pay6]
    rw [Finset.fold_max_le, ofBits_ninf]
    simp
  have e1 : ∀ a : Fin 8, maxV b q k (ix2 a (col w r)) ≤ B
      ↔ ∀ n : Fin 17, colMax (scoreN b (k0_pay7 q) k n) (ix2 a (col w r)) ≤ B := fun a => by
    have h : maxV b q k (ix2 a (col w r)) = max17 (colMax (score (k0_pay7 q) (ldK k ⟨0, by decide⟩)))
        (fun n => colMax (scoreM b (k0_pay7 q) (ldK k n))) (ix2 a (col w r)) := by
      unfold maxV
      pointwise []
    rw [h, max17_le]
    refine forall_congr' fun n => ?_
    unfold scoreN
    by_cases hn : n.val = 0
    · obtain rfl : n = ⟨0, by decide⟩ := Fin.ext hn
      rfl
    · rw [if_neg hn, if_neg hn]
  rw [e0]
  simp only [e1]
  rw [forall_comm]
  simp only [colMax_le]
  refine ⟨fun h j => h ⟨j.val / 256, by omega⟩ ⟨j.val % 256, by omega⟩, fun h n a => ?_⟩
  have hj := h ⟨256 * n.val + a.val, by omega⟩
  have e2 : scoreV b q k (ix2 ⟨256 * n.val + a.val, by omega⟩ (col w r)) = scoreN b (k0_pay7 q) k n (ix2 a (col w r)) := by
    have hn : (⟨(256 * n.val + a.val) / 256, by omega⟩ : Fin 17) = n := Fin.ext (by show (256 * n.val + a.val) / 256 = n.val; omega)
    have ha : (⟨(256 * n.val + a.val) % 256, by omega⟩ : Fin 256) = a := Fin.ext (by show (256 * n.val + a.val) % 256 = a.val; omega)
    show scoreN b (k0_pay7 q) k ⟨(256 * n.val + a.val) / 256, _⟩ (ix2 ⟨(256 * n.val + a.val) % 256, _⟩ _) = _
    rw [hn, ha]
    rfl
  exact e2 ▸ hj

end Cert.KernelIdeal.Attn
-- ==== Proof.Attn.State.lean ====
module

public import proofs.«01_k».proof.Proof.Attn.Point

/-! The state carried from point to point, and the array after the run, element by element. -/

@[expose] public section
set_option maxRecDepth 16384
noncomputable section

namespace Cert.KernelIdeal.Attn
open Idealize.ShloMosaic Idealize.ShloMosaic.TcCoe Idealize.ShloMosaic.Tactic
open Idealize.SL.Sem Cert.KernelIdeal.Gen Cert.Soft

variable (m : (ℓ : Loc nD τ sig) → Buf (Elt Ideal) ℓ)

/-- The blocks of the windows: batch `t / 72`, head `t / 18 % 4`, query block `t % 18`. -/
theorem idx : ∀ t : Fin grid0.N,
    win0_0.index t = ![t.val / 72, min (t.val % 18) 16, t.val / 18 % 4]
    ∧ win0_1.index t = ![t.val / 72, 0, t.val / 18 % 4]
    ∧ win0_2.index t = ![t.val / 72, 0, t.val / 18 % 4]
    ∧ win0_3.index t = ![0, 0]
    ∧ win0_4.index t = ![0, 0]
    ∧ win0_5.index t = ![t.val / 72, t.val % 18 - 1, t.val / 18 % 4] := by decide +kernel

theorem ctx_eq : ∀ t : Fin grid0.N, ctx t = BitVec.ofBool (decide (t.val % 18 = 0)) := by decide +kernel

theorem hN (t : Fin cfg0.N) : t.val < 576 := t.isLt

theorem iblk0_apply (c : Dev nD) (t : Fin cfg0.N) (r : Fin 256) (d : Fin 128) :
    iblk m c 0 t (ix3 0 r d) = V m c main_v4 (ix3 (⟨t.val / 72, by have := hN t; omega⟩ : Fin 8)
      (⟨256 * min (t.val % 18) 16 + r.val, by omega⟩ : Fin 4352) (chan ⟨t.val / 18 % 4, by omega⟩ d)) := by
  blk_ext [iblk, (idx t).1, chan]

theorem iblk1_apply (c : Dev nD) (t : Fin cfg0.N) (j : Fin 4352) (d : Fin 128) :
    iblk m c 1 t (ix3 0 j d) = V m c main_arg1 (ix3 (⟨t.val / 72, by have := hN t; omega⟩ : Fin 8)
      j (chan ⟨t.val / 18 % 4, by omega⟩ d)) := by
  blk_ext [iblk, (idx t).2.1, chan]

theorem iblk2_apply (c : Dev nD) (t : Fin cfg0.N) (j : Fin 4352) (d : Fin 128) :
    iblk m c 2 t (ix3 0 j d) = V m c main_arg2 (ix3 (⟨t.val / 72, by have := hN t; omega⟩ : Fin 8)
      j (chan ⟨t.val / 18 % 4, by omega⟩ d)) := by
  blk_ext [iblk, (idx t).2.2.1, chan]

theorem iblk3_eq (c : Dev nD) (t : Fin cfg0.N) (a : Fin 4) (d : Fin 64) :
    iblk m c 3 t (ix2 a d) = V m c main_arg3 (ix2 a d) := by
  blk_ext [iblk, (idx t).2.2.2.1]

theorem iblk4_apply (c : Dev nD) (t : Fin cfg0.N) (d : Fin 128) :
    iblk m c 4 t (ix2 d 0) = V m c main_v5 (ix2 d 0) := by
  blk_ext [iblk, (idx t).2.2.2.2.1]

/-- The values of a run of eighteen points are those of its batch and head. -/
theorem iblk2_prev (c : Dev nD) (t u : Fin cfg0.N) (h : t.val / 18 = u.val / 18) : iblk m c 2 t = iblk m c 2 u := by
  funext y
  obtain ⟨a, j, d, rfl⟩ : ∃ (a : Fin 1) (j : Fin 4352) (d : Fin 128), y = ix3 a j d := ⟨_, _, _, eq_ix3 y⟩
  obtain rfl : a = 0 := Subsingleton.elim _ _
  rw [iblk2_apply, iblk2_apply]
  have h1 : t.val / 72 = u.val / 72 := by omega
  simp only [h, h1]

/-- The point before. -/
def prev (t : Fin cfg0.N) : Fin cfg0.N := ⟨t.val - 1, Nat.lt_of_le_of_lt (Nat.sub_le _ _) t.isLt⟩

/-- At every point the transposed values are those of its batch and head. -/
theorem val_state (c : Dev nD) : ∀ (n : ℕ) (hn : n < cfg0.N), (outsAt0 m c n hn).2.1 = valV (iblk m c 2 ⟨n, hn⟩)
  | n, hn => by
    induction n with
    | zero => exact valA m c ⟨0, hn⟩ rfl rfl (by show ¬0 % 2 = 1; decide)
    | succ n ih =>
      by_cases h0 : (n + 1) % 18 = 0
      · exact valA m c ⟨n + 1, hn⟩ h0 (by show (n + 1) % 2 = 0; omega) (by show ¬(n + 1) % 2 = 1; omega)
      · have hp := ih (by omega)
        rw [iblk2_prev m c ⟨n, by omega⟩ ⟨n + 1, hn⟩ (by show n / 18 = (n + 1) / 18; omega)] at hp
        by_cases h1 : (n + 1) % 2 = 0
        · exact (keepC m c ⟨n + 1, hn⟩ h0 h1 (by show ¬(n + 1) % 2 = 1; omega)).trans hp
        · exact (keepB m c ⟨n + 1, hn⟩ h0 h1 (by show (n + 1) % 2 = 1; omega)).trans hp

/-- What a point with a query block before it writes: the output of that block. -/
theorem out_state (c : Dev nD) (t : Fin cfg0.N) (h0 : ¬t.val % 18 = 0) :
    (outsAt0 m c t.val t.isLt).1 = outV (iblk m c 3 t) (iblk m c 4 t) (valV (iblk m c 2 (prev t)))
      (scoreV (ctx (prev t)) (iblk m c 0 (prev t)) (iblk m c 1 (prev t)))
      (maxV (ctx (prev t)) (iblk m c 0 (prev t)) (iblk m c 1 (prev t))) := by
  have hv := val_state m c (t.val - 1) (Nat.lt_of_le_of_lt (Nat.sub_le _ _) t.isLt)
  by_cases h1 : t.val % 2 = 0
  · have p0 : ¬(prev t).val % 18 = 0 := by show ¬(t.val - 1) % 18 = 0; omega
    have p1 : ¬(prev t).val % 2 = 0 := by show ¬(t.val - 1) % 2 = 0; omega
    have p2 : (prev t).val % 2 = 1 := by show (t.val - 1) % 2 = 1; omega
    refine (outC m c t h0 h1 (by omega)).trans ?_
    rw [hv]
    exact congrArg₂ (outV _ _ _) (scoreB m c (prev t) p0 p1 p2) (maxB m c (prev t) p0 p1 p2)
  · have p1 : (prev t).val % 2 = 0 := by show (t.val - 1) % 2 = 0; omega
    have p2 : ¬(prev t).val % 2 = 1 := by show ¬(t.val - 1) % 2 = 1; omega
    refine (outB m c t h0 h1 (by omega)).trans ?_
    rw [hv]
    by_cases p0 : (prev t).val % 18 = 0
    · exact congrArg₂ (outV _ _ _) (scoreA m c (prev t) p0 p1 p2) (maxA m c (prev t) p0 p1 p2)
    · exact congrArg₂ (outV _ _ _) (scoreC m c (prev t) p0 p1 p2) (maxC m c (prev t) p0 p1 p2)

end Cert.KernelIdeal.Attn
-- ==== Proof.Attn.Final.lean ====
module

public import proofs.«01_k».proof.Proof.Attn.State
public import Idealize.ShloMosaic.Lib.StableHlo.ReadAt

/-! The array after the run: every element is the attention of its batch, head and position. -/

@[expose] public section
set_option maxRecDepth 16384
noncomputable section

namespace Cert.KernelIdeal.Attn
open Idealize.ShloMosaic Idealize.ShloMosaic.TcCoe Idealize.ShloMosaic.Tactic
open Idealize.SL.Sem Cert.KernelIdeal.Gen Cert.Soft

variable (m : (ℓ : Loc nD τ sig) → Buf (Elt Ideal) ℓ)

theorem ofBits_two : Ideal.ofBits .f32 0x40000000#32 = ((2 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

/-- The queries and keys before the run. -/
abbrev queries (c : Dev nD) : A3 → EReal := m ((c : Thread nD τ).loc main_arg0)

abbrev keys (c : Dev nD) : A3 → EReal := m ((c : Thread nD τ).loc main_arg1)

/-- The queries the call is given: divided by `8 ln 2`. -/
theorem v4_apply (c : Dev nD) (i : A3) : V m c main_v4 i
    = queries m c i * (((1 / 8 : ℝ) : EReal) * ((1 / Real.log 2 : ℝ) : EReal)) := by
  have e : V m c main_v4 i = queries m c i
      * Ideal.div (Ideal.ofBits .f32 0x3E000000#32) (Ideal.log (Ideal.ofBits .f32 0x40000000#32)) := by
    unfold V
    after_reads_at
  rw [e, ofBits_two, ofBits_eighth, Ideal.log_coe, if_neg (by norm_num),
    Ideal.div_coe (Real.log_pos (by norm_num)).ne']

theorem v5_apply (c : Dev nD) (d : Fin 128) : V m c main_v5 (ix2 d 0) = m ((c : Thread nD τ).loc main_arg4) (ix1 d) := by
  unfold V
  after_reads_at

/-- The output element of a point. -/
theorem point (c : Dev nD) (W : A3 → ℝ) (L : ℝ)
    (hW : ∀ i, m ((c : Thread nD τ).loc main_arg2) i = (W i : EReal))
    (hL : lamV (m ((c : Thread nD τ).loc main_arg3)) = L)
    (t : Fin cfg0.N) (h0 : ¬t.val % 18 = 0) (r : Fin 256) (d : Fin 128) :
    (outsAt0 m c t.val t.isLt).1 (ix3 0 r d)
      = spec (queries m c) (keys m c) W L (fun d => m ((c : Thread nD τ).loc main_arg4) (ix1 d)) ⟨t.val / 72, by have := hN t; omega⟩
          ⟨t.val / 18 % 4, by omega⟩ ⟨256 * (t.val % 18 - 1) + r.val, by omega⟩ d := by
  have e1 : (prev t).val = t.val - 1 := rfl
  have ht := hN t
  have eb : (prev t).val / 72 = t.val / 72 := by omega
  have eh : (prev t).val / 18 % 4 = t.val / 18 % 4 := by omega
  have en : min ((prev t).val % 18) 16 = t.val % 18 - 1 := by omega
  have hlam : lamV (iblk m c 3 t) = L := by
    rw [← hL]
    congr 1
    funext i
    obtain ⟨a, b, rfl⟩ : ∃ (a : Fin 4) (b : Fin 64), i = ix2 a b := ⟨_, _, eq_ix2 i⟩
    rw [iblk3_eq, V_main_arg3]
  have hk : ∀ j e, iblk m c 1 (prev t) (ix3 0 j e)
      = keys m c (ix3 (⟨t.val / 72, by omega⟩ : Fin 8) j (chan ⟨t.val / 18 % 4, by omega⟩ e)) := fun j e => by
    rw [iblk1_apply, V_main_arg1]
    simp only [eb, eh]
  have hq : ∀ e, iblk m c 0 (prev t) (ix3 0 r e)
      = (queries m c (ix3 (⟨t.val / 72, by omega⟩ : Fin 8) (⟨256 * (t.val % 18 - 1) + r.val, by omega⟩ : Fin 4352)
          (chan ⟨t.val / 18 % 4, by omega⟩ e))) * (((1 / 8 : ℝ) : EReal) * ((1 / Real.log 2 : ℝ) : EReal)) := fun e => by
    rw [iblk0_apply, v4_apply m c]
    simp only [eb, eh, en]
  have hsc : ∀ w j, sc (iblk m c 0 (prev t)) (iblk m c 1 (prev t)) w r j
      = Cert.Soft.score (queries m c) (keys m c) ⟨t.val / 72, by omega⟩ ⟨t.val / 18 % 4, by omega⟩ w
          ⟨256 * (t.val % 18 - 1) + r.val, by omega⟩ j * ((1 / Real.log 2 : ℝ) : EReal) := fun w j => by
    have hl : 0 < Real.log 2 := Real.log_pos (by norm_num)
    unfold sc Cert.Soft.score
    simp only [hk, hq, ← mul_assoc]
    rw [sum_scale _ _ _ (by positivity), sum_scale _ _ _ (by positivity)]
  have hw : ∀ w e, wavg (fun j => iblk m c 2 (prev t) (ix3 0 j e))
      (fun j => scoreV (ctx (prev t)) (iblk m c 0 (prev t)) (iblk m c 1 (prev t)) (ix2 j (col w r)))
      (mxOf (ctx (prev t)) (iblk m c 0 (prev t)) (iblk m c 1 (prev t)) w r) = _ :=
    fun w e => mean_of_exp2 _ _ (fun j => if 256 * (t.val % 18 - 1) + r.val < 256 ∧ 256 ≤ j.val then ⊥
        else Cert.Soft.score (queries m c) (keys m c) ⟨t.val / 72, by omega⟩
          ⟨t.val / 18 % 4, by omega⟩ w ⟨256 * (t.val % 18 - 1) + r.val, by omega⟩ j)
      (fun j => W (ix3 ⟨t.val / 72, by omega⟩ j (chan ⟨t.val / 18 % 4, by omega⟩ e))) _ (fun j => by
        rw [iblk2_apply, V_main_arg2, hW]
        simp only [eb, eh]) (fun j => by
        rw [scoreV_apply, hsc, ctx_eq]
        have hc : (BitVec.ofBool (decide ((prev t).val % 18 = 0)) = 1#1 ∧ 256 ≤ j.val)
            ↔ (256 * (t.val % 18 - 1) + r.val < 256 ∧ 256 ≤ j.val) := by
          refine and_congr_left fun _ => ?_
          by_cases hp : (prev t).val % 18 = 0
          · simp [hp]; omega
          · simp [hp]; omega
        by_cases hm : 256 * (t.val % 18 - 1) + r.val < 256 ∧ 256 ≤ j.val
        · rw [if_pos hm, if_pos (hc.2 hm), EReal.bot_mul_coe_of_pos (one_div_pos.2 (Real.log_pos (by norm_num)))]
        · rw [if_neg hm, if_neg fun h => hm (hc.1 h)]) (mxOf_isMax ..)
  rw [out_state m c t h0, outV_apply, hlam]
  simp only [hw]
  rw [row_means, iblk4_apply, v5_apply]
  rfl

/-- The array after the run. -/
theorem final (c : Dev nD) (W : A3 → ℝ) (L : ℝ)
    (hW : ∀ i, m ((c : Thread nD τ).loc main_arg2) i = (W i : EReal))
    (hL : lamV (m ((c : Thread nD τ).loc main_arg3)) = L) :
    (dats m 0 c).arrAt 5 cfg0.N = fun i => spec (queries m c) (keys m c) W L (fun d => m ((c : Thread nD τ).loc main_arg4) (ix1 d)) (i 0)
      ⟨(i 2).val / 128, by have : (i 2).val < 512 := (i 2).isLt; omega⟩ (i 1)
      ⟨(i 2).val % 128, by omega⟩ := by
  refine (dats m 0 c).arrAt_eq_of_covers 5 _ (by decide +kernel) fun t hf y => ?_
  have h0 : ¬t.val % 18 = 0 := (by decide +kernel : ∀ t : Fin cfg0.N, (cfg0.win 5).flush t = true → ¬t.val % 18 = 0) t hf
  obtain ⟨a, r, d, rfl⟩ : ∃ (a : Fin 1) (r : Fin 256) (d : Fin 128), y = ix3 a r d := ⟨_, _, _, eq_ix3 y⟩
  obtain rfl : a = 0 := Subsingleton.elim _ _
  have hp := point m c W L hW hL t h0 r d
  refine Eq.trans ?_ (hp.trans ?_)
  · blk_simp
    rw [after0_5]
  · have c0 : (((cfg0.win 5).blk t).view.emb (ix3 0 r d) 0).val = t.val / 72 := by
      blk_simp [(idx t).2.2.2.2.2]
      exact Nat.add_zero _
    have c1 : (((cfg0.win 5).blk t).view.emb (ix3 0 r d) 1).val = 256 * (t.val % 18 - 1) + r.val := by
      blk_simp [(idx t).2.2.2.2.2]
      omega
    have c2 : (((cfg0.win 5).blk t).view.emb (ix3 0 r d) 2).val = 128 * (t.val / 18 % 4) + d.val := by
      blk_simp [(idx t).2.2.2.2.2]
      omega
    generalize ((cfg0.win 5).blk t).view.emb (ix3 0 r d) = z at c0 c1 c2
    have z0 : (⟨t.val / 72, by have := hN t; omega⟩ : Fin 8) = z 0 := Fin.ext c0.symm
    have z1 : (⟨256 * (t.val % 18 - 1) + r.val, by omega⟩ : Fin 4352) = z 1 := Fin.ext c1.symm
    have z2 : (⟨t.val / 18 % 4, by omega⟩ : Fin 4) = ⟨(z 2).val / 128, by have : (z 2).val < 512 := (z 2).isLt; omega⟩ :=
      Fin.ext (by show t.val / 18 % 4 = (z 2).val / 128; omega)
    have z3 : d = ⟨(z 2).val % 128, by omega⟩ := Fin.ext (by show d.val = (z 2).val % 128; omega)
    rw [z0, z1, z2]
    exact congrArg (spec (queries m c) (keys m c) W L _ _ _ _) z3

end Cert.KernelIdeal.Attn
-- ==== Proof.Attn.Ref.lean ====
module

public import proofs.«01_k».proof.Proof.Gen.ReferenceIdeal.Read
public import proofs.«01_k».proof.Proof.Attn.Soft

/-! The reference, element by element: the same attention. -/

@[expose] public section
set_option maxRecDepth 16384
noncomputable section

namespace Cert.ReferenceIdeal.Attn
open Idealize.ShloMosaic Idealize.ShloMosaic.TcCoe
open Cert.ReferenceIdeal Cert.ReferenceIdeal.Gen Cert.ReferenceIdeal.Read Cert.Soft

variable (x0 x1 x2 : A3 → EReal) (x3 : (⟨2, ![4, 64]⟩ : Shape).Idx → EReal) (x4 : (⟨1, ![128]⟩ : Shape).Idx → EReal)

theorem v20 : val_main_v20 (F := Ideal) x3 ix0 = lamV x3 := by
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_cst,
    val_main_cst_0, val_main_cst_1]
  rfl

theorem ofBits_eighth : Ideal.ofBits .f32 0x3E000000#32 = ((1 / 8 : ℝ) : EReal) := by
  simp [Ideal.ofBits, Ideal.ieee, -EReal.coe_mul]; norm_num

theorem ofBits_bot : Ideal.ofBits .f32 0xFF800000#32 = ⊥ := by
  simp [Ideal.ofBits, Ideal.ieee]

/-- The places of a row along the last axis of five. -/
theorem lift_last (n0 n1 n2 n3 n4 : ℕ) (hr : (⟨5, ![n0, n1, n2, n3, n4]⟩ : Shape).Reduces [4] ⟨4, ![n0, n1, n2, n3]⟩)
    (a : Fin n0) (b : Fin n1) (c : Fin n2) (d : Fin n3) (e : Fin n4) : hr.lift (ix4 a b c d) e = ix5 a b c d e := by
  funext x
  refine Fin.ext ((hr.lift_val _ _ x).trans ?_)
  unfold Shape.Reduces.liftVal
  fin_cases x <;> rfl

/-- A maximum over the last axis of five, from −∞, is the greatest of the row. -/
theorem reduce_isMax (n0 n1 n2 n3 n4 : ℕ) {u : Shape} (x : (⟨5, ![n0, n1, n2, n3, n4]⟩ : Shape).Idx → EReal) (init : u.Idx → EReal)
    (h' : (⟨5, ![n0, n1, n2, n3, n4]⟩ : Shape).ReducesTo [4] ⟨4, ![n0, n1, n2, n3]⟩)
    (hr : (⟨5, ![n0, n1, n2, n3, n4]⟩ : Shape).Reduces [4] ⟨4, ![n0, n1, n2, n3]⟩) (hu : 0 < u.numel) (hi : ∀ i, init i = ⊥)
    (hs : 0 < n4) (a : Fin n0) (b : Fin n1) (c : Fin n2) (d : Fin n3) :
    IsMax (fun e => x (ix5 a b c d e)) (Host.reduce (FloatOps.maximumf (F := Ideal) (φ := .f32)) x init h' hu (ix4 a b c d)) := by
  haveI : Nonempty (Fin n4) := ⟨⟨0, hs⟩⟩
  rw [Host.reduce_eq_fold_single _ x init h' hr hu (ix4 a b c d), hi]
  have key : ∀ e : Fin n4, (x ∘ hr.lift (ix4 a b c d)) e = x (ix5 a b c d e) := fun e => congrArg x (lift_last n0 n1 n2 n3 n4 hr a b c d e)
  refine isMax_fold _ _ _ fun B => ⟨fun h e => (key e) ▸ h e (Finset.mem_univ _), fun h e _ => ?_⟩
  exact (key e).le.trans (h e)

/-! The latent queries, against all keys. -/

theorem v24 (b : Fin 8) (h : Fin 4) (w : Fin 2) (s : Fin 4096) (j : Fin 4352) :
    val_main_v24 (F := Ideal) x0 x1 (ix5 b h w s j)
      = (∑ d, x0 (ix3 b ⟨256 + s.val, by omega⟩ (chan h (lane w d))) * x1 (ix3 b j (chan h (lane w d)))) * ((1 / 8 : ℝ) : EReal) := by
  have e : ∀ d, (⟨h.val * 128 + w.val * 64 + d.val, by omega⟩ : Fin 512) = chan h (lane w d) := fun d =>
    Fin.ext (by show h.val * 128 + w.val * 64 + d.val = 128 * h.val + (64 * w.val + d.val); omega)
  simp only [← e]
  rw [← ofBits_eighth]
  pointwise [val_main_v24, val_main_v22, val_main_v21, val_main_v2, val_main_v3, val_main_v0, val_main_v23, val_main_cst_2]

theorem v27 (b : Fin 8) (h : Fin 4) (w : Fin 2) (s : Fin 4096) :
    IsMax (fun j => val_main_v24 (F := Ideal) x0 x1 (ix5 b h w s j)) (val_main_v27 (F := Ideal) x0 x1 (ix4 b h w s)) := by
  have e : val_main_v27 (F := Ideal) x0 x1 (ix4 b h w s) = val_main_v25 (F := Ideal) x0 x1 (ix4 b h w s) := by
    rw [val_main_v27_apply, val_main_v26_apply]
    show max (Ideal.ofBits .f32 0xFF800000#32) (val_main_v25 (F := Ideal) x0 x1 (ix4 b h w s)) = _
    rw [ofBits_bot, max_eq_right bot_le]
  rw [e, val_main_v25]
  exact reduce_isMax 8 4 2 4096 4352 (val_main_v24 (F := Ideal) x0 x1) (val_main_cst_3 (F := Ideal)) reducesTo_S8x4x2x4096x4352_S8x4x2x4096_d4 (by decide) h_S_
    (fun _ => by simp [val_main_cst_3, constant, Ideal.ofBits, Ideal.ieee]) (by decide) b h w s

theorem v37 (b : Fin 8) (h : Fin 4) (s : Fin 4096) (j : Fin 4352) :
    val_main_v37 (F := Ideal) x0 x1 (ix4 b h s j)
      = Ideal.div (Ideal.exp (val_main_v24 (F := Ideal) x0 x1 (ix5 b h 0 s j) - val_main_v27 (F := Ideal) x0 x1 (ix4 b h 0 s)))
        (∑ x, Ideal.exp (val_main_v24 (F := Ideal) x0 x1 (ix5 b h 0 s x) - val_main_v27 (F := Ideal) x0 x1 (ix4 b h 0 s))) := by
  pointwise [val_main_v37, val_main_v36, val_main_v35, val_main_v34, val_main_v33, val_main_v32, val_main_v31, val_main_v30,
    val_main_v29, val_main_v28, val_main_cst_5]

theorem v39 (b : Fin 8) (h : Fin 4) (s : Fin 4096) (j : Fin 4352) :
    val_main_v39 (F := Ideal) x0 x1 (ix4 b h s j)
      = Ideal.div (Ideal.exp (val_main_v24 (F := Ideal) x0 x1 (ix5 b h 1 s j) - val_main_v27 (F := Ideal) x0 x1 (ix4 b h 1 s)))
        (∑ x, Ideal.exp (val_main_v24 (F := Ideal) x0 x1 (ix5 b h 1 s x) - val_main_v27 (F := Ideal) x0 x1 (ix4 b h 1 s))) := by
  pointwise [val_main_v39, val_main_v38, val_main_v35, val_main_v34, val_main_v33, val_main_v32, val_main_v31, val_main_v30,
    val_main_v29, val_main_v28, val_main_cst_5]

theorem v4 (b : Fin 8) (j : Fin 4352) (h : Fin 4) (e : Fin 128) :
    val_main_v4 (F := Ideal) x2 (ix4 b j h e) = x2 (ix3 b j (chan h e)) := by
  have ec : (⟨h.val * 128 + e.val, by omega⟩ : Fin 512) = chan h e := Fin.ext (by
    show h.val * 128 + e.val = 128 * h.val + e.val; omega)
  rw [← ec]
  pointwise [val_main_v4, val_main_v1]

theorem v42 (b : Fin 8) (h : Fin 4) (s : Fin 4096) (j : Fin 4352) :
    val_main_v42 (F := Ideal) x0 x1 x3 (ix4 b h s j)
      = val_main_v37 (F := Ideal) x0 x1 (ix4 b h s j) - lamV x3 * val_main_v39 (F := Ideal) x0 x1 (ix4 b h s j) := by
  rw [val_main_v42_apply, val_main_v41_apply, val_main_v40_apply, ← v20]
  exact congrArg (fun i => _ - val_main_v20 (F := Ideal) x3 i * _) (funext fun a => a.elim0)

theorem left43 (b : Fin 8) (h : Fin 4) (s : Fin 4096) (e : Fin 128) (j : Fin 4352) :
    lidx_main_v43 (idx_main_v44 (ix4 b s h e)) j = ix4 b j h e := by
  funext a; fin_cases a <;> rfl

theorem right43 (b : Fin 8) (h : Fin 4) (s : Fin 4096) (e : Fin 128) (j : Fin 4352) :
    ridx_main_v43 (idx_main_v44 (ix4 b s h e)) j = ix4 b h s j := by
  funext a; fin_cases a <;> rfl

theorem v44 (b : Fin 8) (s : Fin 4096) (h : Fin 4) (e : Fin 128) :
    val_main_v44 (F := Ideal) x0 x1 x2 x3 (ix4 b s h e) = ∑ j, x2 (ix3 b j (chan h e))
      * (val_main_v37 (F := Ideal) x0 x1 (ix4 b h s j) - lamV x3 * val_main_v39 (F := Ideal) x0 x1 (ix4 b h s j)) := by
  rw [val_main_v44_apply, val_main_v43_apply]
  simp only [left43, right43, v42, v4]

/-! The context queries, against the context keys. -/

theorem v50 (b : Fin 8) (h : Fin 4) (w : Fin 2) (s : Fin 256) (j : Fin 256) :
    val_main_v50 (F := Ideal) x0 x1 (ix5 b h w s j)
      = (∑ d, x0 (ix3 b ⟨s.val, by omega⟩ (chan h (lane w d))) * x1 (ix3 b ⟨j.val, by omega⟩ (chan h (lane w d)))) * ((1 / 8 : ℝ) : EReal) := by
  have e : ∀ d, (⟨h.val * 128 + w.val * 64 + d.val, by omega⟩ : Fin 512) = chan h (lane w d) := fun d =>
    Fin.ext (by show h.val * 128 + w.val * 64 + d.val = 128 * h.val + (64 * w.val + d.val); omega)
  simp only [← e]
  rw [← ofBits_eighth]
  pointwise [val_main_v50, val_main_v49, val_main_v48, val_main_v46, val_main_v45, val_main_v2, val_main_v3, val_main_v0, val_main_cst_6]

theorem v53 (b : Fin 8) (h : Fin 4) (w : Fin 2) (s : Fin 256) :
    IsMax (fun j => val_main_v50 (F := Ideal) x0 x1 (ix5 b h w s j)) (val_main_v53 (F := Ideal) x0 x1 (ix4 b h w s)) := by
  have e : val_main_v53 (F := Ideal) x0 x1 (ix4 b h w s) = val_main_v51 (F := Ideal) x0 x1 (ix4 b h w s) := by
    rw [val_main_v53_apply, val_main_v52_apply]
    show max (Ideal.ofBits .f32 0xFF800000#32) (val_main_v51 (F := Ideal) x0 x1 (ix4 b h w s)) = _
    rw [ofBits_bot, max_eq_right bot_le]
  rw [e, val_main_v51]
  exact reduce_isMax 8 4 2 256 256 (val_main_v50 (F := Ideal) x0 x1) (val_main_cst_7 (F := Ideal)) reducesTo_S8x4x2x256x256_S8x4x2x256_d4 (by decide) h_S_
    (fun _ => by simp [val_main_cst_7, constant, Ideal.ofBits, Ideal.ieee]) (by decide) b h w s

theorem v63 (b : Fin 8) (h : Fin 4) (s : Fin 256) (j : Fin 256) :
    val_main_v63 (F := Ideal) x0 x1 (ix4 b h s j)
      = Ideal.div (Ideal.exp (val_main_v50 (F := Ideal) x0 x1 (ix5 b h 0 s j) - val_main_v53 (F := Ideal) x0 x1 (ix4 b h 0 s)))
        (∑ x, Ideal.exp (val_main_v50 (F := Ideal) x0 x1 (ix5 b h 0 s x) - val_main_v53 (F := Ideal) x0 x1 (ix4 b h 0 s))) := by
  pointwise [val_main_v63, val_main_v62, val_main_v61, val_main_v60, val_main_v59, val_main_v58, val_main_v57, val_main_v56,
    val_main_v55, val_main_v54, val_main_cst_9]

theorem v65 (b : Fin 8) (h : Fin 4) (s : Fin 256) (j : Fin 256) :
    val_main_v65 (F := Ideal) x0 x1 (ix4 b h s j)
      = Ideal.div (Ideal.exp (val_main_v50 (F := Ideal) x0 x1 (ix5 b h 1 s j) - val_main_v53 (F := Ideal) x0 x1 (ix4 b h 1 s)))
        (∑ x, Ideal.exp (val_main_v50 (F := Ideal) x0 x1 (ix5 b h 1 s x) - val_main_v53 (F := Ideal) x0 x1 (ix4 b h 1 s))) := by
  pointwise [val_main_v65, val_main_v64, val_main_v61, val_main_v60, val_main_v59, val_main_v58, val_main_v57, val_main_v56,
    val_main_v55, val_main_v54, val_main_cst_9]

theorem v70 (b : Fin 8) (s : Fin 256) (h : Fin 4) (e : Fin 128) :
    val_main_v70 (F := Ideal) x0 x1 x2 x3 (ix4 b s h e) = ∑ j : Fin 256, x2 (ix3 b ⟨j.val, by omega⟩ (chan h e))
      * (val_main_v63 (F := Ideal) x0 x1 (ix4 b h s j) - lamV x3 * val_main_v65 (F := Ideal) x0 x1 (ix4 b h s j)) := by
  have ec : (⟨h.val * 128 + e.val, by omega⟩ : Fin 512) = chan h e := Fin.ext (by
    show h.val * 128 + e.val = 128 * h.val + e.val; omega)
  rw [val_main_v70_apply, val_main_v69_apply]
  refine Finset.sum_congr rfl fun j _ => ?_
  have e1 : lidx_main_v69 (idx_main_v70 (ix4 b s h e)) j = ix4 b j h e := by
    funext a; fin_cases a <;> rfl
  have e2 : ridx_main_v69 (idx_main_v70 (ix4 b s h e)) j = ix4 b h s j := by
    funext a; fin_cases a <;> rfl
  rw [e1, e2, ← v20, ← ec]
  pointwise [val_main_v68, val_main_v67, val_main_v66, val_main_v47, val_main_v4, val_main_v1]

theorem v88 (b : Fin 8) (s : Fin 4352) (x : Fin 512) :
    val_main_v88 (F := Ideal) x0 x1 x2 x3 x4 (ix3 b s x)
      = normed (fun e => val_main_v71 (F := Ideal) x0 x1 x2 x3 (ix4 b s ⟨x.val / 128, by omega⟩ e)) (x4 (ix1 ⟨x.val % 128, by omega⟩))
          ⟨x.val % 128, by omega⟩ := by
  unfold normed
  rw [← mul_assoc]
  pointwise [val_main_v88, val_main_v87, val_main_v86, val_main_v85, val_main_v84, val_main_v83, val_main_v82, val_main_v81,
    val_main_v80, val_main_v79, val_main_v78, val_main_v77, val_main_v76, val_main_v75, val_main_v74, val_main_v73, val_main_v72,
    val_main_cst_10, val_main_cst_11, val_main_cst_12, val_main_cst_13]

/-! ## With real values and a real λ -/

variable (V : A3 → ℝ) (L : ℝ)

/-- A score of the latent queries is the scaled product. -/
theorem score_lat (b : Fin 8) (h : Fin 4) (w : Fin 2) (s : Fin 4096) (j : Fin 4352) :
    val_main_v24 (F := Ideal) x0 x1 (ix5 b h w s j) = score x0 x1 b h w ⟨256 + s.val, by omega⟩ j := by
  rw [v24]
  simp only [score, mul_comm (x1 _)]

/-- A score of the context queries. -/
theorem score_ctx (b : Fin 8) (h : Fin 4) (w : Fin 2) (s : Fin 256) (j : Fin 256) :
    val_main_v50 (F := Ideal) x0 x1 (ix5 b h w s j) = score x0 x1 b h w ⟨s.val, by omega⟩ ⟨j.val, by omega⟩ := by
  rw [v50]
  simp only [score, mul_comm (x1 _)]

/-- The attention of the latent queries, normalised. -/
theorem att_lat (h2 : ∀ i, x2 i = V i) (hl : lamV x3 = L) (g : Fin 128 → EReal) (b : Fin 8) (s : Fin 4096) (h : Fin 4) (d : Fin 128) :
    normed (fun e => val_main_v44 (F := Ideal) x0 x1 x2 x3 (ix4 b s h e)) (g d) d
      = spec x0 x1 V L g b h ⟨256 + s.val, by omega⟩ d := by
  simp only [v44, v37, v39, hl, weight _ _ (v27 x0 x1 b h _ s)]
  refine (row_weights _ _ _ (fun e j => V (ix3 b j (chan h e))) L _ _ fun e j => h2 _).trans ?_
  have hs : ∀ j : Fin 4352, ¬(256 + s.val < 256 ∧ 256 ≤ j.val) := fun j => by omega
  simp only [spec, if_neg (hs _), score_lat]

/-- The attention of the context queries, normalised. -/
theorem att_ctx (h2 : ∀ i, x2 i = V i) (hl : lamV x3 = L) (g : Fin 128 → EReal) (b : Fin 8) (s : Fin 256) (h : Fin 4) (d : Fin 128) :
    normed (fun e => val_main_v70 (F := Ideal) x0 x1 x2 x3 (ix4 b s h e)) (g d) d
      = spec x0 x1 V L g b h ⟨s.val, by omega⟩ d := by
  simp only [v70, v63, v65, hl, weight _ _ (v53 x0 x1 b h _ s)]
  refine (row_weights _ _ _ (fun e j => V (ix3 b ⟨j.val, by omega⟩ (chan h e))) L _ _ fun e j => h2 _).trans ?_
  have hs : ∀ j : Fin 4352, (s.val < 256 ∧ 256 ≤ j.val) = (256 ≤ j.val) := fun j => by simp [s.isLt]
  simp only [spec, hs, score_ctx]
  rw [row_take 256 4096 4352 rfl]

/-- The attention of all queries, normalised. -/
theorem att_all (h2 : ∀ i, x2 i = V i) (hl : lamV x3 = L) (g : Fin 128 → EReal) (b : Fin 8) (s : Fin 4352) (h : Fin 4) (d : Fin 128) :
    normed (fun e => val_main_v71 (F := Ideal) x0 x1 x2 x3 (ix4 b s h e)) (g d) d = spec x0 x1 V L g b h s d := by
  have key : ∀ (y : S8x256x4x128.Idx → EReal) (z : S8x4096x4x128.Idx → EReal) (e : Fin 128),
      concatenate S8x4352x4x128 1 [⟨S8x256x4x128, y⟩, ⟨S8x4096x4x128, z⟩] concatenates_S8x256x4x128_S8x4096x4x128_S8x4352x4x128_d1
        (ix4 b s h e) = if hs : s.val < 256 then y (ix4 b ⟨s.val, hs⟩ h e) else z (ix4 b ⟨s.val - 256, by omega⟩ h e) := by
    intro y z e
    pointwise []
  simp only [val_main_v71, key]
  by_cases hs : s.val < 256
  · simp only [dif_pos hs]
    rw [att_ctx x0 x1 x2 x3 V L h2 hl]
  · simp only [dif_neg hs]
    rw [att_lat x0 x1 x2 x3 V L h2 hl]
    simp only [show 256 + (s.val - 256) = s.val by omega]

/-- What the reference returns. -/
theorem result (h2 : ∀ i, x2 i = V i) (hl : lamV x3 = L) (i : A3) :
    val_main_v88 (F := Ideal) x0 x1 x2 x3 x4 i
      = spec x0 x1 V L (fun d => x4 (ix1 d)) (i 0) ⟨(i 2).val / 128, by have : (i 2).val < 512 := (i 2).isLt; omega⟩ (i 1) ⟨(i 2).val % 128, Nat.mod_lt _ (by decide)⟩ := by
  refine (congrArg (val_main_v88 (F := Ideal) x0 x1 x2 x3 x4)
    (show i = ix3 (i 0) (i 1) (i 2) from funext fun a => by fin_cases a <;> rfl)).trans ((v88 x0 x1 x2 x3 x4 (i 0) (i 1) (i 2)).trans ?_)
  exact att_all x0 x1 x2 x3 V L h2 hl (fun d => x4 (ix1 d)) _ _ _ _

end Cert.ReferenceIdeal.Attn
-- ==== Proof.Ffn.Step.lean ====
module

public import proofs.«01_k».proof.Proof.Gen.FfnIdeal.Value
public import Idealize.ShloMosaic.Lib.Pipeline.ValueKit
public import Idealize.ShloMosaic.Lib.Pipeline.ReadBack

/-! What one grid point of the feed-forward kernel leaves: the pieces found by the run, read back as a few named
functions of the point's blocks. The eleven column chunks are one function of the chunk's number. -/

@[expose] public section
set_option maxRecDepth 16384
set_option maxHeartbeats 1000000
noncomputable section

namespace Cert.FfnIdeal.Tile
open Idealize.ShloMosaic Idealize.ShloMosaic.TcCoe Idealize.ShloMosaic.Tactic
open Idealize.SL.Sem Cert.FfnIdeal.Gen
open Idealize.ShloMosaic.ValueIdx

variable {F : FTy → Type} [FloatOps F]

/-- Columns `o … o + 255` of the up projection's weights. -/
def ldW (w : Vec F S1024x5632 .bf16) (o : ℕ) (h : o + 256 ≤ 5632) : Vec F S1024x256 .bf16 :=
  View.ld w (Rect.unit (s := S1024x5632) ![0, o] S1024x256.size (by
    intro a; fin_cases a <;> simp [S1024x256, S1024x5632] <;> omega))

/-- Columns `o … o + 255` of one tap. -/
def ldC (w : Vec F S3x5632 .f32) (k : Fin 3) (o : ℕ) (h : o + 256 ≤ 5632) : Vec F S1x256 .f32 :=
  View.ld w (Rect.unit (s := S3x5632) ![k.val, o] S1x256.size (by
    intro a; have := k.isLt; fin_cases a <;> simp [S1x256, S3x5632] <;> omega))

/-- The convolution of 256 columns of the up projection: three shifted slices, each with its tap. -/
def conv (u : FVec F S1040x1024 .bf16) (w : Vec F S1024x256 .bf16) (a b c : Vec F S1x256 .f32) : FVec F S1024x256 .f32 :=
  k0_pay14 u w a b c

/-- Chunk `n` of the activations: the gate's half at column `256 n`, the value's at `2816 + 256 n`. -/
def chunk (u : FVec F S1040x1024 .bf16) (w : Vec F S1024x5632 .bf16) (cw : Vec F S3x5632 .f32) (n : Fin 11) :
    FVec F S1024x256 .bf16 :=
  have h1 : 256 * n.val + 256 ≤ 5632 := by omega
  have h2 : (2816 + 256 * n.val) + 256 ≤ 5632 := by omega
  let x := conv u (ldW w (256 * n.val) h1) (ldC cw 0 _ h1) (ldC cw 1 _ h1) (ldC cw 2 _ h1)
  let y := conv u (ldW w (2816 + 256 * n.val) h2) (ldC cw 0 _ h2) (ldC cw 1 _ h2) (ldC cw 2 _ h2)
  k0_pay17 x y (addf (broadcast S1024x256 (Scalar.ofBits .f32 0x3F800000#32))
    (exp (subf (broadcast S1024x256 (Scalar.ofBits .f32 0x00000000#32)) x))) (FloatOps.ofBits FTy.f32 1065353216#32)

/-- The activations: column `256 n + r` is column `r` of chunk `n`. -/
def act (u : FVec F S1040x1024 .bf16) (w : Vec F S1024x5632 .bf16) (cw : Vec F S3x5632 .f32) : Vec F S1024x2816 .bf16 :=
  fun y => chunk u w cw ⟨(y 1).val / 256, by have : (y 1).val < 2816 := (y 1).isLt; omega⟩
    (ValueIdx.ix2 ⟨(y 0).val, (y 0).isLt⟩ ⟨(y 1).val % 256, Nat.mod_lt _ (by decide)⟩)

/-- The eleven stores of the chunks, read back. -/
theorem canon_act (u : FVec F S1040x1024 .bf16) (w : Vec F S1024x5632 .bf16) (cw : Vec F S3x5632 .f32) :
    View.canon (List.ofFn fun j : Fin 11 =>
      (⟨Rect.unit (s := S1024x2816) ![0, 256 * (10 - j.val)] S1024x256.size (by
          intro a; fin_cases a <;> simp [S1024x256, S1024x2816] <;> omega),
        chunk u w cw ⟨10 - j.val, by omega⟩⟩ : View.Piece (Elt F) S1024x2816 .bf16)) = act u w cw := by
  funext y
  have hy : (y 0).val < 1024 := (y 0).isLt
  have hy1 : (y 1).val < 2816 := (y 1).isLt
  refine View.canon_ofFn_unit_eq_of_forall _ _ _ _ _ _ ⟨⟨10 - (y 1).val / 256, by omega⟩, fun a => ?_⟩ fun j x hx => ?_
  · fin_cases a
    · show 0 ≤ (y 0).val ∧ (y 0).val < 0 + 1024
      omega
    · show 256 * (10 - (10 - (y 1).val / 256)) ≤ (y 1).val ∧ (y 1).val < 256 * (10 - (10 - (y 1).val / 256)) + 256
      omega
  · have e0 : (y 0).val = 0 + (x 0).val := hx 0
    have e1 : (y 1).val = 256 * (10 - j.val) + (x 1).val := hx 1
    have x1 : (x 1).val < 256 := (x 1).isLt
    unfold act
    have en : (⟨(y 1).val / 256, by omega⟩ : Fin 11) = ⟨10 - j.val, by omega⟩ := Fin.ext (by show (y 1).val / 256 = 10 - j.val; omega)
    rw [en]
    congr 1
    funext a
    fin_cases a
    · exact Fin.ext (by show (x 0).val = (y 0).val; omega)
    · exact Fin.ext (by show (x 1).val = (y 1).val % 256; omega)

/-- The modulated norm of a tile's rows with one row of halo on each side, each multiplied by its flag. -/
def up (fp fn : F .f32) (x : Vec F S8x128x1024 .f32) (p q : Vec F S8x8x1024 .f32) (mo : Vec F S1x8x6144 .f32)
    (g : Vec F S1x1024 .f32) : FVec F S1040x1024 .bf16 :=
  k0_pay13 (k0_pay3 mo) (k0_pay4 mo) (k0_pay6 g) fp fn (k0_pay9 x) (k0_pay10 q) (k0_pay11 p) (k0_pay12 g)

variable (m : (ℓ : Loc nD τ sig) → Buf (Elt F) ℓ)

theorem out (c : Dev nD) (t : Fin cfg0.N) :
    outsAt0 m c t = k0_pay1 (k0_pay5 (iblk m c 3 t)) (k0_pay9 (iblk m c 0 t))
      (act (up (k0_pay7 (grid0.coords t)) (k0_pay8 (grid0.coords t)) (iblk m c 0 t) (iblk m c 1 t) (iblk m c 2 t) (iblk m c 3 t) (iblk m c 4 t))
        (iblk m c 5 t) (iblk m c 6 t)) (iblk m c 7 t) := by
  unfold outsAt0
  frame_out
  refine congrArg (fun a => k0_pay1 (k0_pay5 (iblk m c 3 t)) (k0_pay9 (iblk m c 0 t)) a (iblk m c 7 t)) ?_
  refine (View.readCov_eq_canon' _ _ _).trans ?_
  refine Eq.trans ?_ (canon_act _ _ _)
  funext y
  refine congrArg (View.canon _) (funext fun a => ?_)
  fin_cases a <;> exact Fin.ext (by show 0 + 1 * _ = _; omega)

end Cert.FfnIdeal.Tile
-- ==== Proof.Ffn.Point.lean ====
module

public import proofs.«01_k».proof.Proof.Ffn.Step
public import proofs.«01_k».proof.Proof.Ffn.Math

/-! The functions of `Ffn.Step` on the extended reals, element by element. Row `8 s + b` of a tile is token `s` of
sequence `b`. -/

@[expose] public section
set_option maxRecDepth 16384
noncomputable section

namespace Cert.FfnIdeal.Tile
open Idealize.ShloMosaic Idealize.ShloMosaic.TcCoe
open Cert.FfnIdeal.Gen Cert.Feed

theorem ldW_apply (w : Vec Ideal S1024x5632 .bf16) (o : ℕ) (h : o + 256 ≤ 5632) (e : Fin 1024) (j : Fin 256) :
    ldW w o h (ix2 e j) = w (ix2 e ⟨o + j.val, by omega⟩) := by
  unfold ldW
  pointwise

theorem ldC_apply (w : Vec Ideal S3x5632 .f32) (k : Fin 3) (o : ℕ) (h : o + 256 ≤ 5632) (j : Fin 256) :
    ldC w k o h (ix2 0 j) = w (ix2 k ⟨o + j.val, by omega⟩) := by
  unfold ldC
  pointwise

/-- A sequence's rows of the halo-extended tile. -/
def rowAt (u : FVec Ideal S1040x1024 .bf16) (b : Fin 8) (s : ℕ) (h : s < 130) : Row := fun e => u (ix2 ⟨8 * s + b.val, by omega⟩ e)

theorem conv_apply (u : FVec Ideal S1040x1024 .bf16) (w : Vec Ideal S1024x5632 .bf16) (cw : Vec Ideal S3x5632 .f32)
    (o : ℕ) (h : o + 256 ≤ 5632) (b : Fin 8) (s : Fin 128) (j : Fin 256) :
    Tile.conv u (ldW w o h) (ldC cw 0 o h) (ldC cw 1 o h) (ldC cw 2 o h) (ix2 ⟨8 * s.val + b.val, by omega⟩ j)
      = Feed.conv (rowAt u b s.val (by omega)) (rowAt u b (s.val + 1) (by omega)) (rowAt u b (s.val + 2) (by omega))
          (fun e c => w (ix2 e c)) (fun k c => cw (ix2 k c)) ⟨o + j.val, by omega⟩ := by
  have e1 : (⟨8 + (8 * s.val + b.val), by omega⟩ : Fin 1040) = ⟨8 * (s.val + 1) + b.val, by omega⟩ := Fin.ext (by simp; omega)
  have e2 : (⟨16 + (8 * s.val + b.val), by omega⟩ : Fin 1040) = ⟨8 * (s.val + 2) + b.val, by omega⟩ := Fin.ext (by simp; omega)
  pointwise [Tile.conv, k0_pay14]
  simp only [ldW_apply, ldC_apply]
  unfold Feed.conv proj rowAt
  rw [← e1, ← e2]

theorem act_apply (u : FVec Ideal S1040x1024 .bf16) (w : Vec Ideal S1024x5632 .bf16) (cw : Vec Ideal S3x5632 .f32)
    (b : Fin 8) (s : Fin 128) (k : Fin 2816) :
    act u w cw (ix2 ⟨8 * s.val + b.val, by omega⟩ k)
      = gated (Feed.conv (rowAt u b s.val (by omega)) (rowAt u b (s.val + 1) (by omega)) (rowAt u b (s.val + 2) (by omega))
          (fun e c => w (ix2 e c)) (fun k c => cw (ix2 k c)) ⟨k.val, by omega⟩)
        (Feed.conv (rowAt u b s.val (by omega)) (rowAt u b (s.val + 1) (by omega)) (rowAt u b (s.val + 2) (by omega))
          (fun e c => w (ix2 e c)) (fun k c => cw (ix2 k c)) ⟨2816 + k.val, by omega⟩) := by
  have e1 : (⟨256 * (k.val / 256) + k.val % 256, by omega⟩ : Fin 5632) = ⟨k.val, by omega⟩ := Fin.ext (by simp; omega)
  have e2 : (⟨2816 + 256 * (k.val / 256) + k.val % 256, by omega⟩ : Fin 5632) = ⟨2816 + k.val, by omega⟩ := Fin.ext (by simp; omega)
  show chunk u w cw ⟨k.val / 256, _⟩ (ix2 ⟨8 * s.val + b.val, _⟩ ⟨k.val % 256, _⟩) = _
  unfold chunk
  pointwise [k0_pay17]
  rw [conv_apply, conv_apply, e1, e2]
  unfold gated
  simp

theorem out_apply (g : FVec Ideal S8x1024 .f32) (x : Vec Ideal S8x128x1024 .f32) (a : Vec Ideal S1024x2816 .bf16)
    (w : Vec Ideal S2816x1024 .bf16) (b : Fin 8) (s : Fin 128) (d : Fin 1024) :
    k0_pay1 g (k0_pay9 x) a w (ix3 b s d)
      = x (ix3 b s d) + g (ix2 b d) * ∑ k, a (ix2 ⟨8 * s.val + b.val, by omega⟩ k) * w (ix2 k d) := by
  have e : (⟨8 * s.val + b.val, by omega⟩ : Fin 1024) = ⟨s.val * 8 + b.val, by omega⟩ := Fin.ext (by simp [Nat.mul_comm])
  rw [e]
  pointwise [k0_pay1, k0_pay9]

/-- Scale, shift and gate of a tile's modulation. -/
theorem pay4_apply (mo : Vec Ideal S1x8x6144 .f32) (b : Fin 8) (e : Fin 1024) :
    k0_pay4 mo (ix2 b e) = mo (ix3 0 b ⟨4096 + e.val, by omega⟩) := by
  pointwise [k0_pay4, k0_pay2]

theorem pay3_apply (mo : Vec Ideal S1x8x6144 .f32) (b : Fin 8) (e : Fin 1024) :
    k0_pay3 mo (ix2 b e) = mo (ix3 0 b ⟨3072 + e.val, by omega⟩) := by
  pointwise [k0_pay3, k0_pay2]

theorem pay5_apply (mo : Vec Ideal S1x8x6144 .f32) (b : Fin 8) (e : Fin 1024) :
    k0_pay5 mo (ix2 b e) = mo (ix3 0 b ⟨5120 + e.val, by omega⟩) := by
  pointwise [k0_pay5, k0_pay2]

/-- A row of the tile modulated by the tile's own vectors. -/
def modRow (r : Row) (g : Vec Ideal S1x1024 .f32) (mo : Vec Ideal S1x8x6144 .f32) (b : Fin 8) : Row :=
  modulated r (fun e => g (ix2 0 e)) (fun e => mo (ix3 0 b ⟨4096 + e.val, by omega⟩)) (fun e => mo (ix3 0 b ⟨3072 + e.val, by omega⟩))

/-! The halo-extended tile: its three parts, and their rows. -/

section Parts
variable {F : FTy → Type} [FloatOps F]

/-- A halo row modulated, times its flag. -/
def halo (y : FVec F S8x1024 .f32) (g : FVec F S8x1024 .f32) (mo : Vec F S1x8x6144 .f32) (f : F .f32) : FVec F S1x8x1024 .f32 :=
  shapeCast S1x8x1024 (mulf (addf (mulf (mulf y g) (addf (broadcast S8x1024 (Scalar.ofBits .f32 0x3F800000#32)) (k0_pay4 mo)))
    (k0_pay3 mo)) (broadcast S8x1024 f)) shapeCasts_S8x1024_S1x8x1024

/-- A halo row times the reciprocal root of its mean square. -/
def unit (y : FVec F S8x1024 .f32) : FVec F S8x1024 .f32 :=
  mulf y (broadcastTo S8x1024 (rsqrt (addf (divf (shapeCast S8x1
    (multiReduction .add [1] S8 (mulf y y) 0x00000000#32 reduces_S8x1024_S8 (.inl rfl) rfl) shapeCasts_S8_S8x1)
    (broadcast S8x1 (Scalar.ofBits .f32 0x44800000#32))) (broadcast S8x1 (Scalar.ofBits .f32 0x358637BD#32)))) broadcasts_S8x1_S8x1024)

/-- The tile's own rows modulated. -/
def own (x : FVec F S128x8x1024 .f32) (g : FVec F S1x1024 .f32) (mo : Vec F S1x8x6144 .f32) : FVec F S128x8x1024 .f32 :=
  addf (mulf (mulf (mulf x (broadcastTo S128x8x1024 (rsqrt (addf (divf (shapeCast S128x8x1
      (multiReduction .add [2] S128x8 (mulf x x) 0x00000000#32 reduces_S128x8x1024_S128x8 (.inl rfl) rfl) shapeCasts_S128x8_S128x8x1)
      (broadcast S128x8x1 (Scalar.ofBits .f32 0x44800000#32))) (broadcast S128x8x1 (Scalar.ofBits .f32 0x358637BD#32))))
      broadcasts_S128x8x1_S128x8x1024))
    (broadcastTo S128x8x1024 (shapeCast S1x1x1024 g shapeCasts_S1x1024_S1x1x1024) broadcasts_S1x1x1024_S128x8x1024))
    (broadcastTo S128x8x1024 (shapeCast S1x8x1024 (addf (broadcast S8x1024 (Scalar.ofBits .f32 0x3F800000#32)) (k0_pay4 mo))
      shapeCasts_S8x1024_S1x8x1024) broadcasts_S1x8x1024_S128x8x1024))
    (broadcastTo S128x8x1024 (shapeCast S1x8x1024 (k0_pay3 mo) shapeCasts_S8x1024_S1x8x1024) broadcasts_S1x8x1024_S128x8x1024)

/-- The three parts one below the other. -/
def stack (a : FVec F S1x8x1024 .f32) (x : FVec F S128x8x1024 .f32) (c : FVec F S1x8x1024 .f32) : FVec F S1040x1024 .bf16 :=
  truncf .bf16 (shapeCast S1040x1024 (concatenate S130x8x1024 0 [⟨S1x8x1024, a⟩, ⟨S128x8x1024, x⟩, ⟨S1x8x1024, c⟩]
    concatenates_S1x8x1024_S128x8x1024_S1x8x1024_S130x8x1024_d0) shapeCasts_S130x8x1024_S1040x1024) bitsLt_bf16_f32

theorem up_eq (fp fn : F .f32) (x : Vec F S8x128x1024 .f32) (p q : Vec F S8x8x1024 .f32) (mo : Vec F S1x8x6144 .f32)
    (g : Vec F S1x1024 .f32) :
    up fp fn x p q mo g = stack (halo (k0_pay11 p) (k0_pay12 g) mo fp) (own (k0_pay9 x) (k0_pay6 g) mo)
      (halo (unit (k0_pay10 q)) (k0_pay12 g) mo fn) := rfl

end Parts

theorem stack_first (a : FVec Ideal S1x8x1024 .f32) (x : FVec Ideal S128x8x1024 .f32) (c : FVec Ideal S1x8x1024 .f32) (b : Fin 8) :
    rowAt (stack a x c) b 0 (by omega) = fun e => a (ix3 0 b e) := by
  funext e
  unfold rowAt
  pointwise [stack]
  have hb := b.isLt
  rw [dif_pos (show b.val / 8 < 1 by omega)]
  exact congrArg₂ (fun k j => a (ix3 k j e)) (Fin.ext (by show b.val / 8 = 0; omega)) (Fin.ext (by show b.val % 8 = b.val; omega))

theorem stack_mid (a : FVec Ideal S1x8x1024 .f32) (x : FVec Ideal S128x8x1024 .f32) (c : FVec Ideal S1x8x1024 .f32) (b : Fin 8)
    (s : Fin 128) : rowAt (stack a x c) b (s.val + 1) (by omega) = fun e => x (ix3 s b e) := by
  have hb := b.isLt
  funext e
  unfold rowAt
  pointwise [stack]
  rw [dif_neg (show ¬(8 * (s.val + 1) + b.val) / 8 < 1 by omega), dif_pos (show (8 * (s.val + 1) + b.val) / 8 - 1 < 128 by omega)]
  exact congrArg₂ (fun k j => x (ix3 k j e)) (Fin.ext (by show (8 * (s.val + 1) + b.val) / 8 - 1 = s.val; omega))
    (Fin.ext (by show _ = b.val; simp; try omega))

theorem stack_last (a : FVec Ideal S1x8x1024 .f32) (x : FVec Ideal S128x8x1024 .f32) (c : FVec Ideal S1x8x1024 .f32) (b : Fin 8) :
    rowAt (stack a x c) b 129 (by omega) = fun e => c (ix3 0 b e) := by
  funext e
  unfold rowAt
  pointwise [stack]
  have hb := b.isLt
  rw [dif_neg (show ¬(1032 + b.val) / 8 < 1 by omega), dif_neg (show ¬(1032 + b.val) / 8 - 1 < 128 by omega)]
  exact congrArg (fun k => c (ix3 k b e)) (Fin.ext (by show (1032 + b.val) / 8 - 1 - 128 = 0; omega))

theorem halo_apply (y : FVec Ideal S8x1024 .f32) (g : FVec Ideal S8x1024 .f32) (mo : Vec Ideal S1x8x6144 .f32) (f : EReal)
    (b : Fin 8) (e : Fin 1024) :
    halo (F := Ideal) y g mo f (ix3 0 b e) = (y (ix2 b e) * g (ix2 b e) * (1 + mo (ix3 0 b ⟨4096 + e.val, by omega⟩))
      + mo (ix3 0 b ⟨3072 + e.val, by omega⟩)) * f := by
  pointwise [halo, k0_pay4, k0_pay3, k0_pay2]

theorem own_apply (x : FVec Ideal S128x8x1024 .f32) (g : Vec Ideal S1x1024 .f32) (mo : Vec Ideal S1x8x6144 .f32)
    (s : Fin 128) (b : Fin 8) (e : Fin 1024) :
    own x g mo (ix3 s b e) = modRow (fun e => x (ix3 s b e)) g mo b e := by
  pointwise [own, k0_pay4, k0_pay3, k0_pay2]
  rfl

variable (fp fn : Ideal .f32) (x : Vec Ideal S8x128x1024 .f32) (p q : Vec Ideal S8x8x1024 .f32) (mo : Vec Ideal S1x8x6144 .f32)
    (g : Vec Ideal S1x1024 .f32) (b : Fin 8)

theorem up_first : rowAt (up fp fn x p q mo g) b 0 (by omega) = fun e => modRow (fun e => p (ix3 b 7 e)) g mo b e * fp := by
  rw [up_eq, stack_first]
  funext e
  rw [halo_apply]
  pointwise [k0_pay11, k0_pay12, k0_pay6]
  rfl

theorem up_mid (s : Fin 128) : rowAt (up fp fn x p q mo g) b (s.val + 1) (by omega) = modRow (fun e => x (ix3 b s e)) g mo b := by
  rw [up_eq, stack_mid]
  funext e
  have h6 : k0_pay6 g = g := shapeCast_self _ _
  rw [h6, own_apply]
  refine congrArg (fun r => modRow r g mo b e) (funext fun e => ?_)
  pointwise [k0_pay9]

theorem up_last : rowAt (up fp fn x p q mo g) b 129 (by omega) = fun e => modRow (fun e => q (ix3 b 0 e)) g mo b e * fn := by
  rw [up_eq, stack_last]
  funext e
  rw [halo_apply]
  pointwise [unit, k0_pay10, k0_pay12, k0_pay6]
  rfl

/-! A tile's output, from what its blocks hold: tokens `128 t … 128 t + 127` of a stream from `lo` to `hi`, the token
before the tile (unused, its flag 0, where the tile is the stream's first) and the token after. -/

variable (X : Fin 4352 → Row) (G : Row) (M : Fin 6144 → EReal) (lo hi : ℕ) (t : Fin 34) (hlo : lo ≤ 128 * t.val)
  (hhi : 128 * t.val + 128 ≤ hi) (hi' : hi ≤ 4352)
  (hx : ∀ (s : Fin 128) (h : 128 * t.val + s.val < 4352) e, x (ix3 b s e) = X ⟨128 * t.val + s.val, h⟩ e)
  (hp : ∀ (_ : lo < 128 * t.val) (h : 128 * t.val - 1 < 4352) e, p (ix3 b 7 e) = X ⟨128 * t.val - 1, h⟩ e)
  (hpf : fp = if lo < 128 * t.val then (1 : EReal) else 0)
  (hq : ∀ (_ : 128 * t.val + 128 < hi) (h : 128 * t.val + 128 < 4352) e, q (ix3 b 0 e) = X ⟨128 * t.val + 128, h⟩ e)
  (hqf : fn = if 128 * t.val + 128 < hi then (1 : EReal) else 0)
  (hm : ∀ k, mo (ix3 0 b k) = M k) (hg : ∀ e, g (ix2 0 e) = G e)

include hlo hhi hi' hx hp hpf hq hqf hm hg in
theorem rows_own (s : ℕ) (hs : s < 128) :
    rowAt (up fp fn x p q mo g) b (s + 1) (by omega) = tok X G M ⟨128 * t.val + s, by omega⟩ := by
  rw [up_mid fp fn x p q mo g b ⟨s, hs⟩]
  unfold modRow tok
  have hl : 128 * t.val + s < 4352 := by omega
  simp only [hm, hg, hx ⟨s, hs⟩ hl]

include hlo hhi hi' hx hp hpf hq hqf hm hg in
theorem row_first : rowAt (up fp fn x p q mo g) b 0 (by omega) = before lo X G M ⟨128 * t.val, by omega⟩ := by
  rw [up_first]
  unfold before tok
  by_cases hl : lo < 128 * t.val
  · rw [if_pos hl]
    funext e
    rw [hpf, if_pos hl, mul_one]
    unfold modRow
    have h' : 128 * t.val - 1 < 4352 := by omega
    simp only [hm, hg, hp hl h']
  · rw [if_neg hl]
    funext e
    rw [hpf, if_neg hl, mul_zero]

include hlo hhi hi' hx hp hpf hq hqf hm hg in
theorem row_last : rowAt (up fp fn x p q mo g) b 129 (by omega) = after hi X G M ⟨128 * t.val + 127, by omega⟩ := by
  rw [up_last]
  unfold after tok
  by_cases hl : 128 * t.val + 128 < hi
  · rw [dif_pos (show 128 * t.val + 127 + 1 < hi ∧ 128 * t.val + 127 + 1 < 4352 by omega)]
    funext e
    rw [hqf, if_pos hl, mul_one]
    unfold modRow
    have h' : 128 * t.val + 128 < 4352 := by omega
    simp only [hm, hg, hq hl h']
  · rw [dif_neg (show ¬(128 * t.val + 127 + 1 < hi ∧ 128 * t.val + 127 + 1 < 4352) by omega)]
    funext e
    rw [hqf, if_neg hl, mul_zero]

include hlo hhi hi' hx hp hpf hq hqf hm hg in
theorem rows_before (s : ℕ) (hs : s < 128) :
    rowAt (up fp fn x p q mo g) b s (by omega) = before lo X G M ⟨128 * t.val + s, by omega⟩ := by
  obtain rfl | h0 := Nat.eq_zero_or_pos s
  · exact row_first fp fn x p q mo g b X G M lo hi t hlo hhi hi' hx hp hpf hq hqf hm hg
  · obtain ⟨n, rfl⟩ : ∃ n, s = n + 1 := ⟨s - 1, by omega⟩
    rw [rows_own fp fn x p q mo g b X G M lo hi t hlo hhi hi' hx hp hpf hq hqf hm hg n (by omega)]
    unfold before
    rw [if_pos (show lo < 128 * t.val + (n + 1) by omega)]
    rfl

include hlo hhi hi' hx hp hpf hq hqf hm hg in
theorem rows_after (s : ℕ) (hs : s < 128) :
    rowAt (up fp fn x p q mo g) b (s + 2) (by omega) = after hi X G M ⟨128 * t.val + s, by omega⟩ := by
  by_cases h0 : s = 127
  · subst h0
    exact row_last fp fn x p q mo g b X G M lo hi t hlo hhi hi' hx hp hpf hq hqf hm hg
  · rw [rows_own fp fn x p q mo g b X G M lo hi t hlo hhi hi' hx hp hpf hq hqf hm hg (s + 1) (by omega)]
    unfold after
    rw [dif_pos (show 128 * t.val + s + 1 < hi ∧ 128 * t.val + s + 1 < 4352 by omega)]
    rfl

include hlo hhi hi' hx hp hpf hq hqf hm hg in
theorem tile (w : Vec Ideal S1024x5632 .bf16) (cw : Vec Ideal S3x5632 .f32) (wd : Vec Ideal S2816x1024 .bf16)
    (s : Fin 128) (d : Fin 1024) (hs : 128 * t.val + s.val < 4352) :
    k0_pay1 (k0_pay5 mo) (k0_pay9 x) (act (up fp fn x p q mo g) w cw) wd (ix3 b s d)
      = line lo hi X G M (fun e c => w (ix2 e c)) (fun k c => cw (ix2 k c)) (fun k d => wd (ix2 k d)) ⟨128 * t.val + s.val, hs⟩ d := by
  rw [out_apply, pay5_apply, hx s hs, hm]
  unfold line down
  simp only [act_apply]
  rw [rows_before fp fn x p q mo g b X G M lo hi t hlo hhi hi' hx hp hpf hq hqf hm hg s.val s.isLt,
    rows_own fp fn x p q mo g b X G M lo hi t hlo hhi hi' hx hp hpf hq hqf hm hg s.val s.isLt,
    rows_after fp fn x p q mo g b X G M lo hi t hlo hhi hi' hx hp hpf hq hqf hm hg s.val s.isLt]

end Cert.FfnIdeal.Tile
-- ==== Proof.Ffn.Final.lean ====
module

public import proofs.«01_k».proof.Proof.Ffn.Point
public import Idealize.ShloMosaic.Lib.StableHlo.ReadAt

/-! The feed-forward call's array after the run: every element is that of its stream's line. -/

@[expose] public section
set_option maxRecDepth 16384
noncomputable section

namespace Cert.FfnIdeal.Tile
open Idealize.ShloMosaic Idealize.ShloMosaic.TcCoe Idealize.ShloMosaic.Tactic
open Idealize.SL.Sem Cert.FfnIdeal.Gen Cert.Feed

variable (m : (ℓ : Loc nD τ sig) → Buf (Elt Ideal) ℓ)

/-- The stream of a tile: the first two are the context's. -/
def sOf (t : ℕ) : Fin 2 := if t < 2 then 0 else 1

/-- The blocks of the windows: tile `t`, the eight rows before and after it, the stream's modulation. -/
theorem idx : ∀ t : Fin grid0.N,
    win0_0.index t = ![0, t.val, 0]
    ∧ win0_1.index t = ![0, 16 * t.val - 1, 0]
    ∧ win0_2.index t = ![0, min (16 * t.val + 16) 543, 0]
    ∧ win0_3.index t = ![(sOf t.val).val, 0, 0]
    ∧ win0_4.index t = ![0, 0]
    ∧ win0_5.index t = ![0, 0]
    ∧ win0_6.index t = ![0, 0]
    ∧ win0_7.index t = ![0, 0]
    ∧ win0_9.index t = ![0, t.val, 0] := by decide +kernel

theorem hN (t : Fin cfg0.N) : t.val < 34 := t.isLt

theorem iblk0_apply (c : Dev nD) (t : Fin cfg0.N) (b : Fin 8) (s : Fin 128) (e : Fin 1024) :
    iblk m c 0 t (ix3 b s e) = V m c main_arg0 (ix3 b (⟨128 * t.val + s.val, by have := hN t; omega⟩ : Fin 4352) e) := by
  blk_ext [iblk, (idx t).1]

theorem iblk1_apply (c : Dev nD) (t : Fin cfg0.N) (h : 0 < t.val) (b : Fin 8) (e : Fin 1024) :
    iblk m c 1 t (ix3 b 7 e) = V m c main_arg0 (ix3 b (⟨128 * t.val - 1, by have := hN t; omega⟩ : Fin 4352) e) := by
  blk_ext [iblk, (idx t).2.1]

theorem iblk2_apply (c : Dev nD) (t : Fin cfg0.N) (h : t.val < 33) (b : Fin 8) (e : Fin 1024) :
    iblk m c 2 t (ix3 b 0 e) = V m c main_arg0 (ix3 b (⟨128 * t.val + 128, by omega⟩ : Fin 4352) e) := by
  blk_ext [iblk, (idx t).2.2.1]

theorem iblk3_apply (c : Dev nD) (t : Fin cfg0.N) (b : Fin 8) (k : Fin 6144) :
    iblk m c 3 t (ix3 0 b k) = V m c main_arg1 (ix3 (sOf t.val) b k) := by
  blk_ext [iblk, (idx t).2.2.2.1]

theorem iblk4_apply (c : Dev nD) (t : Fin cfg0.N) (e : Fin 1024) :
    iblk m c 4 t (ix2 0 e) = V m c main_v0 (ix2 0 e) := by
  blk_ext [iblk, (idx t).2.2.2.2.1]

theorem iblk5_apply (c : Dev nD) (t : Fin cfg0.N) (e : Fin 1024) (k : Fin 5632) :
    iblk m c 5 t (ix2 e k) = V m c main_v1 (ix2 e k) := by
  blk_ext [iblk, (idx t).2.2.2.2.2.1]

theorem iblk6_apply (c : Dev nD) (t : Fin cfg0.N) (e : Fin 3) (k : Fin 5632) :
    iblk m c 6 t (ix2 e k) = V m c main_arg4 (ix2 e k) := by
  blk_ext [iblk, (idx t).2.2.2.2.2.2.1]

theorem iblk7_apply (c : Dev nD) (t : Fin cfg0.N) (k : Fin 2816) (d : Fin 1024) :
    iblk m c 7 t (ix2 k d) = V m c main_v2 (ix2 k d) := by
  blk_ext [iblk, (idx t).2.2.2.2.2.2.2.1]

theorem v0_apply (c : Dev nD) (e : Fin 1024) : V m c main_v0 (ix2 0 e) = m ((c : Thread nD τ).loc main_arg2) (ix1 e) := by
  unfold V
  after_reads_at

theorem v1_apply (c : Dev nD) (e : Fin 1024) (k : Fin 5632) :
    V m c main_v1 (ix2 e k) = m ((c : Thread nD τ).loc main_arg3) (ix2 e k) := by
  unfold V
  after_reads_at

theorem v2_apply (c : Dev nD) (k : Fin 2816) (d : Fin 1024) :
    V m c main_v2 (ix2 k d) = m ((c : Thread nD τ).loc main_arg5) (ix2 k d) := by
  unfold V
  after_reads_at

theorem flag (v : BitVec 32) (P : Prop) [Decidable P] (h : v = if P then 1#32 else 0#32) :
    (Scalar.sitofp .f32 v : Ideal .f32) = if P then (1 : EReal) else 0 := by
  subst h
  have e1 : (1#32 : BitVec 32).toInt = 1 := by decide
  have e0 : (0#32 : BitVec 32).toInt = 0 := by decide
  by_cases hP : P
  · rw [if_pos hP, if_pos hP]
    show (((1#32 : BitVec 32).toInt : ℝ) : EReal) = 1
    rw [e1]
    norm_num
  · rw [if_neg hP, if_neg hP]
    show (((0#32 : BitVec 32).toInt : ℝ) : EReal) = 0
    rw [e0]
    norm_num

/-- The flag of the rows before is 0 at the two streams' first tiles. -/
theorem pay7_eq (t : Fin grid0.N) :
    k0_pay7 (F := Ideal) (grid0.coords t) = if 256 * (sOf t.val).val < 128 * t.val then (1 : EReal) else 0 :=
  flag _ _ ((by decide +kernel : ∀ t : Fin grid0.N,
    (Scalar.extui (Scalar.andi (Scalar.cmpi .ne (BitVec.ofNat 32 ((grid0.coords t) 0).val) 0#32)
      (Scalar.cmpi .ne (BitVec.ofNat 32 ((grid0.coords t) 0).val) 2#32)) : BitVec 32)
      = if 256 * (sOf t.val).val < 128 * t.val then 1#32 else 0#32) t)

/-- The flag of the rows after is 0 at their last. -/
theorem pay8_eq (t : Fin grid0.N) :
    k0_pay8 (F := Ideal) (grid0.coords t)
      = if 128 * t.val + 128 < 256 + 4096 * (sOf t.val).val then (1 : EReal) else 0 :=
  flag _ _ ((by decide +kernel : ∀ t : Fin grid0.N,
    (Scalar.extui (Scalar.andi (Scalar.cmpi .ne (BitVec.ofNat 32 ((grid0.coords t) 0).val) 1#32)
      (Scalar.cmpi .ne (BitVec.ofNat 32 ((grid0.coords t) 0).val) 33#32)) : BitVec 32)
      = if 128 * t.val + 128 < 256 + 4096 * (sOf t.val).val then 1#32 else 0#32) t)

/-- A tile is inside its stream. -/
theorem inside (t : Fin cfg0.N) : 256 * (sOf t.val).val ≤ 128 * t.val ∧ 128 * t.val + 128 ≤ 256 + 4096 * (sOf t.val).val
    ∧ 256 + 4096 * (sOf t.val).val ≤ 4352 := by
  have h := hN t
  unfold sOf
  split <;> simp <;> omega

/-- The output element of a point. -/
theorem point (c : Dev nD) (t : Fin cfg0.N) (b : Fin 8) (s : Fin 128) (d : Fin 1024) :
    outsAt0 m c t (ix3 b s d)
      = stream (sOf t.val) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) b ⟨128 * t.val + s.val, by have := hN t; omega⟩ d := by
  obtain ⟨h1, h2, h3⟩ := inside t
  have hn := hN t
  rw [out]
  refine (tile (k0_pay7 (grid0.coords t)) (k0_pay8 (grid0.coords t)) (iblk m c 0 t) (iblk m c 1 t) (iblk m c 2 t) (iblk m c 3 t) (iblk m c 4 t) b
    (fun l e => m ((c : Thread nD τ).loc main_arg0) (ix3 b l e)) (fun e => m ((c : Thread nD τ).loc main_arg2) (ix1 e))
    (fun k => m ((c : Thread nD τ).loc main_arg1) (ix3 (sOf t.val) b k)) (256 * (sOf t.val).val)
    (256 + 4096 * (sOf t.val).val) ⟨t.val, hn⟩ h1 h2 h3 (fun s _ e => ?_) (fun h _ e => ?_) (pay7_eq t) (fun h _ e => ?_)
    (pay8_eq t) (fun k => ?_) (fun e => ?_) (iblk m c 5 t) (iblk m c 6 t) (iblk m c 7 t) s d (by omega)).trans ?_
  · rw [iblk0_apply, V_main_arg0]
  · rw [iblk1_apply m c t (by have h : 256 * (sOf t.val).val < 128 * t.val := h; omega), V_main_arg0]
  · rw [iblk2_apply m c t (by have h : 128 * t.val + 128 < 256 + 4096 * (sOf t.val).val := h; omega), V_main_arg0]
  · rw [iblk3_apply, V_main_arg1]
  · rw [iblk4_apply, v0_apply]
  · have e5 : (fun e k => iblk m c 5 t (ix2 e k)) = fun e k => m ((c : Thread nD τ).loc main_arg3) (ix2 e k) :=
      funext fun e => funext fun k => (iblk5_apply m c t e k).trans (v1_apply m c e k)
    have e6 : (fun e k => iblk m c 6 t (ix2 e k)) = fun e k => m ((c : Thread nD τ).loc main_arg4) (ix2 e k) :=
      funext fun e => funext fun k => (iblk6_apply m c t e k).trans (congrFun (V_main_arg4 m c) _)
    have e7 : (fun k d => iblk m c 7 t (ix2 k d)) = fun k d => m ((c : Thread nD τ).loc main_arg5) (ix2 k d) :=
      funext fun k => funext fun d => (iblk7_apply m c t k d).trans (v2_apply m c k d)
    unfold stream
    rw [e5, e6, e7]

/-- The array after the run. -/
theorem final (c : Dev nD) :
    (dats m 0 c).arrAt 9 cfg0.N = fun i => result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (i 0) (i 1) (i 2) := by
  refine (dats m 0 c).arrAt_eq_of_covers 9 _ (by decide +kernel) fun t hf y => ?_
  obtain ⟨b, s, d, rfl⟩ : ∃ (b : Fin 8) (s : Fin 128) (d : Fin 1024), y = ix3 b s d := ⟨_, _, _, eq_ix3 y⟩
  refine Eq.trans ?_ ((point m c t b s d).trans ?_)
  · blk_simp
    rw [after0_9]
  · have c0 : (((cfg0.win 9).blk t).view.emb (ix3 b s d) 0).val = b.val := by
      blk_simp [(idx t).2.2.2.2.2.2.2.2]
    have c1 : (((cfg0.win 9).blk t).view.emb (ix3 b s d) 1).val = 128 * t.val + s.val := by
      blk_simp [(idx t).2.2.2.2.2.2.2.2]
      omega
    have c2 : (((cfg0.win 9).blk t).view.emb (ix3 b s d) 2).val = d.val := by
      blk_simp [(idx t).2.2.2.2.2.2.2.2]
    generalize ((cfg0.win 9).blk t).view.emb (ix3 b s d) = z at c0 c1 c2
    have hn := hN t
    have z0 : b = z 0 := Fin.ext c0.symm
    have z1 : (⟨128 * t.val + s.val, by omega⟩ : Fin 4352) = z 1 := Fin.ext c1.symm
    have z2 : d = z 2 := Fin.ext c2.symm
    have zs : sOf t.val = if (z 1).val < 256 then 0 else 1 := if_congr (by omega) rfl rfl
    unfold result
    rw [z1, zs]
    exact congrArg₂ (fun b d => stream _ _ _ _ _ _ _ b _ d) z0 z2

end Cert.FfnIdeal.Tile
-- ==== Proof.Ffn.Ref.lean ====
module

public import proofs.«01_k».proof.Proof.Gen.FfnReferenceIdeal.Read
public import proofs.«01_k».proof.Proof.Ffn.Math
public import Idealize.ShloMosaic.Lib.KernelVsHost

/-! The feed-forward reference, element by element: the same line of each stream. -/

@[expose] public section
set_option maxRecDepth 16384
noncomputable section

namespace Cert.FfnReferenceIdeal.Tile
open Idealize.ShloMosaic Idealize.ShloMosaic.TcCoe
open Cert.FfnReferenceIdeal Cert.FfnReferenceIdeal.Gen Cert.FfnReferenceIdeal.Read Cert.Feed

variable (x0 : Tokens) (x1 : (⟨3, ![2, 8, 6144]⟩ : Shape).Idx → EReal) (x2 : (⟨1, ![1024]⟩ : Shape).Idx → EReal)
    (x3 : (⟨2, ![1024, 5632]⟩ : Shape).Idx → EReal) (x4 : (⟨2, ![3, 5632]⟩ : Shape).Idx → EReal)
    (x5 : (⟨2, ![2816, 1024]⟩ : Shape).Idx → EReal) (b : Fin 8)

/-- A token's modulated row, read from the arrays. -/
def tokA (s : Fin 2) (l : Fin 4352) : Row :=
  tok (fun l e => x0 (ix3 b l e)) (fun e => x2 (ix1 e)) (fun k => x1 (ix3 s b k)) l

theorem ofBits_one : Ideal.ofBits .f32 0x3F800000#32 = (1 : EReal) := by
  simp [Ideal.ofBits, Ideal.ieee, -EReal.coe_mul]
  norm_num

/-- One row of zeros on each side of the tokens. -/
theorem pad_tokens {n N : ℕ} (y : (⟨3, ![8, n, 5632]⟩ : Shape).Idx → EReal) {u : Shape} (v : u.Idx → EReal)
    (h : Shape.Pads (⟨3, ![8, n, 5632]⟩ : Shape) ![0, 1, 0] ![0, 1, 0] ![0, 0, 0] (⟨3, ![8, N, 5632]⟩ : Shape)) (hu : 0 < u.numel)
    (hv : ∀ i, v i = 0) (p : Fin N) (c : Fin 5632) :
    pad (⟨3, ![8, N, 5632]⟩ : Shape) ![0, 1, 0] ![0, 1, 0] ![0, 0, 0] y v h hu (ix3 b p c)
      = if h : 1 ≤ p.val ∧ p.val - 1 < n then y (ix3 b ⟨p.val - 1, h.2⟩ c) else 0 := by
  by_cases hp : 1 ≤ p.val ∧ p.val - 1 < n
  · rw [dif_pos hp]
    refine pad_apply_of_inside _ _ _ y v h hu _ _ fun a => ?_
    fin_cases a
    · show b.val = 0 + b.val * (0 + 1)
      omega
    · show p.val = 1 + (p.val - 1) * (0 + 1)
      omega
    · show c.val = 0 + c.val * (0 + 1)
      omega
  · rw [dif_neg hp]
    refine (pad_apply_of_not_inside _ _ _ y v h hu _ 1 fun hc => hp ?_).trans (hv _)
    have hc : 1 ≤ p.val ∧ (p.val - 1) % (0 + 1) = 0 ∧ (p.val - 1) / (0 + 1) < n := hc
    rw [Nat.zero_add, Nat.div_one] at hc
    exact ⟨hc.1, hc.2.2⟩

/-! The padded projections at a token: those of the token before, of the token, of the token after, in a stream of `n`
tokens from `lo`, token `s` of which is token `at s` of the array. -/

section Rows
variable {n : ℕ} (lo : ℕ) (X : Fin 4352 → Row) (G : Row) (M : Fin 6144 → EReal) (w : Fin 1024 → Fin 5632 → EReal) (c : Fin 5632)
    (y : (⟨3, ![8, n, 5632]⟩ : Shape).Idx → EReal) (pos : Fin n → Fin 4352) (hpos : ∀ s, (pos s).val = lo + s.val)
    (hy : ∀ s : Fin n, y (ix3 b s c) = proj (tok X G M (pos s)) w c) (s : Fin n)
include hpos hy

theorem row_before : (if h : 1 ≤ s.val ∧ s.val - 1 < n then y (ix3 b ⟨s.val - 1, h.2⟩ c) else 0)
    = proj (before lo X G M (pos s)) w c := by
  have hs := s.isLt
  have hp := hpos s
  unfold before
  by_cases h : 0 < s.val
  · have h1 : 1 ≤ s.val ∧ s.val - 1 < n := by omega
    rw [dif_pos h1, if_pos (show lo < (pos s).val by omega), hy]
    have e : pos ⟨s.val - 1, h1.2⟩ = ⟨(pos s).val - 1, by omega⟩ := Fin.ext (by
      rw [hpos]
      show lo + (s.val - 1) = (pos s).val - 1
      omega)
    rw [e]
  · rw [dif_neg (show ¬(1 ≤ s.val ∧ s.val - 1 < n) by omega), if_neg (show ¬lo < (pos s).val by omega), proj_zero]

theorem row_own : (if h : 1 ≤ 1 + s.val ∧ 1 + s.val - 1 < n then y (ix3 b ⟨1 + s.val - 1, h.2⟩ c) else 0)
    = proj (tok X G M (pos s)) w c := by
  have hs := s.isLt
  have es : (⟨1 + s.val - 1, by omega⟩ : Fin n) = s := Fin.ext (by show 1 + s.val - 1 = s.val; omega)
  rw [dif_pos (show 1 ≤ 1 + s.val ∧ 1 + s.val - 1 < n by omega), ← hy]
  exact congrArg (fun s => y (ix3 b s c)) es

theorem row_after : (if h : 1 ≤ 2 + s.val ∧ 2 + s.val - 1 < n then y (ix3 b ⟨2 + s.val - 1, h.2⟩ c) else 0)
    = proj (after (lo + n) X G M (pos s)) w c := by
  have hs := s.isLt
  have hp := hpos s
  unfold after
  by_cases h : s.val + 1 < n
  · have h1 : 1 ≤ 2 + s.val ∧ 2 + s.val - 1 < n := by omega
    have e : (pos ⟨2 + s.val - 1, h1.2⟩).val = (pos s).val + 1 := by
      rw [hpos]
      show lo + (2 + s.val - 1) = (pos s).val + 1
      omega
    have h2 : (pos s).val + 1 < 4352 := e ▸ (pos ⟨2 + s.val - 1, h1.2⟩).isLt
    rw [dif_pos h1, dif_pos (show (pos s).val + 1 < lo + n ∧ (pos s).val + 1 < 4352 from ⟨by omega, h2⟩), hy]
    exact congrArg (fun l => proj (tok X G M l) w c) (Fin.ext e)
  · rw [dif_neg (show ¬(1 ≤ 2 + s.val ∧ 2 + s.val - 1 < n) by omega),
      dif_neg (show ¬((pos s).val + 1 < lo + n ∧ (pos s).val + 1 < 4352) by omega), proj_zero]

end Rows

theorem zero_val (i : S_.Idx) : val_main_call2_v0 (F := Ideal) i = 0 := by
  show ((((0#32 : BitVec 32).toInt : ℝ)) : EReal) = 0
  norm_num

/-! The latents. -/

theorem v68 (s : Fin 4096) : val_main_v68 (F := Ideal) x0 (ix3 b s 0) = scale (fun e => x0 (ix3 b ⟨256 + s.val, by omega⟩ e)) := by
  pointwise [val_main_v68, val_main_v67, val_main_v66, val_main_v65, val_main_v64, val_main_v63, val_main_v62, val_main_v61,
    val_main_v58, val_main_cst_3, val_main_cst_4, val_main_cst_5]
  rfl

theorem v85 (s : Fin 4096) (e : Fin 1024) :
    val_main_v85 (F := Ideal) x0 x1 x2 (ix3 b s e) = tokA x0 x1 x2 b 1 ⟨256 + s.val, by omega⟩ e := by
  unfold tokA tok modulated rms
  rw [← v68, ← ofBits_one]
  pointwise [val_main_v85, val_main_v84, val_main_v83, val_main_v82, val_main_v81, val_main_v80, val_main_v77, val_main_v76,
    val_main_v75, val_main_v74, val_main_v73, val_main_v72, val_main_v71, val_main_v70, val_main_v69, val_main_v60, val_main_v59,
    val_main_v58, val_main_cst_6]

theorem left86 (s : Fin 4096) (c : Fin 5632) (k : Fin 1024) : lidx_main_v86 (ix3 b s c) k = ix3 b s k := by
  funext a; fin_cases a <;> rfl

theorem right86 (s : Fin 4096) (c : Fin 5632) (k : Fin 1024) : ridx_main_v86 (ix3 b s c) k = ix2 k c := by
  funext a; fin_cases a <;> rfl

theorem v86 (s : Fin 4096) (c : Fin 5632) : val_main_v86 (F := Ideal) x0 x1 x2 x3 (ix3 b s c)
    = proj (tokA x0 x1 x2 b 1 ⟨256 + s.val, by omega⟩) (fun e c => x3 (ix2 e c)) c := by
  rw [val_main_v86_apply]
  unfold proj
  simp only [left86, right86, v85]

theorem v87 (p : Fin 4098) (c : Fin 5632) : val_main_v87 (F := Ideal) x0 x1 x2 x3 (ix3 b p c)
    = if h : 1 ≤ p.val ∧ p.val - 1 < 4096 then val_main_v86 (F := Ideal) x0 x1 x2 x3 (ix3 b ⟨p.val - 1, h.2⟩ c) else 0 := by
  unfold val_main_v87
  exact pad_tokens b _ _ _ _ zero_val p c

theorem v88 (s : Fin 4096) (c : Fin 5632) : val_main_v88 (F := Ideal) x0 x1 x2 x3 (ix3 b s c)
    = proj (before 256 (fun l e => x0 (ix3 b l e)) (fun e => x2 (ix1 e)) (fun k => x1 (ix3 1 b k)) ⟨256 + s.val, by omega⟩) (fun e c => x3 (ix2 e c)) c := by
  have e : val_main_v88 (F := Ideal) x0 x1 x2 x3 (ix3 b s c)
      = val_main_v87 (F := Ideal) x0 x1 x2 x3 (ix3 b ⟨s.val, by omega⟩ c) := by
    pointwise [val_main_v88]
  rw [e, v87]
  exact row_before b 256 _ _ _ _ c _ (fun s : Fin 4096 => ⟨256 + s.val, by omega⟩) (fun s => rfl) (fun s => v86 x0 x1 x2 x3 b s c) s

theorem v94 (s : Fin 4096) (c : Fin 5632) : val_main_v94 (F := Ideal) x0 x1 x2 x3 (ix3 b s c)
    = proj (tokA x0 x1 x2 b 1 ⟨256 + s.val, by omega⟩) (fun e c => x3 (ix2 e c)) c := by
  have e : val_main_v94 (F := Ideal) x0 x1 x2 x3 (ix3 b s c)
      = val_main_v87 (F := Ideal) x0 x1 x2 x3 (ix3 b ⟨1 + s.val, by omega⟩ c) := by
    pointwise [val_main_v94]
  rw [e, v87]
  exact row_own b 256 _ _ _ _ c _ (fun s : Fin 4096 => ⟨256 + s.val, by omega⟩) (fun s => rfl) (fun s => v86 x0 x1 x2 x3 b s c) s

theorem v101 (s : Fin 4096) (c : Fin 5632) : val_main_v101 (F := Ideal) x0 x1 x2 x3 (ix3 b s c)
    = proj (after 4352 (fun l e => x0 (ix3 b l e)) (fun e => x2 (ix1 e)) (fun k => x1 (ix3 1 b k)) ⟨256 + s.val, by omega⟩) (fun e c => x3 (ix2 e c)) c := by
  have e : val_main_v101 (F := Ideal) x0 x1 x2 x3 (ix3 b s c)
      = val_main_v87 (F := Ideal) x0 x1 x2 x3 (ix3 b ⟨2 + s.val, by omega⟩ c) := by
    pointwise [val_main_v101]
  rw [e, v87]
  exact row_after b 256 _ _ _ _ c _ (fun s : Fin 4096 => ⟨256 + s.val, by omega⟩) (fun s => rfl) (fun s => v86 x0 x1 x2 x3 b s c) s

/-- The three rows of a latent, convolved. -/
def convL (s : Fin 4096) (c : Fin 5632) : EReal :=
  conv (before 256 (fun l e => x0 (ix3 b l e)) (fun e => x2 (ix1 e)) (fun k => x1 (ix3 1 b k)) ⟨256 + s.val, by omega⟩)
    (tokA x0 x1 x2 b 1 ⟨256 + s.val, by omega⟩)
    (after 4352 (fun l e => x0 (ix3 b l e)) (fun e => x2 (ix1 e)) (fun k => x1 (ix3 1 b k)) ⟨256 + s.val, by omega⟩)
    (fun e c => x3 (ix2 e c)) (fun k c => x4 (ix2 k c)) c

theorem v107 (s : Fin 4096) (c : Fin 5632) :
    val_main_v107 (F := Ideal) x0 x1 x2 x3 x4 (ix3 b s c) = convL x0 x1 x2 x3 x4 b s c := by
  unfold convL conv
  rw [← v88, ← v94, ← v101, mul_comm (x4 _), mul_comm (x4 _), mul_comm (x4 _)]
  rw [val_main_v107_apply, val_main_v106_apply, val_main_v100_apply, val_main_v99_apply, val_main_v93_apply]
  generalize val_main_v88 (F := Ideal) x0 x1 x2 x3 = p
  generalize val_main_v94 (F := Ideal) x0 x1 x2 x3 = q
  generalize val_main_v101 (F := Ideal) x0 x1 x2 x3 = r
  pointwise [val_main_v105, val_main_v104, val_main_v103, val_main_v102, val_main_v98, val_main_v97, val_main_v96, val_main_v95,
    val_main_v92, val_main_v91, val_main_v90, val_main_v89]

theorem v111 (s : Fin 4096) (k : Fin 2816) : val_main_v111 (F := Ideal) x0 x1 x2 x3 x4 (ix3 b s k)
    = gated (convL x0 x1 x2 x3 x4 b s ⟨k.val, by omega⟩) (convL x0 x1 x2 x3 x4 b s ⟨2816 + k.val, by omega⟩) := by
  unfold gated
  rw [← v107, ← v107, ← ofBits_one]
  pointwise [val_main_v111, val_main_v110, val_main_v109, val_main_v108, val_main_call3_v5, val_main_call3_v4, val_main_call3_v3,
    val_main_call3_v2, val_main_call3_v1, val_main_call3_v0, val_main_call3_cst, val_main_call3_cst_0]

theorem left112 (s : Fin 4096) (d : Fin 1024) (k : Fin 2816) : lidx_main_v112 (ix3 b s d) k = ix3 b s k := by
  funext a; fin_cases a <;> rfl

theorem right112 (s : Fin 4096) (d : Fin 1024) (k : Fin 2816) : ridx_main_v112 (ix3 b s d) k = ix2 k d := by
  funext a; fin_cases a <;> rfl

theorem v115 (s : Fin 4096) (d : Fin 1024) : val_main_v115 (F := Ideal) x0 x1 x2 x3 x4 x5 (ix3 b s d)
    = stream 1 x0 x1 x2 x3 x4 x5 b ⟨256 + s.val, by omega⟩ d := by
  have e : val_main_v112 (F := Ideal) x0 x1 x2 x3 x4 x5 (ix3 b s d)
      = ∑ k : Fin 2816, gated (convL x0 x1 x2 x3 x4 b s ⟨k.val, by omega⟩) (convL x0 x1 x2 x3 x4 b s ⟨2816 + k.val, by omega⟩)
        * x5 (ix2 k d) := by
    rw [val_main_v112_apply]
    simp only [left112, right112, v111]
  refine Eq.trans ?_ (congrArg (fun z => x0 (ix3 b ⟨256 + s.val, by omega⟩ d) + x1 (ix3 1 b ⟨5120 + d.val, by omega⟩) * z) e)
  rw [val_main_v115_apply, val_main_v114_apply]
  generalize val_main_v112 (F := Ideal) x0 x1 x2 x3 x4 x5 = z
  pointwise [val_main_v113, val_main_v79, val_main_v78, val_main_v60, val_main_v59, val_main_v58]

theorem zero_val0 (i : S_.Idx) : val_main_call0_v0 (F := Ideal) i = 0 := zero_val i

/-! The context. -/

theorem v10 (s : Fin 256) : val_main_v10 (F := Ideal) x0 (ix3 b s 0) = scale (fun e => x0 (ix3 b ⟨s.val, by omega⟩ e)) := by
  pointwise [val_main_v10, val_main_v9, val_main_v8, val_main_v7, val_main_v6, val_main_v5, val_main_v4, val_main_v3,
    val_main_v0, val_main_cst, val_main_cst_0, val_main_cst_1]
  rfl

theorem v27 (s : Fin 256) (e : Fin 1024) :
    val_main_v27 (F := Ideal) x0 x1 x2 (ix3 b s e) = tokA x0 x1 x2 b 0 ⟨s.val, by omega⟩ e := by
  unfold tokA tok modulated rms
  rw [← v10, ← ofBits_one]
  pointwise [val_main_v27, val_main_v26, val_main_v25, val_main_v24, val_main_v23, val_main_v22, val_main_v19, val_main_v18,
    val_main_v17, val_main_v16, val_main_v15, val_main_v14, val_main_v13, val_main_v12, val_main_v11, val_main_v2, val_main_v1,
    val_main_v0, val_main_cst_2]

theorem left28 (s : Fin 256) (c : Fin 5632) (k : Fin 1024) : lidx_main_v28 (ix3 b s c) k = ix3 b s k := by
  funext a; fin_cases a <;> rfl

theorem right28 (s : Fin 256) (c : Fin 5632) (k : Fin 1024) : ridx_main_v28 (ix3 b s c) k = ix2 k c := by
  funext a; fin_cases a <;> rfl

theorem v28 (s : Fin 256) (c : Fin 5632) : val_main_v28 (F := Ideal) x0 x1 x2 x3 (ix3 b s c)
    = proj (tokA x0 x1 x2 b 0 ⟨s.val, by omega⟩) (fun e c => x3 (ix2 e c)) c := by
  rw [val_main_v28_apply]
  unfold proj
  simp only [left28, right28, v27]

theorem v29 (p : Fin 258) (c : Fin 5632) : val_main_v29 (F := Ideal) x0 x1 x2 x3 (ix3 b p c)
    = if h : 1 ≤ p.val ∧ p.val - 1 < 256 then val_main_v28 (F := Ideal) x0 x1 x2 x3 (ix3 b ⟨p.val - 1, h.2⟩ c) else 0 := by
  unfold val_main_v29
  exact pad_tokens b _ _ _ _ zero_val0 p c

theorem v30 (s : Fin 256) (c : Fin 5632) : val_main_v30 (F := Ideal) x0 x1 x2 x3 (ix3 b s c)
    = proj (before 0 (fun l e => x0 (ix3 b l e)) (fun e => x2 (ix1 e)) (fun k => x1 (ix3 0 b k)) ⟨s.val, by omega⟩) (fun e c => x3 (ix2 e c)) c := by
  have e : val_main_v30 (F := Ideal) x0 x1 x2 x3 (ix3 b s c)
      = val_main_v29 (F := Ideal) x0 x1 x2 x3 (ix3 b ⟨s.val, by omega⟩ c) := by
    pointwise [val_main_v30]
  rw [e, v29]
  exact row_before b 0 _ _ _ _ c _ (fun s : Fin 256 => ⟨s.val, by omega⟩) (fun s => (Nat.zero_add _).symm) (fun s => v28 x0 x1 x2 x3 b s c) s

theorem v36 (s : Fin 256) (c : Fin 5632) : val_main_v36 (F := Ideal) x0 x1 x2 x3 (ix3 b s c)
    = proj (tokA x0 x1 x2 b 0 ⟨s.val, by omega⟩) (fun e c => x3 (ix2 e c)) c := by
  have e : val_main_v36 (F := Ideal) x0 x1 x2 x3 (ix3 b s c)
      = val_main_v29 (F := Ideal) x0 x1 x2 x3 (ix3 b ⟨1 + s.val, by omega⟩ c) := by
    pointwise [val_main_v36]
  rw [e, v29]
  exact row_own b 0 _ _ _ _ c _ (fun s : Fin 256 => ⟨s.val, by omega⟩) (fun s => (Nat.zero_add _).symm) (fun s => v28 x0 x1 x2 x3 b s c) s

theorem v43 (s : Fin 256) (c : Fin 5632) : val_main_v43 (F := Ideal) x0 x1 x2 x3 (ix3 b s c)
    = proj (after 256 (fun l e => x0 (ix3 b l e)) (fun e => x2 (ix1 e)) (fun k => x1 (ix3 0 b k)) ⟨s.val, by omega⟩) (fun e c => x3 (ix2 e c)) c := by
  have e : val_main_v43 (F := Ideal) x0 x1 x2 x3 (ix3 b s c)
      = val_main_v29 (F := Ideal) x0 x1 x2 x3 (ix3 b ⟨2 + s.val, by omega⟩ c) := by
    pointwise [val_main_v43]
  rw [e, v29]
  exact row_after b 0 _ _ _ _ c _ (fun s : Fin 256 => ⟨s.val, by omega⟩) (fun s => (Nat.zero_add _).symm) (fun s => v28 x0 x1 x2 x3 b s c) s

/-- The three rows of a context token, convolved. -/
def convC (s : Fin 256) (c : Fin 5632) : EReal :=
  conv (before 0 (fun l e => x0 (ix3 b l e)) (fun e => x2 (ix1 e)) (fun k => x1 (ix3 0 b k)) ⟨s.val, by omega⟩)
    (tokA x0 x1 x2 b 0 ⟨s.val, by omega⟩)
    (after 256 (fun l e => x0 (ix3 b l e)) (fun e => x2 (ix1 e)) (fun k => x1 (ix3 0 b k)) ⟨s.val, by omega⟩)
    (fun e c => x3 (ix2 e c)) (fun k c => x4 (ix2 k c)) c

theorem v49 (s : Fin 256) (c : Fin 5632) :
    val_main_v49 (F := Ideal) x0 x1 x2 x3 x4 (ix3 b s c) = convC x0 x1 x2 x3 x4 b s c := by
  unfold convC conv
  rw [← v30, ← v36, ← v43, mul_comm (x4 _), mul_comm (x4 _), mul_comm (x4 _)]
  rw [val_main_v49_apply, val_main_v48_apply, val_main_v42_apply, val_main_v41_apply, val_main_v35_apply]
  generalize val_main_v30 (F := Ideal) x0 x1 x2 x3 = p
  generalize val_main_v36 (F := Ideal) x0 x1 x2 x3 = q
  generalize val_main_v43 (F := Ideal) x0 x1 x2 x3 = r
  pointwise [val_main_v47, val_main_v46, val_main_v45, val_main_v44, val_main_v40, val_main_v39, val_main_v38, val_main_v37,
    val_main_v34, val_main_v33, val_main_v32, val_main_v31]

theorem v53 (s : Fin 256) (k : Fin 2816) : val_main_v53 (F := Ideal) x0 x1 x2 x3 x4 (ix3 b s k)
    = gated (convC x0 x1 x2 x3 x4 b s ⟨k.val, by omega⟩) (convC x0 x1 x2 x3 x4 b s ⟨2816 + k.val, by omega⟩) := by
  unfold gated
  rw [← v49, ← v49, ← ofBits_one]
  pointwise [val_main_v53, val_main_v52, val_main_v51, val_main_v50, val_main_call1_v5, val_main_call1_v4, val_main_call1_v3,
    val_main_call1_v2, val_main_call1_v1, val_main_call1_v0, val_main_call1_cst, val_main_call1_cst_0]

theorem left54 (s : Fin 256) (d : Fin 1024) (k : Fin 2816) : lidx_main_v54 (ix3 b s d) k = ix3 b s k := by
  funext a; fin_cases a <;> rfl

theorem right54 (s : Fin 256) (d : Fin 1024) (k : Fin 2816) : ridx_main_v54 (ix3 b s d) k = ix2 k d := by
  funext a; fin_cases a <;> rfl

theorem v57 (s : Fin 256) (d : Fin 1024) : val_main_v57 (F := Ideal) x0 x1 x2 x3 x4 x5 (ix3 b s d)
    = stream 0 x0 x1 x2 x3 x4 x5 b ⟨s.val, by omega⟩ d := by
  have e : val_main_v54 (F := Ideal) x0 x1 x2 x3 x4 x5 (ix3 b s d)
      = ∑ k : Fin 2816, gated (convC x0 x1 x2 x3 x4 b s ⟨k.val, by omega⟩) (convC x0 x1 x2 x3 x4 b s ⟨2816 + k.val, by omega⟩)
        * x5 (ix2 k d) := by
    rw [val_main_v54_apply]
    simp only [left54, right54, v53]
  refine Eq.trans ?_ (congrArg (fun z => x0 (ix3 b ⟨s.val, by omega⟩ d) + x1 (ix3 0 b ⟨5120 + d.val, by omega⟩) * z) e)
  rw [val_main_v57_apply, val_main_v56_apply]
  generalize val_main_v54 (F := Ideal) x0 x1 x2 x3 x4 x5 = z
  pointwise [val_main_v55, val_main_v21, val_main_v20, val_main_v2, val_main_v1, val_main_v0]

/-- Both streams. -/
theorem v116 (l : Fin 4352) (d : Fin 1024) : val_main_v116 (F := Ideal) x0 x1 x2 x3 x4 x5 (ix3 b l d)
    = result x0 x1 x2 x3 x4 x5 b l d := by
  unfold result val_main_v116
  have h0 := v57 x0 x1 x2 x3 x4 x5 b
  have h1 := v115 x0 x1 x2 x3 x4 x5 b
  generalize val_main_v57 (F := Ideal) x0 x1 x2 x3 x4 x5 = p at h0
  generalize val_main_v115 (F := Ideal) x0 x1 x2 x3 x4 x5 = q at h1
  pointwise
  by_cases h : l.val < 256
  · rw [dif_pos h, if_pos h, h0]
  · rw [dif_neg h, if_neg h, h1]
    have el : (⟨256 + (l.val - 256), by omega⟩ : Fin 4352) = l := Fin.ext (by show 256 + (l.val - 256) = l.val; omega)
    exact congrArg (fun l => stream 1 x0 x1 x2 x3 x4 x5 b l d) el

end Cert.FfnReferenceIdeal.Tile
-- ==== Proof.Last.Step.lean ====
module

public import proofs.«01_k».proof.Proof.Gen.LastIdeal.Value
public import proofs.«01_k».proof.Proof.Ffn.Point

/-! What a grid point of the last layer's feed-forward leaves: the feed-forward kernel's functions, then the final norm. -/

@[expose] public section
set_option maxRecDepth 16384
set_option maxHeartbeats 1000000
noncomputable section

namespace Cert.LastIdeal.Tile
open Idealize.ShloMosaic Idealize.ShloMosaic.TcCoe Idealize.ShloMosaic.Tactic
open Idealize.SL.Sem Cert.LastIdeal.Gen

variable {F : FTy → Type} [FloatOps F]
variable (m : (ℓ : Loc nD τ sig) → Buf (Elt F) ℓ)

/-- A point's number. -/
def nr (t : Fin cfg0.N) : BitVec 32 := BitVec.ofNat 32 ((grid0.coords t) 0).val

theorem out (c : Dev nD) (t : Fin cfg0.N) (h0 : 2 ≤ t.val) :
    outsAt0 m c t.val t.isLt = k0_pay1 (k0_pay5 (iblk m c 3 t)) (k0_pay9 (iblk m c 0 t))
      (FfnIdeal.Tile.act (FfnIdeal.Tile.up (k0_pay7 (nr t)) (k0_pay8 (nr t)) (iblk m c 0 t) (iblk m c 1 t) (iblk m c 2 t)
        (iblk m c 3 t) (iblk m c 4 t)) (iblk m c 5 t) (iblk m c 6 t)) (iblk m c 7 t) (iblk m c 8 t) := by
  rw [outsAt0_B m c t h0]
  frame_out
  refine congrArg (fun a => k0_pay1 (k0_pay5 (iblk m c 3 t)) (k0_pay9 (iblk m c 0 t)) a (iblk m c 7 t) (iblk m c 8 t)) ?_
  refine (View.readCov_eq_canon' _ _ _).trans ?_
  refine Eq.trans ?_ (FfnIdeal.Tile.canon_act _ _ _)
  funext y
  refine congrArg (View.canon _) (funext fun a => ?_)
  fin_cases a <;> exact Fin.ext (by show 0 + 1 * _ = _; omega)

end Cert.LastIdeal.Tile
-- ==== Proof.Last.Final.lean ====
module

public import proofs.«01_k».proof.Proof.Last.Step
public import proofs.«01_k».proof.Proof.Ffn.Final

/-! The last layer's call's array after the run: every element is that of the latents' line, normed. -/

@[expose] public section
set_option maxRecDepth 16384
noncomputable section

namespace Cert.LastIdeal.Tile
open Idealize.ShloMosaic Idealize.ShloMosaic.TcCoe Idealize.ShloMosaic.Tactic
open Idealize.SL.Sem Cert.LastIdeal.Gen Cert.Feed

variable (m : (ℓ : Loc nD τ sig) → Buf (Elt Ideal) ℓ)

/-- The blocks of the windows, at the latents' tiles those of the feed-forward call; the output's starts at tile 2. -/
theorem idx : ∀ t : Fin grid0.N,
    win0_0.index t = ![0, t.val, 0]
    ∧ win0_1.index t = ![0, 16 * t.val - 1, 0]
    ∧ win0_2.index t = ![0, min (16 * t.val + 16) 543, 0]
    ∧ win0_3.index t = ![min (t.val / 2) 1, 0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, t.val - 2, 0] := by decide +kernel

theorem hN (t : Fin cfg0.N) : t.val < 34 := t.isLt

theorem iblk0_apply (c : Dev nD) (t : Fin cfg0.N) (b : Fin 8) (s : Fin 128) (e : Fin 1024) :
    iblk m c 0 t (ix3 b s e) = V m c main_arg0 (ix3 b (⟨128 * t.val + s.val, by have := hN t; omega⟩ : Fin 4352) e) := by
  blk_ext [iblk, (idx t).1]

theorem iblk1_apply (c : Dev nD) (t : Fin cfg0.N) (h : 0 < t.val) (b : Fin 8) (e : Fin 1024) :
    iblk m c 1 t (ix3 b 7 e) = V m c main_arg0 (ix3 b (⟨128 * t.val - 1, by have := hN t; omega⟩ : Fin 4352) e) := by
  blk_ext [iblk, (idx t).2.1]

theorem iblk2_apply (c : Dev nD) (t : Fin cfg0.N) (h : t.val < 33) (b : Fin 8) (e : Fin 1024) :
    iblk m c 2 t (ix3 b 0 e) = V m c main_arg0 (ix3 b (⟨128 * t.val + 128, by omega⟩ : Fin 4352) e) := by
  blk_ext [iblk, (idx t).2.2.1]

theorem iblk3_apply (c : Dev nD) (t : Fin cfg0.N) (h : 2 ≤ t.val) (b : Fin 8) (k : Fin 6144) :
    iblk m c 3 t (ix3 0 b k) = V m c main_arg1 (ix3 1 b k) := by
  blk_ext [iblk, (idx t).2.2.2.1]

theorem iblk4_apply (c : Dev nD) (t : Fin cfg0.N) (e : Fin 1024) :
    iblk m c 4 t (ix2 0 e) = V m c main_v0 (ix2 0 e) := by
  blk_ext [iblk, (idx t).2.2.2.2.1]

theorem iblk5_apply (c : Dev nD) (t : Fin cfg0.N) (e : Fin 1024) (k : Fin 5632) :
    iblk m c 5 t (ix2 e k) = V m c main_v1 (ix2 e k) := by
  blk_ext [iblk, (idx t).2.2.2.2.2.1]

theorem iblk6_apply (c : Dev nD) (t : Fin cfg0.N) (e : Fin 3) (k : Fin 5632) :
    iblk m c 6 t (ix2 e k) = V m c main_arg4 (ix2 e k) := by
  blk_ext [iblk, (idx t).2.2.2.2.2.2.1]

theorem iblk7_apply (c : Dev nD) (t : Fin cfg0.N) (k : Fin 2816) (d : Fin 1024) :
    iblk m c 7 t (ix2 k d) = V m c main_v2 (ix2 k d) := by
  blk_ext [iblk, (idx t).2.2.2.2.2.2.2.1]

theorem v0_apply (c : Dev nD) (e : Fin 1024) : V m c main_v0 (ix2 0 e) = m ((c : Thread nD τ).loc main_arg2) (ix1 e) := by
  unfold V
  after_reads_at

theorem v1_apply (c : Dev nD) (e : Fin 1024) (k : Fin 5632) :
    V m c main_v1 (ix2 e k) = m ((c : Thread nD τ).loc main_arg3) (ix2 e k) := by
  unfold V
  after_reads_at

theorem v2_apply (c : Dev nD) (k : Fin 2816) (d : Fin 1024) :
    V m c main_v2 (ix2 k d) = m ((c : Thread nD τ).loc main_arg5) (ix2 k d) := by
  unfold V
  after_reads_at

theorem iblk8_apply (c : Dev nD) (t : Fin cfg0.N) (e : Fin 1024) :
    iblk m c 8 t (ix2 0 e) = V m c main_v3 (ix2 0 e) := by
  blk_ext [iblk, (idx t).2.2.2.2.2.2.2.2.1]

theorem v3_apply (c : Dev nD) (e : Fin 1024) : V m c main_v3 (ix2 0 e) = m ((c : Thread nD τ).loc main_arg6) (ix1 e) := by
  unfold V
  after_reads_at

/-- The flag of the rows before is 0 at the latents' first tile. -/
theorem pay7_eq (t : Fin grid0.N) (h : 2 ≤ t.val) :
    k0_pay7 (F := Ideal) (nr t) = if 256 < 128 * t.val then (1 : EReal) else 0 :=
  FfnIdeal.Tile.flag _ _ ((by decide +kernel : ∀ t : Fin grid0.N, 2 ≤ t.val →
    (Scalar.extui (Scalar.andi (Scalar.cmpi .ne (nr t) 0#32) (Scalar.cmpi .ne (nr t) 2#32)) : BitVec 32)
      = if 256 < 128 * t.val then 1#32 else 0#32) t h)

/-- The flag of the rows after is 0 at their last. -/
theorem pay8_eq (t : Fin grid0.N) (h : 2 ≤ t.val) :
    k0_pay8 (F := Ideal) (nr t) = if 128 * t.val + 128 < 4352 then (1 : EReal) else 0 :=
  FfnIdeal.Tile.flag _ _ ((by decide +kernel : ∀ t : Fin grid0.N, 2 ≤ t.val →
    (Scalar.extui (Scalar.andi (Scalar.cmpi .ne (nr t) 1#32) (Scalar.cmpi .ne (nr t) 33#32)) : BitVec 32)
      = if 128 * t.val + 128 < 4352 then 1#32 else 0#32) t h)

/-- The last store is the feed-forward call's, normed. -/
theorem norm_apply (g : FVec Ideal S8x1024 .f32) (x : FVec Ideal S128x8x1024 .f32) (a : Vec Ideal S1024x2816 .bf16)
    (w : Vec Ideal S2816x1024 .bf16) (f : Vec Ideal S1x1024 .f32) (b : Fin 8) (s : Fin 128) (d : Fin 1024) :
    k0_pay1 g x a w f (ix3 b s d)
      = rms (fun e => FfnIdeal.Gen.k0_pay1 (F := Ideal) g x a w (ix3 b s e)) (fun e => f (ix2 0 e)) d := by
  unfold rms scale
  pointwise [k0_pay1, FfnIdeal.Gen.k0_pay1]

/-- The output element of a point. -/
theorem point (c : Dev nD) (t : Fin cfg0.N) (h0 : 2 ≤ t.val) (b : Fin 8) (s : Fin 128) (d : Fin 1024) :
    outsAt0 m c t.val t.isLt (ix3 b s d)
      = rms (stream 1 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) b ⟨128 * t.val + s.val, by have := hN t; omega⟩)
          (fun e => m ((c : Thread nD τ).loc main_arg6) (ix1 e)) d := by
  have hn := hN t
  rw [out m c t h0, norm_apply]
  refine congrArg₂ (fun y g => rms y g d) (funext fun d => ?_) (funext fun e => (iblk8_apply m c t e).trans (v3_apply m c e))
  refine (FfnIdeal.Tile.tile (k0_pay7 (nr t)) (k0_pay8 (nr t)) (iblk m c 0 t) (iblk m c 1 t) (iblk m c 2 t) (iblk m c 3 t)
    (iblk m c 4 t) b (fun l e => m ((c : Thread nD τ).loc main_arg0) (ix3 b l e))
    (fun e => m ((c : Thread nD τ).loc main_arg2) (ix1 e)) (fun k => m ((c : Thread nD τ).loc main_arg1) (ix3 1 b k)) 256
    4352 ⟨t.val, hn⟩ (by show 256 ≤ 128 * t.val; omega) (by show 128 * t.val + 128 ≤ 4352; omega) (by omega)
    (fun s _ e => ?_) (fun h _ e => ?_) (pay7_eq t h0) (fun h _ e => ?_)
    (pay8_eq t h0) (fun k => ?_) (fun e => ?_) (iblk m c 5 t) (iblk m c 6 t) (iblk m c 7 t) s d (by omega)).trans ?_
  · rw [iblk0_apply, V_main_arg0]
  · rw [iblk1_apply m c t (by omega), V_main_arg0]
  · rw [iblk2_apply m c t (by have h : 128 * t.val + 128 < 4352 := h; omega), V_main_arg0]
  · rw [iblk3_apply m c t h0, V_main_arg1]
  · rw [iblk4_apply, v0_apply]
  · have e5 : (fun e k => iblk m c 5 t (ix2 e k)) = fun e k => m ((c : Thread nD τ).loc main_arg3) (ix2 e k) :=
      funext fun e => funext fun k => (iblk5_apply m c t e k).trans (v1_apply m c e k)
    have e6 : (fun e k => iblk m c 6 t (ix2 e k)) = fun e k => m ((c : Thread nD τ).loc main_arg4) (ix2 e k) :=
      funext fun e => funext fun k => (iblk6_apply m c t e k).trans (congrFun (V_main_arg4 m c) _)
    have e7 : (fun k d => iblk m c 7 t (ix2 k d)) = fun k d => m ((c : Thread nD τ).loc main_arg5) (ix2 k d) :=
      funext fun k => funext fun d => (iblk7_apply m c t k d).trans (v2_apply m c k d)
    unfold stream
    rw [e5, e6, e7]
    rfl

/-- The array after the run. -/
theorem final (c : Dev nD) :
    (dats m 0 c).arrAt 9 cfg0.N = fun i => rms (stream 1 (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (i 0)
          ⟨256 + (i 1).val, by have : (i 1).val < 4096 := (i 1).isLt; omega⟩)
          (fun e => m ((c : Thread nD τ).loc main_arg6) (ix1 e)) (i 2) := by
  refine (dats m 0 c).arrAt_eq_of_covers 9 _ (by decide +kernel) fun t hf y => ?_
  have h0 : 2 ≤ t.val := (by decide +kernel : ∀ t : Fin cfg0.N, (cfg0.win 9).flush t = true → 2 ≤ t.val) t hf
  obtain ⟨b, s, d, rfl⟩ : ∃ (b : Fin 8) (s : Fin 128) (d : Fin 1024), y = ix3 b s d := ⟨_, _, _, eq_ix3 y⟩
  refine Eq.trans ?_ ((point m c t h0 b s d).trans ?_)
  · blk_simp
    rw [after0_9]
  · have c0 : (((cfg0.win 9).blk t).view.emb (ix3 b s d) 0).val = b.val := by
      blk_simp [(idx t).2.2.2.2.2.2.2.2.2]
    have c1 : (((cfg0.win 9).blk t).view.emb (ix3 b s d) 1).val = 128 * (t.val - 2) + s.val := by
      blk_simp [(idx t).2.2.2.2.2.2.2.2.2]
      omega
    have c2 : (((cfg0.win 9).blk t).view.emb (ix3 b s d) 2).val = d.val := by
      blk_simp [(idx t).2.2.2.2.2.2.2.2.2]
    generalize ((cfg0.win 9).blk t).view.emb (ix3 b s d) = z at c0 c1 c2
    have hn := hN t
    have z0 : b = z 0 := Fin.ext c0.symm
    have z1 : (⟨128 * t.val + s.val, by omega⟩ : Fin 4352) = ⟨256 + (z 1).val, by omega⟩ := Fin.ext (by
      show 128 * t.val + s.val = 256 + (z 1).val; omega)
    have z2 : d = z 2 := Fin.ext c2.symm
    rw [z1]
    exact congrArg₂ (fun b d => rms (stream _ _ _ _ _ _ _ b _) _ d) z0 z2

end Cert.LastIdeal.Tile
-- ==== Proof.Last.Ref.lean ====
module

public import proofs.«01_k».proof.Proof.Gen.LastReferenceIdeal.Read
public import proofs.«01_k».proof.Proof.Ffn.Ref

/-! The last layer's reference, element by element: the latents' line of the feed-forward reference, normed. -/

@[expose] public section
set_option maxRecDepth 16384
noncomputable section

namespace Cert.LastReferenceIdeal.Tile
open Idealize.ShloMosaic Idealize.ShloMosaic.TcCoe
open Cert.LastReferenceIdeal Cert.LastReferenceIdeal.Gen Cert.LastReferenceIdeal.Read Cert.Feed

variable (x0 : Tokens) (x1 : (⟨3, ![2, 8, 6144]⟩ : Shape).Idx → EReal) (x2 : (⟨1, ![1024]⟩ : Shape).Idx → EReal)
    (x3 : (⟨2, ![1024, 5632]⟩ : Shape).Idx → EReal) (x4 : (⟨2, ![3, 5632]⟩ : Shape).Idx → EReal)
    (x5 : (⟨2, ![2816, 1024]⟩ : Shape).Idx → EReal) (x6 : (⟨1, ![1024]⟩ : Shape).Idx → EReal) (b : Fin 8)

/-- Its latents are computed as the feed-forward reference computes them. -/
theorem v57_eq : val_main_v57 (F := Ideal) x0 x1 x2 x3 x4 x5
    = FfnReferenceIdeal.Read.val_main_v115 (F := Ideal) x0 x1 x2 x3 x4 x5 := rfl

theorem v70 (s : Fin 4096) (d : Fin 1024) : val_main_v70 (F := Ideal) x0 x1 x2 x3 x4 x5 x6 (ix3 b s d)
    = rms (stream 1 x0 x1 x2 x3 x4 x5 b ⟨256 + s.val, by omega⟩) (fun e => x6 (ix1 e)) d := by
  have h := fun d => (congrFun (v57_eq x0 x1 x2 x3 x4 x5) _).trans (FfnReferenceIdeal.Tile.v115 x0 x1 x2 x3 x4 x5 b s d)
  refine Eq.trans ?_ (congrArg (fun y => rms y (fun e => x6 (ix1 e)) d) (funext h))
  have row : ∀ k, idx_main_v59 (idx_main_v60 (idx_main_v66 (ix3 b s d))) k = ix3 b s k := fun k => by
    funext a; fin_cases a <;> rfl
  unfold rms scale
  rw [val_main_v70_apply, val_main_v67_apply, val_main_v66_apply, val_main_v65_apply, val_main_v64_apply, val_main_v62_apply,
    val_main_v60_apply, val_main_v59_apply]
  simp only [val_main_v58_apply, row]
  generalize val_main_v57 (F := Ideal) x0 x1 x2 x3 x4 x5 = z
  pointwise [val_main_v69, val_main_v68, val_main_v63, val_main_v61, val_main_cst_3, val_main_cst_4, val_main_cst_5]

end Cert.LastReferenceIdeal.Tile
-- ==== Proof.Out.EvenFinal.lean ====
module

public import proofs.«01_k».proof.Proof.Gen.EvenOutIdeal.Value
public import proofs.«01_k».proof.Proof.Out.Math
public import Idealize.ShloMosaic.Lib.Pipeline.ValueKit
public import Idealize.ShloMosaic.Lib.StableHlo.ReadAt

/-! The even layer's output projection, the array after the run: every element is that of its token's line. -/

@[expose] public section
set_option maxRecDepth 16384
noncomputable section

namespace Cert.EvenOutIdeal.Tile
open Idealize.ShloMosaic Idealize.ShloMosaic.TcCoe Idealize.ShloMosaic.Tactic
open Idealize.SL.Sem Cert.EvenOutIdeal.Gen Cert.Out

variable (m : (ℓ : Loc nD τ sig) → Buf (Elt Ideal) ℓ)

/-- Point `t` is tile `t % 17` of sequence `t / 17`; its modulation row is 8 at the context's tile. -/
theorem idx : ∀ t : Fin grid0.N,
    win0_0.index t = ![t.val / 17, t.val % 17, 0]
    ∧ win0_1.index t = ![if t.val % 17 = 0 then 8 else t.val / 17, 0, 0]
    ∧ win0_2.index t = ![t.val / 17, t.val % 17, 0]
    ∧ win0_3.index t = ![t.val / 17, t.val % 17, 0]
    ∧ win0_4.index t = ![t.val / 17, t.val % 17, 0]
    ∧ win0_5.index t = ![t.val / 17, t.val % 17, 0]
    ∧ win0_6.index t = ![0, 0]
    ∧ win0_7.index t = ![0, 0]
    ∧ win0_8.index t = ![t.val / 17, t.val % 17, 0] := by decide +kernel

theorem hN (t : Fin cfg0.N) : t.val < 136 := t.isLt

/-- A point's sequence, and its token `s`. -/
def seq (t : Fin cfg0.N) : Fin 8 := ⟨t.val / 17, by have := hN t; omega⟩
def pos (t : Fin cfg0.N) (s : Fin 256) : Fin 4352 := ⟨256 * (t.val % 17) + s.val, by omega⟩

theorem iblk0_apply (c : Dev nD) (t : Fin cfg0.N) (s : Fin 256) (e : Fin 1024) :
    iblk m c 0 t (ix3 0 s e) = V m c main_arg0 (ix3 (seq t) (pos t s) e) := by
  blk_ext [iblk, (idx t).1, seq, pos]

theorem iblk1_apply (c : Dev nD) (t : Fin cfg0.N) (s : Fin 256) (k : Fin 6144) :
    iblk m c 1 t (ix3 0 0 k) = V m c main_arg1 (ix3 (modOf (seq t) (pos t s)) 0 k) := by
  have e : modOf (seq t) (pos t s) = ⟨if t.val % 17 = 0 then 8 else t.val / 17, by have := hN t; split <;> omega⟩ := by
    unfold modOf pos seq
    by_cases h : t.val % 17 = 0
    · rw [if_pos (show 256 * (t.val % 17) + s.val < 256 by omega)]
      exact Fin.ext (if_pos h).symm
    · rw [if_neg (show ¬256 * (t.val % 17) + s.val < 256 by omega)]
      exact Fin.ext (if_neg h).symm
  rw [e]
  blk_ext [iblk, (idx t).2.1]

theorem iblk2_apply (c : Dev nD) (t : Fin cfg0.N) (s : Fin 256) (k : Fin 512) :
    iblk m c 2 t (ix3 0 s k) = V m c main_arg2 (ix3 (seq t) (pos t s) k) := by
  blk_ext [iblk, (idx t).2.2.1, seq, pos]

theorem iblk3_apply (c : Dev nD) (t : Fin cfg0.N) (s : Fin 256) (k : Fin 512) :
    iblk m c 3 t (ix3 0 s k) = V m c main_arg3 (ix3 (seq t) (pos t s) k) := by
  blk_ext [iblk, (idx t).2.2.2.1, seq, pos]

theorem iblk4_apply (c : Dev nD) (t : Fin cfg0.N) (s : Fin 256) (k : Fin 512) :
    iblk m c 4 t (ix3 0 s k) = V m c main_arg4 (ix3 (seq t) (pos t s) k) := by
  blk_ext [iblk, (idx t).2.2.2.2.1, seq, pos]

theorem iblk5_apply (c : Dev nD) (t : Fin cfg0.N) (s : Fin 256) (k : Fin 512) :
    iblk m c 5 t (ix3 0 s k) = V m c main_arg5 (ix3 (seq t) (pos t s) k) := by
  blk_ext [iblk, (idx t).2.2.2.2.2.1, seq, pos]

theorem iblk6_apply (c : Dev nD) (t : Fin cfg0.N) (k : Fin 128) :
    iblk m c 6 t (ix2 0 k) = V m c main_v0 (ix2 0 k) := by
  blk_ext [iblk, (idx t).2.2.2.2.2.2.1]

theorem iblk7_apply (c : Dev nD) (t : Fin cfg0.N) (k d : Fin 1024) :
    iblk m c 7 t (ix2 k d) = V m c main_v1 (ix2 k d) := by
  blk_ext [iblk, (idx t).2.2.2.2.2.2.2.1]

theorem v0_apply (c : Dev nD) (k : Fin 128) : V m c main_v0 (ix2 0 k) = m ((c : Thread nD τ).loc main_arg6) (ix1 k) := by
  unfold V
  after_reads_at

theorem v1_apply (c : Dev nD) (k d : Fin 1024) :
    V m c main_v1 (ix2 k d) = m ((c : Thread nD τ).loc main_arg7) (ix2 k d) := by
  unfold V
  after_reads_at

/-- The loads that are parts of blocks: the gate's vector, the two halves of the weights. -/
theorem ld_gate (mo : Vec Ideal S1x1x6144 .f32) (d : Fin 1024) :
    View.ld mo r0_5 (ix3 0 0 d) = mo (ix3 0 0 ⟨2048 + d.val, by omega⟩) := by
  unfold r0_5
  pointwise

theorem ld_top (w : Vec Ideal S1024x1024 .bf16) (k : Fin 512) (d : Fin 1024) :
    View.ld w r0_2 (ix2 k d) = w (ix2 (⟨k.val, by omega⟩ : Fin 1024) d) := by
  unfold r0_2
  pointwise

theorem ld_bottom (w : Vec Ideal S1024x1024 .bf16) (k : Fin 512) (d : Fin 1024) :
    View.ld w r0_3 (ix2 k d) = w (ix2 (⟨512 + k.val, by omega⟩ : Fin 1024) d) := by
  unfold r0_3
  pointwise

section Heads
variable {F : FTy → Type} [FloatOps F]

/-- A head's 128 columns normed and gated. -/
def head (o g : FVec F S256x128 .f32) (og : FVec F S1x128 .f32) : FVec F S256x128 .f32 :=
  mulf (mulf (mulf o (broadcastTo S256x128 (rsqrt (addf (divf (shapeCast S256x1
      (multiReduction .add [1] S256 (mulf o o) 0x00000000#32 reduces_S256x128_S256 (.inl rfl) rfl) shapeCasts_S256_S256x1)
      (broadcast S256x1 (Scalar.ofBits .f32 0x43000000#32))) (broadcast S256x1 (Scalar.ofBits .f32 0x358637BD#32))))
      broadcasts_S256x1_S256x128)) (broadcastTo S256x128 og broadcasts_S1x128_S256x128))
    (mulf g (divf (broadcast S256x128 (Scalar.ofBits .f32 0x3F800000#32)) (addf (broadcast S256x128 (Scalar.ofBits .f32 0x3F800000#32))
      (exp (subf (broadcast S256x128 (Scalar.ofBits .f32 0x00000000#32)) g)))))

/-- The four heads side by side. -/
def cat (a b c d : FVec F S256x128 .f32) : FVec F S256x512 .f32 :=
  concatenate S256x512 1 [⟨S256x128, a⟩, ⟨S256x128, b⟩, ⟨S256x128, c⟩, ⟨S256x128, d⟩]
    concatenates_S256x128_S256x128_S256x128_S256x128_S256x512_d1

/-- … of a tile. -/
def wide (o g : FVec F S256x512 .f32) (og : FVec F S1x128 .f32) : FVec F S256x512 .f32 :=
  cat (head (extractStridedSlice S256x128 ![0, 0] o slices_S256x512_o0_0_S256x128)
      (extractStridedSlice S256x128 ![0, 0] g slices_S256x512_o0_0_S256x128) og)
    (head (extractStridedSlice S256x128 ![0, 128] o slices_S256x512_o0_128_S256x128)
      (extractStridedSlice S256x128 ![0, 128] g slices_S256x512_o0_128_S256x128) og)
    (head (extractStridedSlice S256x128 ![0, 256] o slices_S256x512_o0_256_S256x128)
      (extractStridedSlice S256x128 ![0, 256] g slices_S256x512_o0_256_S256x128) og)
    (head (extractStridedSlice S256x128 ![0, 384] o slices_S256x512_o0_384_S256x128)
      (extractStridedSlice S256x128 ![0, 384] g slices_S256x512_o0_384_S256x128) og)

/-- The two branches projected, in the body's terms. -/
def project (ya : Vec F S1x256x512 .bf16) (yb : FVec F S256x512 .f32) (w1 w2 : Vec F S512x1024 .bf16) : FVec F S256x1024 .f32 :=
  addf (matmul dot_S256x512_S512x1024_S256x1024_1_0_0_1_n_n none
      (shapeCast S256x512 ya shapeCasts_S1x256x512_S256x512) (shapeCast S512x1024 w1 shapeCasts_S512x1024_S512x1024)
      (constant S256x1024 .f32 0x00000000#32))
    (matmul dot_S256x512_S512x1024_S256x1024_1_0_0_1_n_n none
      (truncf .bf16 yb bitsLt_bf16_f32) (shapeCast S512x1024 w2 shapeCasts_S512x1024_S512x1024) (constant S256x1024 .f32 0x00000000#32))

theorem pay10_eq (p q g ya : Vec F S1x256x512 .bf16) (og : Vec F S1x128 .f32) (w1 w2 : Vec F S512x1024 .bf16) :
    k0_pay10 (k0_pay2 p q) (k0_pay3 g) (k0_pay4 p q g og) (k0_pay8 (k0_pay3 g) (k0_pay5 p q) (k0_pay6 og) (k0_pay7 p q))
      (k0_pay9 (k0_pay2 p q) (k0_pay3 g) og) og ya w1 w2
      = project ya (wide (k0_pay2 p q) (k0_pay3 g) (k0_pay6 og)) w1 w2 := rfl

end Heads

theorem head_apply (o g : FVec Ideal S256x128 .f32) (og : FVec Ideal S1x128 .f32) (s : Fin 256) (k : Fin 128) :
    head o g og (ix2 s k) = o (ix2 s k)
      * Ideal.rsqrt (Ideal.div (∑ j, o (ix2 s j) * o (ix2 s j)) (Ideal.ofBits .f32 0x43000000#32) + Ideal.ofBits .f32 0x358637BD#32)
      * og (ix2 0 k) * (g (ix2 s k) * Ideal.div 1 (1 + Ideal.exp (-g (ix2 s k)))) := by
  pointwise [head]
  rw [zero_sub]

/-- Column `128 h + k` is column `k` of head `h`. -/
theorem cat_apply (a : Fin 4 → FVec Ideal S256x128 .f32) (s : Fin 256) (k : Fin 512) :
    cat (a 0) (a 1) (a 2) (a 3) (ix2 s k) = a ⟨k.val / 128, by omega⟩ (ix2 s ⟨k.val % 128, by omega⟩) := by
  pointwise [cat]
  by_cases h0 : k.val < 128
  · rw [dif_pos h0]
    exact congrArg₂ (fun h j => a h (ix2 s j)) (Fin.ext (by show 0 = k.val / 128; omega)) (Fin.ext (by show k.val = k.val % 128; omega))
  rw [dif_neg h0]
  by_cases h1 : k.val - 128 < 128
  · rw [dif_pos h1]
    exact congrArg₂ (fun h j => a h (ix2 s j)) (Fin.ext (by show 1 = k.val / 128; omega))
      (Fin.ext (by show k.val - 128 = k.val % 128; omega))
  rw [dif_neg h1]
  by_cases h2 : k.val - 128 - 128 < 128
  · rw [dif_pos h2]
    exact congrArg₂ (fun h j => a h (ix2 s j)) (Fin.ext (by show 2 = k.val / 128; omega))
      (Fin.ext (by show k.val - 128 - 128 = k.val % 128; omega))
  · rw [dif_neg h2]
    exact congrArg₂ (fun h j => a h (ix2 s j)) (Fin.ext (by show 3 = k.val / 128; omega))
      (Fin.ext (by show k.val - 128 - 128 - 128 = k.val % 128; omega))

/-- The columns of head `h`. -/
def cols (o : FVec Ideal S256x512 .f32) (h : Fin 4) : FVec Ideal S256x128 .f32 :=
  fun y => o (ix2 (⟨(y 0).val, (y 0).isLt⟩ : Fin 256) ⟨128 * h.val + (y 1).val, by have : (y 1).val < 128 := (y 1).isLt; omega⟩)

theorem slice_cols (o : FVec Ideal S256x512 .f32) (h : Fin 4) (n : ℕ) (hs : Shape.Slices S256x512 ![0, n] S256x128)
    (hn : n = 128 * h.val) : extractStridedSlice S256x128 ![0, n] o hs = cols o h := by
  subst hn
  funext y
  obtain ⟨s, k, rfl⟩ : ∃ (s : Fin 256) (k : Fin 128), y = ix2 s k := ⟨_, _, eq_ix2 y⟩
  refine (extractStridedSlice_apply _ o hs (ix2 s k) (ix2 s ⟨128 * h.val + k.val, by omega⟩) fun a => ?_).trans rfl
  fin_cases a
  · show s.val = 0 + s.val
    omega
  · rfl

theorem wide_apply (o g : FVec Ideal S256x512 .f32) (og : FVec Ideal S1x128 .f32) (s : Fin 256) (k : Fin 512) :
    wide o g og (ix2 s k) = heads (fun k => o (ix2 s k)) (fun k => g (ix2 s k)) (fun k => og (ix2 0 k)) k := by
  unfold wide
  rw [slice_cols o 0 0 _ rfl, slice_cols o 1 128 _ rfl, slice_cols o 2 256 _ rfl, slice_cols o 3 384 _ rfl,
    slice_cols g 0 0 _ rfl, slice_cols g 1 128 _ rfl, slice_cols g 2 256 _ rfl, slice_cols g 3 384 _ rfl]
  refine (cat_apply (fun h => head (cols o h) (cols g h) og) s k).trans ?_
  rw [head_apply]
  rfl

theorem project_apply (ya : Vec Ideal S1x256x512 .bf16) (yb : FVec Ideal S256x512 .f32) (w1 w2 : Vec Ideal S512x1024 .bf16)
    (s : Fin 256) (d : Fin 1024) : project ya yb w1 w2 (ix2 s d)
      = ∑ k, ya (ix3 0 s k) * w1 (ix2 k d) + ∑ k, yb (ix2 s k) * w2 (ix2 k d) := by
  pointwise [project]

theorem pay1_apply (y x : FVec Ideal S256x1024 .f32) (mo : Vec Ideal S1x1x1024 .f32) (s : Fin 256) (d : Fin 1024) :
    k0_pay1 y x mo (ix3 0 s d) = x (ix2 s d) + mo (ix3 0 0 d) * y (ix2 s d) := by
  pointwise [k0_pay1]

theorem pay2_apply (p q : Vec Ideal S1x256x512 .bf16) (s : Fin 256) (k : Fin 512) :
    k0_pay2 p q (ix2 s k) = p (ix3 0 s k) + q (ix3 0 s k) := by
  pointwise [k0_pay2]

theorem pay3_apply (p : Vec Ideal S1x256x512 .bf16) (s : Fin 256) (k : Fin 512) : k0_pay3 p (ix2 s k) = p (ix3 0 s k) := by
  pointwise [k0_pay3]

theorem pay11_apply (x : Vec Ideal S1x256x1024 .f32) (s : Fin 256) (d : Fin 1024) : k0_pay11 x (ix2 s d) = x (ix3 0 s d) := by
  pointwise [k0_pay11]

theorem pay6_eq (og : Vec Ideal S1x128 .f32) : k0_pay6 og = og := shapeCast_self _ _

/-- What the body leaves, from the point's blocks. -/
theorem block (x : Vec Ideal S1x256x1024 .f32) (mo : Vec Ideal S1x1x6144 .f32) (ya p q g : Vec Ideal S1x256x512 .bf16)
    (og : Vec Ideal S1x128 .f32) (w : Vec Ideal S1024x1024 .bf16) (s : Fin 256) (d : Fin 1024) :
    out0_8 x mo ya p q g og w (ix3 0 s d)
      = x (ix3 0 s d) + mo (ix3 0 0 ⟨2048 + d.val, by omega⟩)
        * merge (fun k => ya (ix3 0 s k)) (heads (fun k => p (ix3 0 s k) + q (ix3 0 s k)) (fun k => g (ix3 0 s k))
            (fun k => og (ix2 0 k))) w d := by
  unfold_out out0_8
  frame_out
  rw [pay10_eq]
  rw [pay1_apply, project_apply, pay11_apply, pay6_eq]
  simp only [wide_apply, pay2_apply, pay3_apply]
  exact congrArg₂ (fun a b => x (ix3 0 s d) + a * b) (ld_gate mo d) (congrArg₂ (· + ·)
    (Finset.sum_congr rfl fun k _ => congrArg (_ * ·) (ld_top w k d))
    (Finset.sum_congr rfl fun k _ => congrArg (_ * ·) (ld_bottom w k d)))

/-- The output element of a point. -/
theorem point (c : Dev nD) (t : Fin cfg0.N) (s : Fin 256) (d : Fin 1024) :
    (dats m 0 c).after 8 t (ix3 0 s d)
      = line (m ((c : Thread nD τ).loc main_arg0)) (m ((c : Thread nD τ).loc main_arg1)) (m ((c : Thread nD τ).loc main_arg7))
          (fun k => m ((c : Thread nD τ).loc main_arg2) (ix3 (seq t) (pos t s) k))
          (delta (m ((c : Thread nD τ).loc main_arg3)) (m ((c : Thread nD τ).loc main_arg4)) (m ((c : Thread nD τ).loc main_arg5))
            (m ((c : Thread nD τ).loc main_arg6)) (seq t) (pos t s)) (seq t) (pos t s) d := by
  have e7 : (iblk m c 7 t : Weights) = m ((c : Thread nD τ).loc main_arg7) := by
    funext i
    obtain ⟨k, d, rfl⟩ : ∃ k d : Fin 1024, i = ix2 k d := ⟨_, _, eq_ix2 i⟩
    exact (iblk7_apply m c t k d).trans (v1_apply m c k d)
  rw [after0_8, block, e7]
  unfold line delta
  simp only [iblk0_apply, iblk1_apply m c t s, iblk2_apply, iblk3_apply, iblk4_apply, iblk5_apply, iblk6_apply]
  have eg : (fun k : Fin 128 => V m c main_v0 (ix2 0 k)) = fun k => m ((c : Thread nD τ).loc main_arg6) (ix1 k) :=
    funext (v0_apply m c)
  rw [eg, V_main_arg0, V_main_arg1, V_main_arg2, V_main_arg3, V_main_arg4, V_main_arg5]

/-- The array after the run. -/
theorem final (c : Dev nD) :
    (dats m 0 c).arrAt 8 cfg0.N = fun i =>
      line (m ((c : Thread nD τ).loc main_arg0)) (m ((c : Thread nD τ).loc main_arg1)) (m ((c : Thread nD τ).loc main_arg7))
        (fun k => m ((c : Thread nD τ).loc main_arg2) (ix3 (i 0) (i 1) k))
        (delta (m ((c : Thread nD τ).loc main_arg3)) (m ((c : Thread nD τ).loc main_arg4)) (m ((c : Thread nD τ).loc main_arg5))
          (m ((c : Thread nD τ).loc main_arg6)) (i 0) (i 1)) (i 0) (i 1) (i 2) := by
  refine (dats m 0 c).arrAt_eq_of_covers 8 _ (by decide +kernel) fun t hf y => ?_
  obtain ⟨s, d, rfl⟩ : ∃ (s : Fin 256) (d : Fin 1024), y = ix3 0 s d :=
    ⟨y 1, y 2, (eq_ix3 y).trans (congrArg (fun z : Fin 1 => ix3 z (y 1) (y 2)) (Subsingleton.elim _ _))⟩
  refine Eq.trans ?_ ((point m c t s d).trans ?_)
  · blk_simp
  · have c0 : (((cfg0.win 8).blk t).view.emb (ix3 0 s d) 0).val = t.val / 17 := by
      blk_simp [(idx t).2.2.2.2.2.2.2.2]
      rfl
    have c1 : (((cfg0.win 8).blk t).view.emb (ix3 0 s d) 1).val = 256 * (t.val % 17) + s.val := by
      blk_simp [(idx t).2.2.2.2.2.2.2.2]
      omega
    have c2 : (((cfg0.win 8).blk t).view.emb (ix3 0 s d) 2).val = d.val := by
      blk_simp [(idx t).2.2.2.2.2.2.2.2]
    generalize ((cfg0.win 8).blk t).view.emb (ix3 0 s d) = z at c0 c1 c2
    have z0 : seq t = z 0 := Fin.ext c0.symm
    have z1 : pos t s = z 1 := Fin.ext c1.symm
    have z2 : d = z 2 := Fin.ext c2.symm
    rw [z0, z1]
    exact congrArg (line _ _ _ _ _ _ _) z2

end Cert.EvenOutIdeal.Tile
-- ==== Proof.Out.EvenRef.lean ====
module

public import proofs.«01_k».proof.Proof.Gen.EvenOutReferenceIdeal.Read
public import proofs.«01_k».proof.Proof.Out.Math
public import Idealize.ShloMosaic.Lib.KernelVsHost

/-! The even layer's output projection in the reference, element by element: the same line of each token. -/

@[expose] public section
set_option maxRecDepth 16384
noncomputable section

namespace Cert.EvenOutReferenceIdeal.Tile
open Idealize.ShloMosaic Idealize.ShloMosaic.TcCoe
open Cert.EvenOutReferenceIdeal Cert.EvenOutReferenceIdeal.Gen Cert.EvenOutReferenceIdeal.Read Cert.Out

variable (x0 : Tokens) (x1 : Mods) (x2 x3 x4 x5 : Branch) (x6 : (⟨1, ![128]⟩ : Shape).Idx → EReal) (x7 : Weights) (b : Fin 8)

theorem v22 (l : Fin 4352) (k : Fin 512) : val_main_v22 (F := Ideal) x3 x4 x5 x6 (ix3 b l k) = delta x3 x4 x5 x6 b l k := by
  unfold delta heads headOf
  pointwise [val_main_v22, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_v1, val_main_v0, val_main_cst, val_main_cst_0, val_main_cst_1,
    val_main_call0_v0, val_main_call0_v1, val_main_call0_v2, val_main_call0_v3, val_main_call0_v4, val_main_call0_v5,
    val_main_call0_cst, val_main_call0_cst_0]
  have e : (⟨128 * (k.val / 128) + k.val % 128, by omega⟩ : Fin 512) = k := Fin.ext (by show 128 * (k.val / 128) + k.val % 128 = k.val; omega)
  rw [e]
  simp only [Nat.mul_comm (k.val / 128) 128]

theorem v23 (l : Fin 4352) (k : Fin 1024) : val_main_v23 (F := Ideal) x2 x3 x4 x5 x6 (ix3 b l k)
    = if h : k.val < 512 then x2 (ix3 b l ⟨k.val, h⟩) else delta x3 x4 x5 x6 b l ⟨k.val - 512, by omega⟩ := by
  unfold val_main_v23
  have h0 := v22 x3 x4 x5 x6 b l
  generalize val_main_v22 (F := Ideal) x3 x4 x5 x6 = p at h0
  pointwise [val_main_v21]
  simp only [h0]

theorem left24 (l : Fin 4352) (d k : Fin 1024) : lidx_main_v24 (ix3 b l d) k = ix3 b l k := by
  funext a; fin_cases a <;> rfl

theorem right24 (l : Fin 4352) (d k : Fin 1024) : ridx_main_v24 (ix3 b l d) k = ix2 k d := by
  funext a; fin_cases a <;> rfl

theorem v24 (l : Fin 4352) (d : Fin 1024) : val_main_v24 (F := Ideal) x2 x3 x4 x5 x6 x7 (ix3 b l d)
    = merge (fun k => x2 (ix3 b l k)) (delta x3 x4 x5 x6 b l) x7 d := by
  rw [val_main_v24_apply]
  simp only [left24, right24]
  refine merge_eq (fun k => val_main_v23 (F := Ideal) x2 x3 x4 x5 x6 (ix3 b l k)) x7 d _ _ (fun k => ?_) fun k => ?_
  · exact (v23 x2 x3 x4 x5 x6 b l _).trans (dif_pos k.isLt)
  · refine (v23 x2 x3 x4 x5 x6 b l _).trans ((dif_neg (show ¬512 + k.val < 512 by omega)).trans ?_)
    exact congrArg (delta x3 x4 x5 x6 b l) (Fin.ext (by show 512 + k.val - 512 = k.val; omega))

/-- Both streams. -/
theorem result (l : Fin 4352) (d : Fin 1024) : val_main_v41 (F := Ideal) x0 x1 x2 x3 x4 x5 x6 x7 (ix3 b l d)
    = line x0 x1 x7 (fun k => x2 (ix3 b l k)) (delta x3 x4 x5 x6 b l) b l d := by
  have h := v24 x2 x3 x4 x5 x6 x7 b
  unfold val_main_v41 val_main_v34 val_main_v40 val_main_v33 val_main_v39 val_main_v30 val_main_v37
  generalize val_main_v24 (F := Ideal) x2 x3 x4 x5 x6 x7 = y at h
  unfold line modOf
  rw [← h]
  pointwise [val_main_v38, val_main_v36, val_main_v35, val_main_v32, val_main_v31, val_main_v29, val_main_v28, val_main_v27,
    val_main_v26, val_main_v25]
  by_cases hl : l.val < 256
  · rw [dif_pos hl, if_pos hl]
  · rw [dif_neg hl, if_neg hl]
    have el : (⟨256 + (l.val - 256), by omega⟩ : Fin 4352) = l := Fin.ext (by show 256 + (l.val - 256) = l.val; omega)
    rw [el]

end Cert.EvenOutReferenceIdeal.Tile
-- ==== Proof.Out.OddFinal.lean ====
module

public import proofs.«01_k».proof.Proof.Gen.OddOutIdeal.Value
public import proofs.«01_k».proof.Proof.Out.Math
public import Idealize.ShloMosaic.Lib.Pipeline.ValueKit
public import Idealize.ShloMosaic.Lib.StableHlo.ReadAt

/-! The odd layer's output projection, the array after the run: every element is that of its token's line. -/

@[expose] public section
set_option maxRecDepth 16384
noncomputable section

namespace Cert.OddOutIdeal.Tile
open Idealize.ShloMosaic Idealize.ShloMosaic.TcCoe Idealize.ShloMosaic.Tactic
open Idealize.SL.Sem Cert.OddOutIdeal.Gen Cert.Out

variable (m : (ℓ : Loc nD τ sig) → Buf (Elt Ideal) ℓ)

/-- Point `t` is tile `t % 17` of sequence `t / 17`; its modulation row is 8 at the context's tile. -/
theorem idx : ∀ t : Fin grid0.N,
    win0_0.index t = ![t.val / 17, t.val % 17, 0]
    ∧ win0_1.index t = ![if t.val % 17 = 0 then 8 else t.val / 17, 0, 0]
    ∧ win0_2.index t = ![t.val / 17, t.val % 17, 0]
    ∧ win0_3.index t = ![t.val / 17, t.val % 17, 0]
    ∧ win0_4.index t = ![t.val / 17, t.val % 17, 0]
    ∧ win0_5.index t = ![t.val / 17, t.val % 17, 0]
    ∧ win0_6.index t = ![0, 0]
    ∧ win0_7.index t = ![t.val / 17, t.val % 17, 0] := by decide +kernel

theorem hN (t : Fin cfg0.N) : t.val < 136 := t.isLt

/-- A point's sequence, and its token `s`. -/
def seq (t : Fin cfg0.N) : Fin 8 := ⟨t.val / 17, by have := hN t; omega⟩
def pos (t : Fin cfg0.N) (s : Fin 256) : Fin 4352 := ⟨256 * (t.val % 17) + s.val, by omega⟩

theorem iblk0_apply (c : Dev nD) (t : Fin cfg0.N) (s : Fin 256) (e : Fin 1024) :
    iblk m c 0 t (ix3 0 s e) = V m c main_arg0 (ix3 (seq t) (pos t s) e) := by
  blk_ext [iblk, (idx t).1, seq, pos]

theorem iblk1_apply (c : Dev nD) (t : Fin cfg0.N) (s : Fin 256) (k : Fin 6144) :
    iblk m c 1 t (ix3 0 0 k) = V m c main_arg1 (ix3 (modOf (seq t) (pos t s)) 0 k) := by
  have e : modOf (seq t) (pos t s) = ⟨if t.val % 17 = 0 then 8 else t.val / 17, by have := hN t; split <;> omega⟩ := by
    unfold modOf pos seq
    by_cases h : t.val % 17 = 0
    · rw [if_pos (show 256 * (t.val % 17) + s.val < 256 by omega)]
      exact Fin.ext (if_pos h).symm
    · rw [if_neg (show ¬256 * (t.val % 17) + s.val < 256 by omega)]
      exact Fin.ext (if_neg h).symm
  rw [e]
  blk_ext [iblk, (idx t).2.1]

theorem iblk2_apply (c : Dev nD) (t : Fin cfg0.N) (s : Fin 256) (k : Fin 512) :
    iblk m c 2 t (ix3 0 s k) = V m c main_arg2 (ix3 (seq t) (pos t s) k) := by
  blk_ext [iblk, (idx t).2.2.1, seq, pos]

theorem iblk3_apply (c : Dev nD) (t : Fin cfg0.N) (s : Fin 256) (k : Fin 512) :
    iblk m c 3 t (ix3 0 s k) = V m c main_arg3 (ix3 (seq t) (pos t s) k) := by
  blk_ext [iblk, (idx t).2.2.2.1, seq, pos]

theorem iblk4_apply (c : Dev nD) (t : Fin cfg0.N) (s : Fin 256) (k : Fin 512) :
    iblk m c 4 t (ix3 0 s k) = V m c main_arg4 (ix3 (seq t) (pos t s) k) := by
  blk_ext [iblk, (idx t).2.2.2.2.1, seq, pos]

theorem iblk5_apply (c : Dev nD) (t : Fin cfg0.N) (s : Fin 256) (k : Fin 512) :
    iblk m c 5 t (ix3 0 s k) = V m c main_arg5 (ix3 (seq t) (pos t s) k) := by
  blk_ext [iblk, (idx t).2.2.2.2.2.1, seq, pos]

theorem iblk6_apply (c : Dev nD) (t : Fin cfg0.N) (k d : Fin 1024) :
    iblk m c 6 t (ix2 k d) = V m c main_v0 (ix2 k d) := by
  blk_ext [iblk, (idx t).2.2.2.2.2.2.1]

theorem v0_apply (c : Dev nD) (k d : Fin 1024) :
    V m c main_v0 (ix2 k d) = m ((c : Thread nD τ).loc main_arg6) (ix2 k d) := by
  unfold V
  after_reads_at

/-- The loads that are parts of blocks: the gate's vector, the two halves of the weights. -/
theorem ld_gate (mo : Vec Ideal S1x1x6144 .f32) (d : Fin 1024) :
    View.ld mo r0_4 (ix3 0 0 d) = mo (ix3 0 0 ⟨2048 + d.val, by omega⟩) := by
  unfold r0_4
  pointwise

theorem ld_top (w : Vec Ideal S1024x1024 .bf16) (k : Fin 512) (d : Fin 1024) :
    View.ld w r0_1 (ix2 k d) = w (ix2 (⟨k.val, by omega⟩ : Fin 1024) d) := by
  unfold r0_1
  pointwise

theorem ld_bottom (w : Vec Ideal S1024x1024 .bf16) (k : Fin 512) (d : Fin 1024) :
    View.ld w r0_2 (ix2 k d) = w (ix2 (⟨512 + k.val, by omega⟩ : Fin 1024) d) := by
  unfold r0_2
  pointwise

/-- What the body leaves, from its loads. -/
theorem body (x : Vec Ideal S1x256x1024 .f32) (mo : Vec Ideal S1x1x1024 .f32) (hf hr g : Vec Ideal S1x256x512 .f32)
    (w1 : Vec Ideal S512x1024 .bf16) (od : Vec Ideal S1x256x512 .bf16) (w2 : Vec Ideal S512x1024 .bf16) (s : Fin 256) (d : Fin 1024) :
    k0_pay1 (k0_pay2 hf hr g w1 od w2) (k0_pay3 x) mo (ix3 0 s d)
      = x (ix3 0 s d) + mo (ix3 0 0 d)
        * (∑ k, (hf (ix3 0 s k) + hr (ix3 0 s k)) * gelu (g (ix3 0 s k)) * w1 (ix2 k d) + ∑ k, od (ix3 0 s k) * w2 (ix2 k d)) := by
  unfold gelu
  pointwise [k0_pay1, k0_pay2, k0_pay3]

/-- … from the point's blocks. -/
theorem block (x : Vec Ideal S1x256x1024 .f32) (mo : Vec Ideal S1x1x6144 .f32) (hf hr g : Vec Ideal S1x256x512 .f32)
    (od : Vec Ideal S1x256x512 .bf16) (w : Vec Ideal S1024x1024 .bf16) (s : Fin 256) (d : Fin 1024) :
    out0_7 x mo hf hr g od w (ix3 0 s d)
      = x (ix3 0 s d) + mo (ix3 0 0 ⟨2048 + d.val, by omega⟩)
        * merge (fun k => (hf (ix3 0 s k) + hr (ix3 0 s k)) * gelu (g (ix3 0 s k))) (fun k => od (ix3 0 s k)) w d := by
  frame_out
  rw [body]
  exact congrArg₂ (fun a b => x (ix3 0 s d) + a * b) (ld_gate mo d) (congrArg₂ (· + ·)
    (Finset.sum_congr rfl fun k _ => congrArg (_ * ·) (ld_top w k d))
    (Finset.sum_congr rfl fun k _ => congrArg (_ * ·) (ld_bottom w k d)))

/-- The output element of a point. -/
theorem point (c : Dev nD) (t : Fin cfg0.N) (s : Fin 256) (d : Fin 1024) :
    (dats m 0 c).after 7 t (ix3 0 s d)
      = line (m ((c : Thread nD τ).loc main_arg0)) (m ((c : Thread nD τ).loc main_arg1)) (m ((c : Thread nD τ).loc main_arg6))
          (recurrent (m ((c : Thread nD τ).loc main_arg2)) (m ((c : Thread nD τ).loc main_arg3)) (m ((c : Thread nD τ).loc main_arg4))
            (seq t) (pos t s))
          (fun k => m ((c : Thread nD τ).loc main_arg5) (ix3 (seq t) (pos t s) k)) (seq t) (pos t s) d := by
  have e6 : (iblk m c 6 t : Weights) = m ((c : Thread nD τ).loc main_arg6) := by
    funext i
    obtain ⟨k, d, rfl⟩ : ∃ k d : Fin 1024, i = ix2 k d := ⟨_, _, eq_ix2 i⟩
    exact (iblk6_apply m c t k d).trans (v0_apply m c k d)
  rw [after0_7, block, e6]
  unfold line recurrent
  simp only [iblk0_apply, iblk1_apply m c t s, iblk2_apply, iblk3_apply, iblk4_apply, iblk5_apply]
  rw [V_main_arg0, V_main_arg1, V_main_arg2, V_main_arg3, V_main_arg4, V_main_arg5]

/-- The array after the run. -/
theorem final (c : Dev nD) :
    (dats m 0 c).arrAt 7 cfg0.N = fun i =>
      line (m ((c : Thread nD τ).loc main_arg0)) (m ((c : Thread nD τ).loc main_arg1)) (m ((c : Thread nD τ).loc main_arg6))
        (recurrent (m ((c : Thread nD τ).loc main_arg2)) (m ((c : Thread nD τ).loc main_arg3)) (m ((c : Thread nD τ).loc main_arg4))
          (i 0) (i 1))
        (fun k => m ((c : Thread nD τ).loc main_arg5) (ix3 (i 0) (i 1) k)) (i 0) (i 1) (i 2) := by
  refine (dats m 0 c).arrAt_eq_of_covers 7 _ (by decide +kernel) fun t hf y => ?_
  obtain ⟨s, d, rfl⟩ : ∃ (s : Fin 256) (d : Fin 1024), y = ix3 0 s d :=
    ⟨y 1, y 2, (eq_ix3 y).trans (congrArg (fun z : Fin 1 => ix3 z (y 1) (y 2)) (Subsingleton.elim _ _))⟩
  refine Eq.trans ?_ ((point m c t s d).trans ?_)
  · blk_simp
  · have c0 : (((cfg0.win 7).blk t).view.emb (ix3 0 s d) 0).val = t.val / 17 := by
      blk_simp [(idx t).2.2.2.2.2.2.2]
      rfl
    have c1 : (((cfg0.win 7).blk t).view.emb (ix3 0 s d) 1).val = 256 * (t.val % 17) + s.val := by
      blk_simp [(idx t).2.2.2.2.2.2.2]
      omega
    have c2 : (((cfg0.win 7).blk t).view.emb (ix3 0 s d) 2).val = d.val := by
      blk_simp [(idx t).2.2.2.2.2.2.2]
    generalize ((cfg0.win 7).blk t).view.emb (ix3 0 s d) = z at c0 c1 c2
    have z0 : seq t = z 0 := Fin.ext c0.symm
    have z1 : pos t s = z 1 := Fin.ext c1.symm
    have z2 : d = z 2 := Fin.ext c2.symm
    rw [z0, z1]
    exact congrArg (line _ _ _ _ _ _ _) z2

end Cert.OddOutIdeal.Tile
-- ==== Proof.Out.OddRef.lean ====
module

public import proofs.«01_k».proof.Proof.Gen.OddOutReferenceIdeal.Read
public import proofs.«01_k».proof.Proof.Out.Math
public import Idealize.ShloMosaic.Lib.KernelVsHost

/-! The odd layer's output projection in the reference, element by element: the same line of each token. -/

@[expose] public section
set_option maxRecDepth 16384
noncomputable section

namespace Cert.OddOutReferenceIdeal.Tile
open Idealize.ShloMosaic Idealize.ShloMosaic.TcCoe
open Cert.OddOutReferenceIdeal Cert.OddOutReferenceIdeal.Gen Cert.OddOutReferenceIdeal.Read Cert.Out

variable (x0 : Tokens) (x1 : Mods) (x2 x3 x4 x5 : Branch) (x6 : Weights) (b : Fin 8)

theorem v14 (l : Fin 4352) (k : Fin 512) : val_main_v14 (F := Ideal) x2 x3 x4 (ix3 b l k) = recurrent x2 x3 x4 b l k := by
  unfold recurrent gelu
  have e : val_main_v14 (F := Ideal) x2 x3 x4 (ix3 b l k) = (x2 (ix3 b l k) + x3 (ix3 b l k)) * (x4 (ix3 b l k)
      * (Ideal.ofBits .f32 0x3F000000#32 * (1 + Ideal.tanh (Ideal.ofBits .f32 0x3F4C422A#32
        * (x4 (ix3 b l k) + Ideal.ofBits .f32 0x3D372713#32 * (x4 (ix3 b l k) * x4 (ix3 b l k) * x4 (ix3 b l k))))))) := by
    pointwise [val_main_v14, val_main_v13, val_main_v12, val_main_v11, val_main_v10, val_main_v9, val_main_v8, val_main_v7,
      val_main_v6, val_main_v5, val_main_v4, val_main_v3, val_main_v2, val_main_v1, val_main_v0, val_main_cst, val_main_cst_0,
      val_main_cst_1, val_main_cst_2]
  rw [e, ← mul_assoc (x4 _), mul_comm (x4 _)]

theorem v16 (l : Fin 4352) (k : Fin 1024) : val_main_v16 (F := Ideal) x2 x3 x4 x5 (ix3 b l k)
    = if h : k.val < 512 then recurrent x2 x3 x4 b l ⟨k.val, h⟩ else x5 (ix3 b l ⟨k.val - 512, by omega⟩) := by
  unfold val_main_v16
  have h0 := v14 x2 x3 x4 b l
  generalize val_main_v14 (F := Ideal) x2 x3 x4 = p at h0
  pointwise [val_main_v15]
  simp only [h0]

theorem left17 (l : Fin 4352) (d k : Fin 1024) : lidx_main_v17 (ix3 b l d) k = ix3 b l k := by
  funext a; fin_cases a <;> rfl

theorem right17 (l : Fin 4352) (d k : Fin 1024) : ridx_main_v17 (ix3 b l d) k = ix2 k d := by
  funext a; fin_cases a <;> rfl

theorem v17 (l : Fin 4352) (d : Fin 1024) : val_main_v17 (F := Ideal) x2 x3 x4 x5 x6 (ix3 b l d)
    = merge (recurrent x2 x3 x4 b l) (fun k => x5 (ix3 b l k)) x6 d := by
  rw [val_main_v17_apply]
  simp only [left17, right17]
  refine merge_eq (fun k => val_main_v16 (F := Ideal) x2 x3 x4 x5 (ix3 b l k)) x6 d _ _ (fun k => ?_) fun k => ?_
  · refine (v16 x2 x3 x4 x5 b l _).trans (dif_pos k.isLt)
  · refine (v16 x2 x3 x4 x5 b l _).trans ((dif_neg (show ¬512 + k.val < 512 by omega)).trans ?_)
    exact congrArg (fun k => x5 (ix3 b l k)) (Fin.ext (by show 512 + k.val - 512 = k.val; omega))

/-- Both streams. -/
theorem result (l : Fin 4352) (d : Fin 1024) : val_main_v34 (F := Ideal) x0 x1 x2 x3 x4 x5 x6 (ix3 b l d)
    = line x0 x1 x6 (recurrent x2 x3 x4 b l) (fun k => x5 (ix3 b l k)) b l d := by
  have h := v17 x2 x3 x4 x5 x6 b
  unfold val_main_v34 val_main_v27 val_main_v33 val_main_v26 val_main_v32 val_main_v23 val_main_v30
  generalize val_main_v17 (F := Ideal) x2 x3 x4 x5 x6 = y at h
  unfold line modOf
  rw [← h]
  pointwise [val_main_v31, val_main_v29, val_main_v28, val_main_v25, val_main_v24, val_main_v22, val_main_v21, val_main_v20,
    val_main_v19, val_main_v18]
  by_cases hl : l.val < 256
  · rw [dif_pos hl, if_pos hl]
  · rw [dif_neg hl, if_neg hl]
    have el : (⟨256 + (l.val - 256), by omega⟩ : Fin 4352) = l := Fin.ext (by show 256 + (l.val - 256) = l.val; omega)
    rw [el]

end Cert.OddOutReferenceIdeal.Tile
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastIdeal.Value
public import proofs.«01_k».proof.Proof.Gen.LastReferenceIdeal
public import proofs.«01_k».proof.Proof.Gen.LastReferenceIdeal.Run
public import proofs.«01_k».proof.Proof.Gen.LastReferenceIdeal.Read
public import proofs.«01_k».proof.Proof.Gen.EvenOut
public import proofs.«01_k».proof.Proof.Gen.EvenOut.Skeleton
public import proofs.«01_k».proof.Proof.Gen.EvenOut.Launch
public import proofs.«01_k».proof.Proof.Gen.EvenOut.Points
public import proofs.«01_k».proof.Proof.Gen.EvenOut.Frame
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.EvenOutIdeal.Value
public import proofs.«01_k».proof.Proof.Gen.EvenOutReferenceIdeal
public import proofs.«01_k».proof.Proof.Gen.EvenOutReferenceIdeal.Run
public import proofs.«01_k».proof.Proof.Gen.EvenOutReferenceIdeal.Read
public import proofs.«01_k».proof.Proof.Gen.OddOut
public import proofs.«01_k».proof.Proof.Gen.OddOut.Skeleton
public import proofs.«01_k».proof.Proof.Gen.OddOut.Launch
public import proofs.«01_k».proof.Proof.Gen.OddOut.Points
public import proofs.«01_k».proof.Proof.Gen.OddOut.Frame
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutIdeal.Value
public import proofs.«01_k».proof.Proof.Gen.OddOutReferenceIdeal
public import proofs.«01_k».proof.Proof.Gen.OddOutReferenceIdeal.Run
public import proofs.«01_k».proof.Proof.Gen.OddOutReferenceIdeal.Read
public import proofs.«01_k».proof.Proof.Gen.OddIn
public import proofs.«01_k».proof.Proof.Gen.OddIn.Skeleton
public import proofs.«01_k».proof.Proof.Gen.OddIn.Launch
public import proofs.«01_k».proof.Proof.Gen.OddIn.Points
public import proofs.«01_k».proof.Proof.Gen.OddIn.Frame
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame
public import proofs.«01_k».proof.Proof.Gen.OddInIdeal.Value
public import proofs.«01_k».proof.Proof.Gen.OddInReferenceIdeal
public import proofs.«01_k».proof.Proof.Gen.OddInReferenceIdeal.Run
public import proofs.«01_k».proof.Proof.Gen.OddInReferenceIdeal.Read
public import proofs.«01_k».proof.Proof.In.OddFinal
public import proofs.«01_k».proof.Proof.In.OddRef
public import proofs.«01_k».proof.Proof.Attn.Finite
public import proofs.«01_k».proof.Proof.Attn.Final
public import proofs.«01_k».proof.Proof.Attn.Ref
public import proofs.«01_k».proof.Proof.Ffn.Final
public import proofs.«01_k».proof.Proof.Ffn.Ref
public import proofs.«01_k».proof.Proof.Last.Final
public import proofs.«01_k».proof.Proof.Last.Ref
public import proofs.«01_k».proof.Proof.Out.EvenFinal
public import proofs.«01_k».proof.Proof.Out.EvenRef
public import proofs.«01_k».proof.Proof.Out.OddFinal
public import proofs.«01_k».proof.Proof.Out.OddRef
public import Idealize.ShloMosaic.Adequacy
public import Idealize.ShloMosaic.Init

@[expose] public section

noncomputable section

namespace Cert.Proof

open Idealize.ShloMosaic Idealize.SL.Sem

/-- The attention's reference runs, leaves its arguments and the semaphores as they were. -/
theorem reference_frame : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- … and the feed-forward's … -/
theorem ffn_reference_frame : Cert.quiescent_FfnReferenceIdeal := fun m ρ _ =>
  (θ_run (Cert.FfnReferenceIdeal.defs (F := Ideal)) _ _).mono
    (fun r h => ⟨fun c => (h c).2, Idealize.ShloMosaic.sem_eq_zero_of_no_sems (by decide) r.2⟩)
    (Cert.FfnReferenceIdeal.Value.run (F := Ideal) m ρ)

/-- … the last layer's … -/
theorem last_reference_frame : Cert.quiescent_LastReferenceIdeal := fun m ρ _ =>
  (θ_run (Cert.LastReferenceIdeal.defs (F := Ideal)) _ _).mono
    (fun r h => ⟨fun c => (h c).2, Idealize.ShloMosaic.sem_eq_zero_of_no_sems (by decide) r.2⟩)
    (Cert.LastReferenceIdeal.Value.run (F := Ideal) m ρ)

/-- … the even layers' output projection's … -/
theorem even_out_reference_frame : Cert.quiescent_EvenOutReferenceIdeal := fun m ρ _ =>
  (θ_run (Cert.EvenOutReferenceIdeal.defs (F := Ideal)) _ _).mono
    (fun r h => ⟨fun c => (h c).2, Idealize.ShloMosaic.sem_eq_zero_of_no_sems (by decide) r.2⟩)
    (Cert.EvenOutReferenceIdeal.Value.run (F := Ideal) m ρ)

/-- … and the odd layers'. -/
theorem odd_out_reference_frame : Cert.quiescent_OddOutReferenceIdeal := fun m ρ _ =>
  (θ_run (Cert.OddOutReferenceIdeal.defs (F := Ideal)) _ _).mono
    (fun r h => ⟨fun c => (h c).2, Idealize.ShloMosaic.sem_eq_zero_of_no_sems (by decide) r.2⟩)
    (Cert.OddOutReferenceIdeal.Value.run (F := Ideal) m ρ)

/-- … and of the odd layers' entry. -/
theorem odd_in_reference_frame : Cert.quiescent_OddInReferenceIdeal := fun m ρ _ =>
  (θ_run (Cert.OddInReferenceIdeal.defs (F := Ideal)) _ _).mono
    (fun r h => ⟨fun c => (h c).2.2.2.2.2, Idealize.ShloMosaic.sem_eq_zero_of_no_sems (by decide) r.2⟩)
    (Cert.OddInReferenceIdeal.Value.run (F := Ideal) m ρ)

/-- Kernel and reference compute the same attention over the extended reals. -/
theorem attention : Cert.algebraic_KernelIdeal_ReferenceIdeal_pre_finite := by
  intro m ρ m' ρ' hpre hagree
  refine ⟨_, Cert.KernelIdeal.Value.run_blocks (F := Ideal) m ρ, ?_⟩
  refine (θ_run (Cert.ReferenceIdeal.defs (F := Ideal)) _ _).mono (fun _ h c => ⟨(h c).1.trans ?_, (h c).2⟩)
    (Cert.ReferenceIdeal.Value.run (F := Ideal) m' ρ')
  obtain ⟨⟨V, hV⟩, ⟨l, hl⟩⟩ := Cert.Pre_finite.Real.reals _ _ _ _ _ (hpre c)
  obtain ⟨L, hL⟩ := Cert.Soft.lamV_real _ l hl
  obtain ⟨e0, e1, e2, e3, e4⟩ := hagree c
  refine (Cert.ReferenceIdeal.Read.val_main_v88_eq m' c).trans ?_
  rw [e0, e1, e2, e3, e4]
  refine Eq.trans ?_ (Cert.KernelIdeal.Attn.final m c V L hV hL).symm
  funext i
  exact Cert.ReferenceIdeal.Attn.result _ _ _ _ _ V L hV hL i

/-- Kernel and reference compute the same feed-forward of both streams. -/
theorem feed_forward : Cert.algebraic_FfnIdeal_FfnReferenceIdeal := by
  intro m ρ m' ρ' _ hagree
  refine ⟨_, Cert.FfnIdeal.Value.run_blocks (F := Ideal) m ρ, ?_⟩
  refine (θ_run (Cert.FfnReferenceIdeal.defs (F := Ideal)) _ _).mono (fun _ h c => ⟨(h c).1.trans ?_, (h c).2⟩)
    (Cert.FfnReferenceIdeal.Value.run (F := Ideal) m' ρ')
  obtain ⟨e0, e1, e2, e3, e4, e5⟩ := hagree c
  refine (Cert.FfnReferenceIdeal.Read.val_main_v116_eq m' c).trans ?_
  rw [e0, e1, e2, e3, e4, e5]
  refine Eq.trans ?_ (Cert.FfnIdeal.Tile.final m c).symm
  funext i
  obtain ⟨b, l, d, rfl⟩ : ∃ (b : Fin 8) (l : Fin 4352) (d : Fin 1024), i = ix3 b l d := ⟨_, _, _, eq_ix3 i⟩
  exact Cert.FfnReferenceIdeal.Tile.v116 _ _ _ _ _ _ b l d

/-- Kernel and reference compute the same latents of the last layer, after the final norm. -/
theorem last_layer : Cert.algebraic_LastIdeal_LastReferenceIdeal := by
  intro m ρ m' ρ' _ hagree
  refine ⟨_, Cert.LastIdeal.Value.run_blocks (F := Ideal) m ρ, ?_⟩
  refine (θ_run (Cert.LastReferenceIdeal.defs (F := Ideal)) _ _).mono (fun _ h c => ⟨(h c).1.trans ?_, (h c).2⟩)
    (Cert.LastReferenceIdeal.Value.run (F := Ideal) m' ρ')
  obtain ⟨e0, e1, e2, e3, e4, e5, e6⟩ := hagree c
  refine (Cert.LastReferenceIdeal.Read.val_main_v70_eq m' c).trans ?_
  rw [e0, e1, e2, e3, e4, e5, e6]
  refine Eq.trans ?_ (Cert.LastIdeal.Tile.final m c).symm
  funext i
  obtain ⟨b, s, d, rfl⟩ : ∃ (b : Fin 8) (s : Fin 4096) (d : Fin 1024), i = ix3 b s d := ⟨_, _, _, eq_ix3 i⟩
  exact Cert.LastReferenceIdeal.Tile.v70 _ _ _ _ _ _ _ b s d

/-- Kernel and reference compute the same output projection of an even layer. -/
theorem even_out : Cert.algebraic_EvenOutIdeal_EvenOutReferenceIdeal := by
  intro m ρ m' ρ' _ hagree
  refine ⟨_, Cert.EvenOutIdeal.Value.run_blocks (F := Ideal) m ρ, ?_⟩
  refine (θ_run (Cert.EvenOutReferenceIdeal.defs (F := Ideal)) _ _).mono (fun _ h c => ⟨(h c).1.trans ?_, (h c).2⟩)
    (Cert.EvenOutReferenceIdeal.Value.run (F := Ideal) m' ρ')
  obtain ⟨e0, e1, e2, e3, e4, e5, e6, e7⟩ := hagree c
  refine (Cert.EvenOutReferenceIdeal.Read.val_main_v41_eq m' c).trans ?_
  rw [e0, e1, e2, e3, e4, e5, e6, e7]
  refine Eq.trans ?_ (Cert.EvenOutIdeal.Tile.final m c).symm
  funext i
  obtain ⟨b, l, d, rfl⟩ : ∃ (b : Fin 8) (l : Fin 4352) (d : Fin 1024), i = ix3 b l d := ⟨_, _, _, eq_ix3 i⟩
  exact Cert.EvenOutReferenceIdeal.Tile.result _ _ _ _ _ _ _ _ b l d

/-- Kernel and reference compute the same output projection of an odd layer. -/
theorem odd_out : Cert.algebraic_OddOutIdeal_OddOutReferenceIdeal := by
  intro m ρ m' ρ' _ hagree
  refine ⟨_, Cert.OddOutIdeal.Value.run_blocks (F := Ideal) m ρ, ?_⟩
  refine (θ_run (Cert.OddOutReferenceIdeal.defs (F := Ideal)) _ _).mono (fun _ h c => ⟨(h c).1.trans ?_, (h c).2⟩)
    (Cert.OddOutReferenceIdeal.Value.run (F := Ideal) m' ρ')
  obtain ⟨e0, e1, e2, e3, e4, e5, e6⟩ := hagree c
  refine (Cert.OddOutReferenceIdeal.Read.val_main_v34_eq _ _ _ _ _ _ _).trans ?_
  rw [e0, e1, e2, e3, e4, e5, e6]
  refine Eq.trans ?_ (Cert.OddOutIdeal.Tile.final m c).symm
  funext i
  obtain ⟨b, l, d, rfl⟩ : ∃ (b : Fin 8) (l : Fin 4352) (d : Fin 1024), i = ix3 b l d := ⟨_, _, _, eq_ix3 i⟩
  exact Cert.OddOutReferenceIdeal.Tile.result _ _ _ _ _ _ _ b l d

set_option maxHeartbeats 2000000 in
/-- Kernel and reference compute the same five inputs of an odd layer's mixers. -/
theorem odd_in : Cert.algebraic_OddInIdeal_OddInReferenceIdeal := by
  intro m ρ m' ρ' _ hagree
  refine ⟨_, _, _, _, _, Cert.OddInIdeal.Value.run_blocks (F := Ideal) m ρ, ?_⟩
  refine (θ_run (Cert.OddInReferenceIdeal.defs (F := Ideal)) _ _).mono (fun _ h c => ?_)
    (Cert.OddInReferenceIdeal.Value.run (F := Ideal) m' ρ')
  obtain ⟨e0, e1, e2, e3, e4, e5, e6, e7⟩ := hagree c
  obtain ⟨h0, h1, h2, h3, h4, h5⟩ := h c
  refine ⟨h0.trans ?_, h1.trans ?_, h2.trans ?_, h3.trans ?_, h4.trans ?_, h5⟩
  · refine (Cert.OddInReferenceIdeal.Read.val_main_v138_eq _ _ _ _).trans ?_
    rw [e0, e1, e2, e7]
    refine Eq.trans ?_ (Cert.OddInIdeal.Tile.final9 m c).symm
    funext i
    obtain ⟨b, l, k, rfl⟩ : ∃ (b : Fin 8) (l : Fin 4352) (k : Fin 512), i = ix3 b l k := ⟨_, _, _, eq_ix3 i⟩
    exact Cert.OddInReferenceIdeal.Tile.recurrent _ _ _ _ b l k
  · refine (Cert.OddInReferenceIdeal.Read.val_main_v139_eq _ _ _ _).trans ?_
    rw [e0, e1, e2, e7]
    refine Eq.trans ?_ (Cert.OddInIdeal.Tile.final10 m c).symm
    funext i
    obtain ⟨b, l, k, rfl⟩ : ∃ (b : Fin 8) (l : Fin 4352) (k : Fin 512), i = ix3 b l k := ⟨_, _, _, eq_ix3 i⟩
    exact Cert.OddInReferenceIdeal.Tile.gate _ _ _ _ b l k
  · refine (Cert.OddInReferenceIdeal.Read.val_main_v141_eq m' c).trans ?_
    rw [e0, e1, e2, e3, e4, e5, e6, e7]
    refine Eq.trans ?_ (Cert.OddInIdeal.Tile.final11 m c).symm
    funext i
    obtain ⟨b, l, k, rfl⟩ : ∃ (b : Fin 8) (l : Fin 4352) (k : Fin 512), i = ix3 b l k := ⟨_, _, _, eq_ix3 i⟩
    exact Cert.OddInReferenceIdeal.Tile.queries _ _ _ _ _ _ _ _ b l k
  · refine (Cert.OddInReferenceIdeal.Read.val_main_v143_eq m' c).trans ?_
    rw [e0, e1, e2, e3, e4, e5, e6, e7]
    refine Eq.trans ?_ (Cert.OddInIdeal.Tile.final12 m c).symm
    funext i
    obtain ⟨b, l, k, rfl⟩ : ∃ (b : Fin 8) (l : Fin 4352) (k : Fin 256), i = ix3 b l k := ⟨_, _, _, eq_ix3 i⟩
    exact Cert.OddInReferenceIdeal.Tile.keys _ _ _ _ _ _ _ _ b l k
  · refine (Cert.OddInReferenceIdeal.Read.val_main_v145_eq m' c).trans ?_
    rw [e0, e1, e2, e7]
    refine Eq.trans ?_ (Cert.OddInIdeal.Tile.final13 m c).symm
    funext i
    obtain ⟨b, l, k, rfl⟩ : ∃ (b : Fin 8) (l : Fin 4352) (k : Fin 256), i = ix3 b l k := ⟨_, _, _, eq_ix3 i⟩
    exact Cert.OddInReferenceIdeal.Tile.values _ _ _ _ b l k

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Last.Gen.facts, Cert.LastIdeal.Gen.facts, Cert.LastReferenceIdeal.Gen.facts,
  Cert.EvenOut.Gen.facts, Cert.EvenOutIdeal.Gen.facts, Cert.EvenOutReferenceIdeal.Gen.facts,
  Cert.OddOut.Gen.facts, Cert.OddOutIdeal.Gen.facts, Cert.OddOutReferenceIdeal.Gen.facts,
  Cert.OddIn.Gen.facts, Cert.OddInIdeal.Gen.facts, Cert.OddInReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Ffn.Gen.frame m ρ,
  fun m ρ _ => Cert.FfnIdeal.Gen.frame m ρ,
  ffn_reference_frame,
  fun m ρ _ => Cert.Last.Gen.frame m ρ,
  fun m ρ _ => Cert.LastIdeal.Gen.frame m ρ,
  last_reference_frame,
  fun m ρ _ => Cert.EvenOut.Gen.frame m ρ,
  fun m ρ _ => Cert.EvenOutIdeal.Gen.frame m ρ,
  even_out_reference_frame,
  fun m ρ _ => Cert.OddOut.Gen.frame m ρ,
  fun m ρ _ => Cert.OddOutIdeal.Gen.frame m ρ,
  odd_out_reference_frame,
  fun m ρ _ => Cert.OddIn.Gen.frame m ρ,
  fun m ρ _ => Cert.OddInIdeal.Gen.frame m ρ,
  odd_in_reference_frame,
  IdealRules.named_const.statement Cert.KernelIdeal.κ "mask" .f32 0xF149F2CA#32 ⊥ rfl,
  attention,
  trivial,
  feed_forward,
  trivial,
  last_layer,
  trivial,
  even_out,
  trivial,
  odd_out,
  trivial,
  odd_in⟩

end Cert.Proof

end
